-- ==== Defs.lean ====
def Pre_Kernel [hPre_ranks : Cert.Pre_ranks.Facts] (m : (ℓ : Loc Cert.Kernel.nD Cert.Kernel.τ Cert.Kernel.sig) → Buf (Elt Bits) ℓ) : Prop :=
  ∀ c : Dev Cert.Kernel.nD,
    (Cert.Pre_ranks.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ranks : Cert.Pre_ranks.Facts] (m : (ℓ : Loc Cert.KernelIdeal.nD Cert.KernelIdeal.τ Cert.KernelIdeal.sig) → Buf (Elt Ideal) ℓ) : Prop :=
  ∀ c : Dev Cert.KernelIdeal.nD,
    (Cert.Pre_ranks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranks [hPre_ranks : Cert.Pre_ranks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0))) = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_finite [hPre_finite : Cert.Pre_finite.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_finite.fn (F := Ideal) (m ((c.tc : Thread Cert.AttentionReferenceIdeal.nD Cert.AttentionReferenceIdeal.τ).loc Cert.AttentionReferenceIdeal.main_arg0))) = (fun _ => 1#1)

def Pre_Hashing (m : (ℓ : Loc Cert.Hashing.nD Cert.Hashing.τ Cert.Hashing.sig) → Buf (Elt Bits) ℓ) : Prop :=
  True

def Pre_HashingIdeal (m : (ℓ : Loc Cert.HashingIdeal.nD Cert.HashingIdeal.τ Cert.HashingIdeal.sig) → Buf (Elt Ideal) ℓ) : Prop :=
  True

def Pre_HashingReferenceIdeal (m : (ℓ : Loc Cert.HashingReferenceIdeal.nD Cert.HashingReferenceIdeal.τ Cert.HashingReferenceIdeal.sig) → Buf (Elt Ideal) ℓ) : Prop :=
  True

def quiescent_Kernel [hKernel : Cert.Kernel.Facts] [hPre_ranks : Cert.Pre_ranks.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ranks : Cert.Pre_ranks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ranks [hReferenceIdeal : Cert.ReferenceIdeal.Facts] [hPre_ranks : Cert.Pre_ranks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0))
      ∧ r.2.sem = fun _ => 0)

def quiescent_AttentionReferenceIdeal_pre_finite [hAttentionReferenceIdeal : Cert.AttentionReferenceIdeal.Facts] [hPre_finite : Cert.Pre_finite.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_finite m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0))
      ∧ r.2.sem = fun _ => 0)

def quiescent_Hashing [hHashing : Cert.Hashing.Facts] : Prop :=
  ∀ (m : (ℓ : Loc Cert.Hashing.nD Cert.Hashing.τ Cert.Hashing.sig) → Buf (Elt Bits) ℓ) (g : Dev Cert.Hashing.nD → PrngReg), Pre_Hashing m →
    θ_run (Cert.Hashing.defs (F := Bits)) (onTc (τ := Cert.Hashing.τ) (Cert.Hashing.main (F := Bits))) ⟨m, fun _ => 0, g⟩ (fun r => (∀ c : Dev Cert.Hashing.nD,
      r.2.mem ((c.tc : Thread Cert.Hashing.nD Cert.Hashing.τ).loc Cert.Hashing.main_arg0) = m ((c.tc : Thread Cert.Hashing.nD Cert.Hashing.τ).loc Cert.Hashing.main_arg0)
      ∧ r.2.mem ((c.tc : Thread Cert.Hashing.nD Cert.Hashing.τ).loc Cert.Hashing.main_arg1) = m ((c.tc : Thread Cert.Hashing.nD Cert.Hashing.τ).loc Cert.Hashing.main_arg1)
      ∧ r.2.mem ((c.tc : Thread Cert.Hashing.nD Cert.Hashing.τ).loc Cert.Hashing.main_arg2) = m ((c.tc : Thread Cert.Hashing.nD Cert.Hashing.τ).loc Cert.Hashing.main_arg2)
      ∧ r.2.mem ((c.tc : Thread Cert.Hashing.nD Cert.Hashing.τ).loc Cert.Hashing.main_arg3) = m ((c.tc : Thread Cert.Hashing.nD Cert.Hashing.τ).loc Cert.Hashing.main_arg3))
      ∧ r.2.sem = fun _ => 0)

def quiescent_HashingIdeal [hHashingIdeal : Cert.HashingIdeal.Facts] : Prop :=
  ∀ (m : (ℓ : Loc Cert.HashingIdeal.nD Cert.HashingIdeal.τ Cert.HashingIdeal.sig) → Buf (Elt Ideal) ℓ) (g : Dev Cert.HashingIdeal.nD → PrngReg), Pre_HashingIdeal m →
    θ_run (Cert.HashingIdeal.defs (F := Ideal)) (onTc (τ := Cert.HashingIdeal.τ) (Cert.HashingIdeal.main (F := Ideal))) ⟨m, fun _ => 0, g⟩ (fun r => (∀ c : Dev Cert.HashingIdeal.nD,
      r.2.mem ((c.tc : Thread Cert.HashingIdeal.nD Cert.HashingIdeal.τ).loc Cert.HashingIdeal.main_arg0) = m ((c.tc : Thread Cert.HashingIdeal.nD Cert.HashingIdeal.τ).loc Cert.HashingIdeal.main_arg0)
      ∧ r.2.mem ((c.tc : Thread Cert.HashingIdeal.nD Cert.HashingIdeal.τ).loc Cert.HashingIdeal.main_arg1) = m ((c.tc : Thread Cert.HashingIdeal.nD Cert.HashingIdeal.τ).loc Cert.HashingIdeal.main_arg1)
      ∧ r.2.mem ((c.tc : Thread Cert.HashingIdeal.nD Cert.HashingIdeal.τ).loc Cert.HashingIdeal.main_arg2) = m ((c.tc : Thread Cert.HashingIdeal.nD Cert.HashingIdeal.τ).loc Cert.HashingIdeal.main_arg2)
      ∧ r.2.mem ((c.tc : Thread Cert.HashingIdeal.nD Cert.HashingIdeal.τ).loc Cert.HashingIdeal.main_arg3) = m ((c.tc : Thread Cert.HashingIdeal.nD Cert.HashingIdeal.τ).loc Cert.HashingIdeal.main_arg3))
      ∧ r.2.sem = fun _ => 0)

def quiescent_HashingReferenceIdeal [hHashingReferenceIdeal : Cert.HashingReferenceIdeal.Facts] : Prop :=
  ∀ (m : (ℓ : Loc Cert.HashingReferenceIdeal.nD Cert.HashingReferenceIdeal.τ Cert.HashingReferenceIdeal.sig) → Buf (Elt Ideal) ℓ) (g : Dev Cert.HashingReferenceIdeal.nD → PrngReg), Pre_HashingReferenceIdeal m →
    θ_run (Cert.HashingReferenceIdeal.defs (F := Ideal)) (onTc (τ := Cert.HashingReferenceIdeal.τ) (Cert.HashingReferenceIdeal.main (F := Ideal))) ⟨m, fun _ => 0, g⟩ (fun r => (∀ c : Dev Cert.HashingReferenceIdeal.nD,
      r.2.mem ((c.tc : Thread Cert.HashingReferenceIdeal.nD Cert.HashingReferenceIdeal.τ).loc Cert.HashingReferenceIdeal.main_arg0) = m ((c.tc : Thread Cert.HashingReferenceIdeal.nD Cert.HashingReferenceIdeal.τ).loc Cert.HashingReferenceIdeal.main_arg0)
      ∧ r.2.mem ((c.tc : Thread Cert.HashingReferenceIdeal.nD Cert.HashingReferenceIdeal.τ).loc Cert.HashingReferenceIdeal.main_arg1) = m ((c.tc : Thread Cert.HashingReferenceIdeal.nD Cert.HashingReferenceIdeal.τ).loc Cert.HashingReferenceIdeal.main_arg1)
      ∧ r.2.mem ((c.tc : Thread Cert.HashingReferenceIdeal.nD Cert.HashingReferenceIdeal.τ).loc Cert.HashingReferenceIdeal.main_arg2) = m ((c.tc : Thread Cert.HashingReferenceIdeal.nD Cert.HashingReferenceIdeal.τ).loc Cert.HashingReferenceIdeal.main_arg2)
      ∧ r.2.mem ((c.tc : Thread Cert.HashingReferenceIdeal.nD Cert.HashingReferenceIdeal.τ).loc Cert.HashingReferenceIdeal.main_arg3) = m ((c.tc : Thread Cert.HashingReferenceIdeal.nD Cert.HashingReferenceIdeal.τ).loc Cert.HashingReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ranks : Cert.Pre_ranks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v23)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v23) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v31) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def preserves_Attention_AttentionIdeal : Prop :=
  IdealRules.named_const.Statement Cert.AttentionIdeal.κ "mask" .f32 0xC7C35000#32 ⊥

def algebraic_AttentionIdeal_AttentionReferenceIdeal_pre_finite [hAttentionIdeal : Cert.AttentionIdeal.Facts] [hAttentionReferenceIdeal : Cert.AttentionReferenceIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_finite m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)) →
    ∃ (v0 : (c : Dev Cert.AttentionIdeal.nD) → Buf (Elt Ideal) ((c.tc : Thread Cert.AttentionIdeal.nD Cert.AttentionIdeal.τ).loc Cert.AttentionIdeal.main_v1)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v1) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v40) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0))

def preserves_Hashing_HashingIdeal : Prop :=
  True

def algebraic_HashingIdeal_HashingReferenceIdeal [hHashingIdeal : Cert.HashingIdeal.Facts] [hHashingReferenceIdeal : Cert.HashingReferenceIdeal.Facts] : Prop :=
  ∀ (m : (ℓ : Loc Cert.HashingIdeal.nD Cert.HashingIdeal.τ Cert.HashingIdeal.sig) → Buf (Elt Ideal) ℓ) (g : Dev Cert.HashingIdeal.nD → PrngReg)
    (m' : (ℓ : Loc Cert.HashingReferenceIdeal.nD Cert.HashingReferenceIdeal.τ Cert.HashingReferenceIdeal.sig) → Buf (Elt Ideal) ℓ) (g' : Dev Cert.HashingReferenceIdeal.nD → PrngReg), Pre_HashingIdeal m →
    (∀ c : Dev Cert.HashingIdeal.nD,
      m' ((c.tc : Thread Cert.HashingReferenceIdeal.nD Cert.HashingReferenceIdeal.τ).loc Cert.HashingReferenceIdeal.main_arg0) = m ((c.tc : Thread Cert.HashingIdeal.nD Cert.HashingIdeal.τ).loc Cert.HashingIdeal.main_arg0)
      ∧ m' ((c.tc : Thread Cert.HashingReferenceIdeal.nD Cert.HashingReferenceIdeal.τ).loc Cert.HashingReferenceIdeal.main_arg1) = m ((c.tc : Thread Cert.HashingIdeal.nD Cert.HashingIdeal.τ).loc Cert.HashingIdeal.main_arg1)
      ∧ m' ((c.tc : Thread Cert.HashingReferenceIdeal.nD Cert.HashingReferenceIdeal.τ).loc Cert.HashingReferenceIdeal.main_arg2) = m ((c.tc : Thread Cert.HashingIdeal.nD Cert.HashingIdeal.τ).loc Cert.HashingIdeal.main_arg2)
      ∧ m' ((c.tc : Thread Cert.HashingReferenceIdeal.nD Cert.HashingReferenceIdeal.τ).loc Cert.HashingReferenceIdeal.main_arg3) = m ((c.tc : Thread Cert.HashingIdeal.nD Cert.HashingIdeal.τ).loc Cert.HashingIdeal.main_arg3)) →
    ∃ (v0 : (c : Dev Cert.HashingIdeal.nD) → Buf (Elt Ideal) ((c.tc : Thread Cert.HashingIdeal.nD Cert.HashingIdeal.τ).loc Cert.HashingIdeal.main_v16)) (v1 : (c : Dev Cert.HashingIdeal.nD) → Buf (Elt Ideal) ((c.tc : Thread Cert.HashingIdeal.nD Cert.HashingIdeal.τ).loc Cert.HashingIdeal.main_v19)),
      θ_run (Cert.HashingIdeal.defs (F := Ideal)) (onTc (τ := Cert.HashingIdeal.τ) (Cert.HashingIdeal.main (F := Ideal))) ⟨m, fun _ => 0, g⟩ (fun r => ∀ c : Dev Cert.HashingIdeal.nD,
          r.2.mem ((c.tc : Thread Cert.HashingIdeal.nD Cert.HashingIdeal.τ).loc Cert.HashingIdeal.main_v16) = v0 c
          ∧ r.2.mem ((c.tc : Thread Cert.HashingIdeal.nD Cert.HashingIdeal.τ).loc Cert.HashingIdeal.main_v19) = v1 c
          ∧ r.2.mem ((c.tc : Thread Cert.HashingIdeal.nD Cert.HashingIdeal.τ).loc Cert.HashingIdeal.main_arg0) = m ((c.tc : Thread Cert.HashingIdeal.nD Cert.HashingIdeal.τ).loc Cert.HashingIdeal.main_arg0)
          ∧ r.2.mem ((c.tc : Thread Cert.HashingIdeal.nD Cert.HashingIdeal.τ).loc Cert.HashingIdeal.main_arg1) = m ((c.tc : Thread Cert.HashingIdeal.nD Cert.HashingIdeal.τ).loc Cert.HashingIdeal.main_arg1)
          ∧ r.2.mem ((c.tc : Thread Cert.HashingIdeal.nD Cert.HashingIdeal.τ).loc Cert.HashingIdeal.main_arg2) = m ((c.tc : Thread Cert.HashingIdeal.nD Cert.HashingIdeal.τ).loc Cert.HashingIdeal.main_arg2)
          ∧ r.2.mem ((c.tc : Thread Cert.HashingIdeal.nD Cert.HashingIdeal.τ).loc Cert.HashingIdeal.main_arg3) = m ((c.tc : Thread Cert.HashingIdeal.nD Cert.HashingIdeal.τ).loc Cert.HashingIdeal.main_arg3))
      ∧ θ_run (Cert.HashingReferenceIdeal.defs (F := Ideal)) (onTc (τ := Cert.HashingReferenceIdeal.τ) (Cert.HashingReferenceIdeal.main (F := Ideal))) ⟨m', fun _ => 0, g'⟩ (fun r => ∀ c : Dev Cert.HashingReferenceIdeal.nD,
          r.2.mem ((c.tc : Thread Cert.HashingReferenceIdeal.nD Cert.HashingReferenceIdeal.τ).loc Cert.HashingReferenceIdeal.main_v32) = v0 c
          ∧ r.2.mem ((c.tc : Thread Cert.HashingReferenceIdeal.nD Cert.HashingReferenceIdeal.τ).loc Cert.HashingReferenceIdeal.main_v33) = v1 c
          ∧ r.2.mem ((c.tc : Thread Cert.HashingReferenceIdeal.nD Cert.HashingReferenceIdeal.τ).loc Cert.HashingReferenceIdeal.main_arg0) = m' ((c.tc : Thread Cert.HashingReferenceIdeal.nD Cert.HashingReferenceIdeal.τ).loc Cert.HashingReferenceIdeal.main_arg0)
          ∧ r.2.mem ((c.tc : Thread Cert.HashingReferenceIdeal.nD Cert.HashingReferenceIdeal.τ).loc Cert.HashingReferenceIdeal.main_arg1) = m' ((c.tc : Thread Cert.HashingReferenceIdeal.nD Cert.HashingReferenceIdeal.τ).loc Cert.HashingReferenceIdeal.main_arg1)
          ∧ r.2.mem ((c.tc : Thread Cert.HashingReferenceIdeal.nD Cert.HashingReferenceIdeal.τ).loc Cert.HashingReferenceIdeal.main_arg2) = m' ((c.tc : Thread Cert.HashingReferenceIdeal.nD Cert.HashingReferenceIdeal.τ).loc Cert.HashingReferenceIdeal.main_arg2)
          ∧ r.2.mem ((c.tc : Thread Cert.HashingReferenceIdeal.nD Cert.HashingReferenceIdeal.τ).loc Cert.HashingReferenceIdeal.main_arg3) = m' ((c.tc : Thread Cert.HashingReferenceIdeal.nD Cert.HashingReferenceIdeal.τ).loc Cert.HashingReferenceIdeal.main_arg3))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hAttention : Cert.Attention.Facts) (hAttentionIdeal : Cert.AttentionIdeal.Facts) (hAttentionReferenceIdeal : Cert.AttentionReferenceIdeal.Facts) (hHashing : Cert.Hashing.Facts) (hHashingIdeal : Cert.HashingIdeal.Facts) (hHashingReferenceIdeal : Cert.HashingReferenceIdeal.Facts) (hPre_ranks : Cert.Pre_ranks.Facts) (hPre_finite : Cert.Pre_finite.Facts),
    quiescent_Kernel (hKernel := hKernel) (hPre_ranks := hPre_ranks)
    ∧ quiescent_KernelIdeal (hKernelIdeal := hKernelIdeal) (hPre_ranks := hPre_ranks)
    ∧ quiescent_ReferenceIdeal (hReferenceIdeal := hReferenceIdeal)
    ∧ quiescent_ReferenceIdeal_pre_ranks (hReferenceIdeal := hReferenceIdeal) (hPre_ranks := hPre_ranks)
    ∧ quiescent_Combine (hCombine := hCombine)
    ∧ quiescent_CombineIdeal (hCombineIdeal := hCombineIdeal)
    ∧ quiescent_CombineReferenceIdeal (hCombineReferenceIdeal := hCombineReferenceIdeal)
    ∧ quiescent_Attention (hAttention := hAttention)
    ∧ quiescent_AttentionIdeal (hAttentionIdeal := hAttentionIdeal)
    ∧ quiescent_AttentionIdeal_pre_finite (hAttentionIdeal := hAttentionIdeal) (hPre_finite := hPre_finite)
    ∧ quiescent_AttentionReferenceIdeal (hAttentionReferenceIdeal := hAttentionReferenceIdeal)
    ∧ quiescent_AttentionReferenceIdeal_pre_finite (hAttentionReferenceIdeal := hAttentionReferenceIdeal) (hPre_finite := hPre_finite)
    ∧ quiescent_Hashing (hHashing := hHashing)
    ∧ quiescent_HashingIdeal (hHashingIdeal := hHashingIdeal)
    ∧ quiescent_HashingReferenceIdeal (hHashingReferenceIdeal := hHashingReferenceIdeal)
    ∧ preserves_Kernel_KernelIdeal
    ∧ algebraic_KernelIdeal_ReferenceIdeal (hKernelIdeal := hKernelIdeal) (hReferenceIdeal := hReferenceIdeal) (hPre_ranks := hPre_ranks)
    ∧ preserves_Combine_CombineIdeal
    ∧ algebraic_CombineIdeal_CombineReferenceIdeal (hCombineIdeal := hCombineIdeal) (hCombineReferenceIdeal := hCombineReferenceIdeal)
    ∧ preserves_Attention_AttentionIdeal
    ∧ algebraic_AttentionIdeal_AttentionReferenceIdeal_pre_finite (hAttentionIdeal := hAttentionIdeal) (hAttentionReferenceIdeal := hAttentionReferenceIdeal) (hPre_finite := hPre_finite)
    ∧ preserves_Hashing_HashingIdeal
    ∧ algebraic_HashingIdeal_HashingReferenceIdeal (hHashingIdeal := hHashingIdeal) (hHashingReferenceIdeal := hHashingReferenceIdeal)
-- ==== Pre_finite.lean ====
abbrev S1048576x128 : Shape := ⟨2, ![1048576, 128]⟩
abbrev S1048576x64 : Shape := ⟨2, ![1048576, 64]⟩
abbrev S_ : Shape := ⟨0, ![]⟩

class Facts : Prop where
  slices_S1048576x128_S1048576x64_0_0 : S1048576x128.Slices ![0, 0] S1048576x64
  bcast_S_S1048576x64 : S_.BroadcastsInDim S1048576x64 (![] : Fin 0 → Fin S1048576x64.rank)
  reducesTo_S1048576x64_S_d0_1 : S1048576x64.ReducesTo [0, 1] S_
  h_S_ : 0 < S_.numel

variable [Facts]

def fn {F : FTy → Type} [FloatOps F] (main_arg0 : FVec F S1048576x128 .f32) : IVec S_ 1 :=
  let main_v0 : FVec F S1048576x64 .f32 := (extractStridedSlice S1048576x64 ![0, 0] · slices_S1048576x128_S1048576x64_0_0) main_arg0
  let main_v1 : FVec F S1048576x64 .f32 := Host.absf main_v0
  let main_cst : FVec F S_ .f32 := constant S_ .f32 0x7F800000#32
  let main_v2 : FVec F S1048576x64 .f32 := broadcastInDim S1048576x64 ![] bcast_S_S1048576x64 main_cst
  let main_v3 : IVec S1048576x64 1 := cmpf .olt main_v1 main_v2
  let main_c : IVec S_ 1 := constantI S_ 1 1#1
  let main_v4 : IVec S_ 1 := (fun x v => Host.reduce IntOp.andi x v reducesTo_S1048576x64_S_d0_1 h_S_) main_v3 main_c
  main_v4
-- ==== Pre_ranks.lean ====
abbrev S262144x128 : Shape := ⟨2, ![262144, 128]⟩
abbrev S256x32x128 : Shape := ⟨3, ![256, 32, 128]⟩
abbrev S1048576x128 : Shape := ⟨2, ![1048576, 128]⟩
abbrev S256x4096 : Shape := ⟨2, ![256, 4096]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩

class Facts : Prop where
  shapeCasts_S256x32x128_S256x4096 : S256x32x128.ShapeCasts S256x4096
  bcast_S_S256 : S_.BroadcastsInDim S256 (![] : Fin 0 → Fin S256.rank)
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  bcast_S4096_S1x4096_1 : S4096.BroadcastsInDim S1x4096 (![1] : Fin 1 → Fin S1x4096.rank)
  bcast_S1x4096_S256x4096_0_1 : S1x4096.BroadcastsInDim S256x4096 (![0, 1] : Fin 2 → Fin S256x4096.rank)
  reducesTo_S256x4096_S_d0_1 : S256x4096.ReducesTo [0, 1] S_
  h_S_ : 0 < S_.numel

variable [Facts]

def comparator_i32_d1 : BitVec 32 → BitVec 32 → BitVec 1 :=
  fun l r =>
    let v1 := IntOp.cmpi .slt l r
    v1
def fn_sort {F : FTy → Type} [FloatOps F] (arg0 : IVec S256x4096 32) : IVec S256x4096 32 :=
  let v0 : IVec S256x4096 32 := (fun x => Host.sort S256x4096 1 comparator_i32_d1 x) arg0
  v0

def fn {F : FTy → Type} [FloatOps F] (main_arg0 : FVec F S262144x128 .f32) (main_arg1 : IVec S256x32x128 32) (main_arg2 : FVec F S1048576x128 .f32) : IVec S_ 1 :=
  let main_v0 : IVec S256x4096 32 := shapeCast S256x4096 main_arg1 shapeCasts_S256x32x128_S256x4096
  let main_v1 : IVec S256 32 := iotaInDim S256 32 0
  let main_c : IVec S_ 32 := constantI S_ 32 4096#32
  let main_v2 : IVec S256 32 := broadcastInDim S256 ![] bcast_S_S256 main_c
  let main_v3 : IVec S256 32 := muli main_v1 main_v2
  let main_v4 : IVec S256x1 32 := broadcastInDim S256x1 ![0] bcast_S256_S256x1_0 main_v3
  let main_v5 : IVec S256x4096 32 := broadcastInDim S256x4096 ![0, 1] bcast_S256x1_S256x4096_0_1 main_v4
  let main_v6 : IVec S256x4096 32 := subi main_v0 main_v5
  let main_v7 : IVec S256x4096 32 := fn_sort (F := F) main_v6
  let main_v8 : IVec S4096 32 := iotaInDim S4096 32 0
  let main_v9 : IVec S1x4096 32 := broadcastInDim S1x4096 ![1] bcast_S4096_S1x4096_1 main_v8
  let main_v10 : IVec S256x4096 32 := broadcastInDim S256x4096 ![0, 1] bcast_S1x4096_S256x4096_0_1 main_v9
  let main_v11 : IVec S256x4096 1 := cmpi .eq main_v7 main_v10
  let main_c_0 : IVec S_ 1 := constantI S_ 1 1#1
  let main_v12 : IVec S_ 1 := (fun x v => Host.reduce IntOp.andi x v reducesTo_S256x4096_S_d0_1 h_S_) main_v11 main_c_0
  main_v12
-- ==== Kernel.lean ====
abbrev S262144x128 : Shape := ⟨2, ![262144, 128]⟩
abbrev S256x32x128 : Shape := ⟨3, ![256, 32, 128]⟩
abbrev S1048576x128 : Shape := ⟨2, ![1048576, 128]⟩
abbrev S4x128 : Shape := ⟨2, ![4, 128]⟩
abbrev S512x128 : Shape := ⟨2, ![512, 128]⟩
abbrev S_ : Shape := ⟨0, ![]⟩
abbrev S1x4x128 : Shape := ⟨3, ![1, 4, 128]⟩
abbrev S128x128 : Shape := ⟨2, ![128, 128]⟩
abbrev S1x128 : Shape := ⟨2, ![1, 128]⟩
abbrev S128 : Shape := ⟨1, ![128]⟩

abbrev nBuf : Table → Nat
  | .hbm => 5
  | .local .scVector .vmem => 4
  | _ => 0

abbrev bufTy : (tb : Table) → Fin (nBuf tb) → BufTy
  | .hbm, ⟨0, _⟩ => ⟨S262144x128, .f32⟩
  | .hbm, ⟨1, _⟩ => ⟨S256x32x128, .i32⟩
  | .hbm, ⟨2, _⟩ => ⟨S1048576x128, .f32⟩
  | .hbm, ⟨3, _⟩ => ⟨S1048576x128, .f32⟩
  | .hbm, ⟨4, _⟩ => ⟨S1048576x128, .f32⟩
  | .local .scVector .vmem, ⟨0, _⟩ => ⟨S4x128, .i32⟩
  | .local .scVector .vmem, ⟨1, _⟩ => ⟨S512x128, .f32⟩
  | .local .scVector .vmem, ⟨2, _⟩ => ⟨S4x128, .i32⟩
  | .local .scVector .vmem, ⟨3, _⟩ => ⟨S512x128, .f32⟩
  | _, _ => ⟨S262144x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v2 : BitVec 32 := Scalar.addi c0_i32_0 c8_i32
  let c1_i32 : BitVec 32 := 1#32
  ⟨c0_i32_0, v2, c1_i32⟩
@[reducible] def k0_t2_loop : Scf.Loop 32 :=
  let c0_i32_3 : BitVec 32 := 0#32
  let c8_i32_4 : BitVec 32 := 8#32
  let v6 : BitVec 32 := Scalar.addi c0_i32_3 c8_i32_4
  let c1_i32_5 : BitVec 32 := 1#32
  ⟨c0_i32_3, v6, c1_i32_5⟩
def k0_off1 (i : grid0.Coords) (k0_t1 : Fin k0_t1_loop.trips) (k0_t2 : Fin k0_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v3 : BitVec 32 := Scalar.muli v1 c8_i32_2
  let c0_i32_0 : BitVec 32 := 0#32
  let c1_i32 : BitVec 32 := 1#32
  let arg8 : BitVec 32 := Scf.iv c0_i32_0 c1_i32 k0_t1
  let v4 : BitVec 32 := Scalar.addi v3 arg8
  let c0_i32_3 : BitVec 32 := 0#32
  let c1_i32_5 : BitVec 32 := 1#32
  let arg9 : BitVec 32 := Scf.iv c0_i32_3 c1_i32_5 k0_t2
  let c4_i32 : BitVec 32 := 4#32
  let v7 : BitVec 32 := Scalar.muli arg9 c4_i32
  let c0_i32_51_r0 : BitVec 32 := 0#32
  ![v4.toNat, v7.toNat, 0]
def k0_off2 (i : grid0.Coords) (k0_t1 : Fin k0_t1_loop.trips) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v3 : BitVec 32 := Scalar.muli v1 c8_i32_2
  let c0_i32_0 : BitVec 32 := 0#32
  let c1_i32 : BitVec 32 := 1#32
  let arg8 : BitVec 32 := Scf.iv c0_i32_0 c1_i32 k0_t1
  let v4 : BitVec 32 := Scalar.addi v3 arg8
  let c64_i32 : BitVec 32 := 64#32
  let v5 : BitVec 32 := Scalar.remsi v4 c64_i32
  let c4096_i32 : BitVec 32 := 4096#32
  let v8 : BitVec 32 := Scalar.muli v5 c4096_i32
  let c0_i32_3 : BitVec 32 := 0#32
  let c1_i32_5 : BitVec 32 := 1#32
  let arg9 : BitVec 32 := Scf.iv c0_i32_3 c1_i32_5 k0_t2
  let c512_i32 : BitVec 32 := 512#32
  let v9 : BitVec 32 := Scalar.muli arg9 c512_i32
  let v10 : BitVec 32 := Scalar.addi v8 v9
  let c0_i32_51_r1 : BitVec 32 := 0#32
  ![v10.toNat, 0]
abbrev grid1 : Pipeline.Grid := ⟨2, ![2, 16], ![false, false]⟩

@[reducible] def k1_t1_loop : Scf.Loop 32 :=
  let c0_i32_0 : BitVec 32 := 0#32
  let c8_i32 : BitVec 32 := 8#32
  let v2 : BitVec 32 := Scalar.addi c0_i32_0 c8_i32
  let c1_i32 : BitVec 32 := 1#32
  ⟨c0_i32_0, v2, c1_i32⟩
@[reducible] def k1_t2_loop : Scf.Loop 32 :=
  let c0_i32_3 : BitVec 32 := 0#32
  let c8_i32_4 : BitVec 32 := 8#32
  let v5 : BitVec 32 := Scalar.addi c0_i32_3 c8_i32_4
  let c1_i32_5 : BitVec 32 := 1#32
  ⟨c0_i32_3, v5, c1_i32_5⟩
def k1_off1 (i : grid1.Coords) (k1_t1 : Fin k1_t1_loop.trips) (k1_t2 : Fin k1_t2_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v3 : BitVec 32 := Scalar.muli v1 c8_i32_2
  let c0_i32_0 : BitVec 32 := 0#32
  let c1_i32 : BitVec 32 := 1#32
  let arg8 : BitVec 32 := Scf.iv c0_i32_0 c1_i32 k1_t1
  let v4 : BitVec 32 := Scalar.addi v3 arg8
  let c0_i32_3 : BitVec 32 := 0#32
  let c1_i32_5 : BitVec 32 := 1#32
  let arg9 : BitVec 32 := Scf.iv c0_i32_3 c1_i32_5 k1_t2
  let c4_i32 : BitVec 32 := 4#32
  let v6 : BitVec 32 := Scalar.muli arg9 c4_i32
  let c0_i32_51_r0 : BitVec 32 := 0#32
  ![v4.toNat, v6.toNat, 0]
def k1_off2 (i : grid1.Coords) (k1_t1 : Fin k1_t1_loop.trips) (k1_t2 : Fin k1_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v3 : BitVec 32 := Scalar.muli v1 c8_i32_2
  let c0_i32_0 : BitVec 32 := 0#32
  let c1_i32 : BitVec 32 := 1#32
  let arg8 : BitVec 32 := Scf.iv c0_i32_0 c1_i32 k1_t1
  let v4 : BitVec 32 := Scalar.addi v3 arg8
  let c4096_i32 : BitVec 32 := 4096#32
  let v39 : BitVec 32 := Scalar.muli v4 c4096_i32
  let c0_i32_3 : BitVec 32 := 0#32
  let c1_i32_5 : BitVec 32 := 1#32
  let arg9 : BitVec 32 := Scf.iv c0_i32_3 c1_i32_5 k1_t2
  let c512_i32 : BitVec 32 := 512#32
  let v40 : BitVec 32 := Scalar.muli arg9 c512_i32
  let v41 : BitVec 32 := Scalar.addi v39 v40
  let c0_i32_51_r1 : BitVec 32 := 0#32
  ![v41.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S262144x128 : Shape := ⟨2, ![262144, 128]⟩
abbrev S256x32x128 : Shape := ⟨3, ![256, 32, 128]⟩
abbrev S1048576x128 : Shape := ⟨2, ![1048576, 128]⟩
abbrev S256x4096 : Shape := ⟨2, ![256, 4096]⟩
abbrev S256 : Shape := ⟨1, ![256]⟩
abbrev S_ : Shape := ⟨0, ![]⟩
abbrev S256x1 : Shape := ⟨2, ![256, 1]⟩
abbrev S1x64x4096x128 : Shape := ⟨4, ![1, 64, 4096, 128]⟩
abbrev S4x64x4096x128 : Shape := ⟨4, ![4, 64, 4096, 128]⟩
abbrev S256x4096x128 : Shape := ⟨3, ![256, 4096, 128]⟩
abbrev S256x4096x1 : Shape := ⟨3, ![256, 4096, 1]⟩
abbrev S1 : Shape := ⟨1, ![1]⟩
abbrev S1x1x1 : Shape := ⟨3, ![1, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S256x32x128, .i32⟩
  | .hbm, ⟨2, _⟩ => ⟨S1048576x128, .f32⟩
  | .hbm, ⟨3, _⟩ => ⟨S256x4096, .i32⟩
  | .hbm, ⟨4, _⟩ => ⟨S256, .i32⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256x1, .i32⟩
  | .hbm, ⟨9, _⟩ => ⟨S256x4096, .i32⟩
  | .hbm, ⟨10, _⟩ => ⟨S256x4096, .i32⟩
  | .hbm, ⟨11, _⟩ => ⟨S256x4096, .i32⟩
  | .hbm, ⟨12, _⟩ => ⟨S256x4096, .i32⟩
  | .hbm, ⟨13, _⟩ => ⟨S256x4096, .i32⟩
  | .hbm, ⟨14, _⟩ => ⟨S1x64x4096x128, .f32⟩
  | .hbm, ⟨15, _⟩ => ⟨S4x64x4096x128, .f32⟩
  | .hbm, ⟨16, _⟩ => ⟨S256x4096x128, .f32⟩
  | .hbm, ⟨17, _⟩ => ⟨S256x4096x1, .i32⟩
  | .hbm, ⟨18, _⟩ => ⟨S_, .i32⟩
  | .hbm, ⟨19, _⟩ => ⟨S256x4096x1, .i32⟩
  | .hbm, ⟨20, _⟩ => ⟨S256x4096x1, .i1⟩
  | .hbm, ⟨21, _⟩ => ⟨S_, .i32⟩
  | .hbm, ⟨22, _⟩ => ⟨S256x4096x1, .i32⟩
  | .hbm, ⟨23, _⟩ => ⟨S256x4096x1, .i32⟩
  | .hbm, ⟨24, _⟩ => ⟨S256x4096x1, .i32⟩
  | .hbm, ⟨25, _⟩ => ⟨S1, .i32⟩
  | .hbm, ⟨26, _⟩ => ⟨S_, .i32⟩
  | .hbm, ⟨27, _⟩ => ⟨S256x4096x1, .i32⟩
  | .hbm, ⟨28, _⟩ => ⟨S256x4096x1, .i1⟩
  | .hbm, ⟨29, _⟩ => ⟨S1x1x1, .i32⟩
  | .hbm, ⟨30, _⟩ => ⟨S256x4096x1, .i32⟩
  | .hbm, ⟨31, _⟩ => ⟨S256x4096x1, .i1⟩
  | .hbm, ⟨32, _⟩ => ⟨S256x4096x1, .i1⟩
  | .hbm, ⟨33, _⟩ => ⟨S_, .i1⟩
  | .hbm, ⟨34, _⟩ => ⟨S256x4096, .i1⟩
  | .hbm, ⟨35, _⟩ => ⟨S256x4096x128, .f32⟩
  | .hbm, ⟨36, _⟩ => ⟨S256x4096x128, .i1⟩
  | .hbm, ⟨37, _⟩ => ⟨S_, .f32⟩
  | .hbm, ⟨38, _⟩ => ⟨S256x4096x128, .f32⟩
  | .hbm, ⟨39, _⟩ => ⟨S256x4096x128, .f32⟩
  | .hbm, ⟨40, _⟩ => ⟨S256x4096x128, .f32⟩
  | .hbm, ⟨41, _⟩ => ⟨S256x4096x1, .i32⟩
  | .hbm, ⟨42, _⟩ => ⟨S_, .i32⟩
  | .hbm, ⟨43, _⟩ => ⟨S256x4096x1, .i32⟩
  | .hbm, ⟨44, _⟩ => ⟨S256x4096x1, .i1⟩
  | .hbm, ⟨45, _⟩ => ⟨S_, .i32⟩
  | .hbm, ⟨46, _⟩ => ⟨S256x4096x1, .i32⟩
  | .hbm, ⟨47, _⟩ => ⟨S256x4096x1, .i32⟩
  | .hbm, ⟨48, _⟩ => ⟨S256x4096x1, .i32⟩
  | .hbm, ⟨49, _⟩ => ⟨S1, .i32⟩
  | .hbm, ⟨50, _⟩ => ⟨S_, .i32⟩
  | .hbm, ⟨51, _⟩ => ⟨S256x4096x1, .i32⟩
  | .hbm, ⟨52, _⟩ => ⟨S256x4096x1, .i1⟩
  | .hbm, ⟨53, _⟩ => ⟨S1x1x1, .i32⟩
  | .hbm, ⟨54, _⟩ => ⟨S256x4096x1, .i32⟩
  | .hbm, ⟨55, _⟩ => ⟨S256x4096x1, .i1⟩
  | .hbm, ⟨56, _⟩ => ⟨S256x4096x1, .i1⟩
  | .hbm, ⟨57, _⟩ => ⟨S_, .i1⟩
  | .hbm, ⟨58, _⟩ => ⟨S256x4096, .i1⟩
  | .hbm, ⟨59, _⟩ => ⟨S256x4096x128, .f32⟩
  | .hbm, ⟨60, _⟩ => ⟨S256x4096x128, .i1⟩
  | .hbm, ⟨61, _⟩ => ⟨S_, .f32⟩
  | .hbm, ⟨62, _⟩ => ⟨S256x4096x128, .f32⟩
  | .hbm, ⟨63, _⟩ => ⟨S256x4096x128, .f32⟩
  | .hbm, ⟨64, _⟩ => ⟨S1048576x128, .f32⟩
  | .hbm, ⟨65, _⟩ => ⟨S1048576x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_c_1 : Ref sig .tc := ⟨.hbm, 25, rfl⟩
abbrev main_call1_c_2 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_c_3 : Ref sig .tc := ⟨.hbm, 33, rfl⟩
abbrev main_call1_v11 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_1 : Ref sig .tc := ⟨.hbm, 49, rfl⟩
abbrev main_call2_c_2 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_c_3 : Ref sig .tc := ⟨.hbm, 57, rfl⟩
abbrev main_call2_v11 : Ref sig .tc := ⟨.hbm, 58, rfl⟩
abbrev main_call2_v12 : Ref sig .tc := ⟨.hbm, 59, rfl⟩
abbrev main_call2_v13 : Ref sig .tc := ⟨.hbm, 60, rfl⟩
abbrev main_call2_cst : Ref sig .tc := ⟨.hbm, 61, rfl⟩
abbrev main_call2_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩

abbrev nD : Nat := 1
abbrev τ : Topo := Topo.v7x

variable {F : FTy → Type} [FloatOps F]
-- ==== Combine.lean ====
abbrev S1048576x128 : Shape := ⟨2, ![1048576, 128]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x4x16x4096x128 : Shape := ⟨5, ![4, 4, 16, 4096, 128]⟩
abbrev S4x4x16x4096x64 : Shape := ⟨5, ![4, 4, 16, 4096, 64]⟩
abbrev S4x4x16x4096x1 : Shape := ⟨5, ![4, 4, 16, 4096, 1]⟩
abbrev S4x4x16x4096 : Shape := ⟨4, ![4, 4, 16, 4096]⟩
abbrev S_ : Shape := ⟨0, ![]⟩
abbrev S4x16x4096 : Shape := ⟨3, ![4, 16, 4096]⟩
abbrev S1x4x16x4096 : Shape := ⟨4, ![1, 4, 16, 4096]⟩
abbrev S4x16x4096x64 : Shape := ⟨4, ![4, 16, 4096, 64]⟩
abbrev S4x4096x16x64 : Shape := ⟨4, ![4, 4096, 16, 64]⟩
abbrev S16384x1024 : Shape := ⟨2, ![16384, 1024]⟩
abbrev S1x4096 : Shape := ⟨2, ![1, 4096]⟩
abbrev S1x1024 : Shape := ⟨2, ![1, 1024]⟩
abbrev S512x1024 : Shape := ⟨2, ![512, 1024]⟩
abbrev S512x4096 : Shape := ⟨2, ![512, 4096]⟩

abbrev nBuf : Space → Nat
  | .hbm => 34
  | .vmem => 9
  | .smem => 0
  | _ => 0

abbrev bufTy : (tb : Table) → Fin (tcTables nBuf tb) → BufTy
  | .hbm, ⟨0, _⟩ => ⟨S1048576x128, .f32⟩
  | .hbm, ⟨1, _⟩ => ⟨S1024x1024, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S4x4x16x4096x128, .f32⟩
  | .hbm, ⟨7, _⟩ => ⟨S4x4x16x4096x64, .f32⟩
  | .hbm, ⟨8, _⟩ => ⟨S4x4x16x4096x1, .f32⟩
  | .hbm, ⟨9, _⟩ => ⟨S4x4x16x4096, .f32⟩
  | .hbm, ⟨10, _⟩ => ⟨S_, .f32⟩
  | .hbm, ⟨11, _⟩ => ⟨S4x16x4096, .f32⟩
  | .hbm, ⟨12, _⟩ => ⟨S_, .f32⟩
  | .hbm, ⟨13, _⟩ => ⟨S4x16x4096, .f32⟩
  | .hbm, ⟨14, _⟩ => ⟨S4x16x4096, .f32⟩
  | .hbm, ⟨15, _⟩ => ⟨S1x4x16x4096, .f32⟩
  | .hbm, ⟨16, _⟩ => ⟨S4x4x16x4096, .f32⟩
  | .hbm, ⟨17, _⟩ => ⟨S4x4x16x4096, .f32⟩
  | .hbm, ⟨18, _⟩ => ⟨S4x4x16x4096, .f32⟩
  | .hbm, ⟨19, _⟩ => ⟨S_, .f32⟩
  | .hbm, ⟨20, _⟩ => ⟨S4x16x4096, .f32⟩
  | .hbm, ⟨21, _⟩ => ⟨S1x4x16x4096, .f32⟩
  | .hbm, ⟨22, _⟩ => ⟨S4x4x16x4096, .f32⟩
  | .hbm, ⟨23, _⟩ => ⟨S4x4x16x4096, .f32⟩
  | .hbm, ⟨24, _⟩ => ⟨S4x4x16x4096x1, .f32⟩
  | .hbm, ⟨25, _⟩ => ⟨S4x4x16x4096x64, .f32⟩
  | .hbm, ⟨26, _⟩ => ⟨S4x4x16x4096x64, .f32⟩
  | .hbm, ⟨27, _⟩ => ⟨S_, .f32⟩
  | .hbm, ⟨28, _⟩ => ⟨S4x16x4096x64, .f32⟩
  | .hbm, ⟨29, _⟩ => ⟨S4x4096x16x64, .f32⟩
  | .hbm, ⟨30, _⟩ => ⟨S16384x1024, .f32⟩
  | .hbm, ⟨31, _⟩ => ⟨S1x4096, .f32⟩
  | .hbm, ⟨32, _⟩ => ⟨S1x1024, .f32⟩
  | .hbm, ⟨33, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x4096, .f32⟩
  | .local _ .vmem, ⟨4, _⟩ => ⟨S1x4096, .f32⟩
  | .local _ .vmem, ⟨5, _⟩ => ⟨S4096x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineReferenceIdeal.lean ====
abbrev S1048576x128 : Shape := ⟨2, ![1048576, 128]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x4x16x4096x128 : Shape := ⟨5, ![4, 4, 16, 4096, 128]⟩
abbrev S4x4x16x4096x64 : Shape := ⟨5, ![4, 4, 16, 4096, 64]⟩
abbrev S4x4x16x4096x1 : Shape := ⟨5, ![4, 4, 16, 4096, 1]⟩
abbrev S4x4x16x4096 : Shape := ⟨4, ![4, 4, 16, 4096]⟩
abbrev S_ : Shape := ⟨0, ![]⟩
abbrev S4x16x4096 : Shape := ⟨3, ![4, 16, 4096]⟩
abbrev S1x4x16x4096 : Shape := ⟨4, ![1, 4, 16, 4096]⟩
abbrev S4x16x4096x64 : Shape := ⟨4, ![4, 16, 4096, 64]⟩
abbrev S4x4096x16x64 : Shape := ⟨4, ![4, 4096, 16, 64]⟩
abbrev S4x4096x1024 : Shape := ⟨3, ![4, 4096, 1024]⟩
abbrev S4x4096x4096 : Shape := ⟨3, ![4, 4096, 4096]⟩
abbrev S1x1x4096 : Shape := ⟨3, ![1, 1, 4096]⟩
abbrev S1x1x1024 : Shape := ⟨3, ![1, 1, 1024]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1024x1024, .f32⟩
  | .hbm, ⟨2, _⟩ => ⟨S1024x4096, .f32⟩
  | .hbm, ⟨3, _⟩ => ⟨S4096, .f32⟩
  | .hbm, ⟨4, _⟩ => ⟨S4096x1024, .f32⟩
  | .hbm, ⟨5, _⟩ => ⟨S1024, .f32⟩
  | .hbm, ⟨6, _⟩ => ⟨S4x4x16x4096x128, .f32⟩
  | .hbm, ⟨7, _⟩ => ⟨S4x4x16x4096x64, .f32⟩
  | .hbm, ⟨8, _⟩ => ⟨S4x4x16x4096x1, .f32⟩
  | .hbm, ⟨9, _⟩ => ⟨S4x4x16x4096, .f32⟩
  | .hbm, ⟨10, _⟩ => ⟨S_, .f32⟩
  | .hbm, ⟨11, _⟩ => ⟨S4x16x4096, .f32⟩
  | .hbm, ⟨12, _⟩ => ⟨S_, .f32⟩
  | .hbm, ⟨13, _⟩ => ⟨S4x16x4096, .f32⟩
  | .hbm, ⟨14, _⟩ => ⟨S4x16x4096, .f32⟩
  | .hbm, ⟨15, _⟩ => ⟨S1x4x16x4096, .f32⟩
  | .hbm, ⟨16, _⟩ => ⟨S4x4x16x4096, .f32⟩
  | .hbm, ⟨17, _⟩ => ⟨S4x4x16x4096, .f32⟩
  | .hbm, ⟨18, _⟩ => ⟨S4x4x16x4096, .f32⟩
  | .hbm, ⟨19, _⟩ => ⟨S_, .f32⟩
  | .hbm, ⟨20, _⟩ => ⟨S4x16x4096, .f32⟩
  | .hbm, ⟨21, _⟩ => ⟨S1x4x16x4096, .f32⟩
  | .hbm, ⟨22, _⟩ => ⟨S4x4x16x4096, .f32⟩
  | .hbm, ⟨23, _⟩ => ⟨S4x4x16x4096, .f32⟩
  | .hbm, ⟨24, _⟩ => ⟨S4x4x16x4096x1, .f32⟩
  | .hbm, ⟨25, _⟩ => ⟨S4x4x16x4096x64, .f32⟩
  | .hbm, ⟨26, _⟩ => ⟨S4x4x16x4096x64, .f32⟩
  | .hbm, ⟨27, _⟩ => ⟨S_, .f32⟩
  | .hbm, ⟨28, _⟩ => ⟨S4x16x4096x64, .f32⟩
  | .hbm, ⟨29, _⟩ => ⟨S4x4096x16x64, .f32⟩
  | .hbm, ⟨30, _⟩ => ⟨S4x4096x1024, .f32⟩
  | .hbm, ⟨31, _⟩ => ⟨S4x4096x1024, .f32⟩
  | .hbm, ⟨32, _⟩ => ⟨S4x4096x4096, .f32⟩
  | .hbm, ⟨33, _⟩ => ⟨S1x1x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096x4096, .f32⟩
  | .hbm, ⟨38, _⟩ => ⟨S4x4096x4096, .f32⟩
  | .hbm, ⟨39, _⟩ => ⟨S4x4096x1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S16384x1024, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_cst : Ref sig .tc := ⟨.hbm, 36, rfl⟩
abbrev main_call0_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Attention.lean ====
abbrev S1048576x128 : Shape := ⟨2, ![1048576, 128]⟩
abbrev S256x8x512x128 : Shape := ⟨4, ![256, 8, 512, 128]⟩
abbrev S1x1x512x128 : Shape := ⟨4, ![1, 1, 512, 128]⟩
abbrev S512x128 : Shape := ⟨2, ![512, 128]⟩
abbrev S1x1x64x128 : Shape := ⟨4, ![1, 1, 64, 128]⟩
abbrev S64x128 : Shape := ⟨2, ![64, 128]⟩
abbrev S576x128 : Shape := ⟨2, ![576, 128]⟩
abbrev S576x64 : Shape := ⟨2, ![576, 64]⟩
abbrev S576 : Shape := ⟨1, ![576]⟩
abbrev S576x1 : Shape := ⟨2, ![576, 1]⟩
abbrev S512x64 : Shape := ⟨2, ![512, 64]⟩
abbrev S512x576 : Shape := ⟨2, ![512, 576]⟩
abbrev S512 : Shape := ⟨1, ![512]⟩
abbrev S512x1 : Shape := ⟨2, ![512, 1]⟩
abbrev S512x63 : Shape := ⟨2, ![512, 63]⟩

abbrev nBuf : Space → Nat
  | .hbm => 3
  | .vmem => 6
  | .smem => 0
  | _ => 0

abbrev bufTy : (tb : Table) → Fin (tcTables nBuf tb) → BufTy
  | .hbm, ⟨0, _⟩ => ⟨S1048576x128, .f32⟩
  | .hbm, ⟨1, _⟩ => ⟨S256x8x512x128, .f32⟩
  | .hbm, ⟨2, _⟩ => ⟨S256x8x512x128, .f32⟩
  | .local _ .vmem, ⟨0, _⟩ => ⟨S1x1x512x128, .f32⟩
  | .local _ .vmem, ⟨1, _⟩ => ⟨S1x1x512x128, .f32⟩
  | .local _ .vmem, ⟨2, _⟩ => ⟨S1x1x512x128, .f32⟩
  | .local _ .vmem, ⟨3, _⟩ => ⟨S1x1x512x128, .f32⟩
  | .local _ .vmem, ⟨4, _⟩ => ⟨S1x1x512x128, .f32⟩
  | .local _ .vmem, ⟨5, _⟩ => ⟨S1x1x512x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![256, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c1_i32 : BitVec 32 := 1#32
  let v1 : BitVec 32 := Scalar.subi v0 c1_i32
  let c8_i32_0 : BitVec 32 := 8#32
  let c0_i32 : BitVec 32 := 0#32
  let v2 : BitVec 1 := Scalar.cmpi .eq c8_i32_0 c0_i32
  let c1_i32_1 : BitVec 32 := 1#32
  let v3 : BitVec 32 := Scalar.select v2 c1_i32_1 c8_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  let c0_i32_7 : BitVec 32 := 0#32
  ![arg0.toNat, v11.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttentionIdeal.lean ====
variable {F : FTy → Type} [FloatOps F] [Named F]
def κ : String → Option EReal := fun
  | "mask" => some ⊥
  | _ => none
-- ==== AttentionReferenceIdeal.lean ====
abbrev S1048576x128 : Shape := ⟨2, ![1048576, 128]⟩
abbrev S64x64 : Shape := ⟨2, ![64, 64]⟩
abbrev S_ : Shape := ⟨0, ![]⟩
abbrev S64x128 : Shape := ⟨2, ![64, 128]⟩
abbrev S256x64x64x128 : Shape := ⟨4, ![256, 64, 64, 128]⟩
abbrev S256x64x64x64 : Shape := ⟨4, ![256, 64, 64, 64]⟩
abbrev S256x64x64 : Shape := ⟨3, ![256, 64, 64]⟩
abbrev S256x64x64x1 : Shape := ⟨4, ![256, 64, 64, 1]⟩
abbrev S256x1x64x64 : Shape := ⟨4, ![256, 1, 64, 64]⟩
abbrev S256x63x64x64 : Shape := ⟨4, ![256, 63, 64, 64]⟩
abbrev S256x64x128x64 : Shape := ⟨4, ![256, 64, 128, 64]⟩
abbrev S1048576x64 : Shape := ⟨2, ![1048576, 64]⟩
abbrev S1048576x1 : Shape := ⟨2, ![1048576, 1]⟩
abbrev S1048576x63 : Shape := ⟨2, ![1048576, 63]⟩
abbrev S256x8x512x128 : Shape := ⟨4, ![256, 8, 512, 128]⟩

abbrev nBuf : Space → Nat
  | .hbm => 61
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S64x64, .i32⟩
  | .hbm, ⟨2, _⟩ => ⟨S64x64, .i32⟩
  | .hbm, ⟨3, _⟩ => ⟨S_, .i32⟩
  | .hbm, ⟨4, _⟩ => ⟨S64x64, .i32⟩
  | .hbm, ⟨5, _⟩ => ⟨S64x64, .i32⟩
  | .hbm, ⟨6, _⟩ => ⟨S64x64, .i1⟩
  | .hbm, ⟨7, _⟩ => ⟨S_, .i1⟩
  | .hbm, ⟨8, _⟩ => ⟨S64x64, .i1⟩
  | .hbm, ⟨9, _⟩ => ⟨S64x128, .i1⟩
  | .hbm, ⟨10, _⟩ => ⟨S256x64x64x128, .f32⟩
  | .hbm, ⟨11, _⟩ => ⟨S256x64x64x64, .f32⟩
  | .hbm, ⟨12, _⟩ => ⟨S256x64x64x64, .f32⟩
  | .hbm, ⟨13, _⟩ => ⟨S256x64x64x64, .f32⟩
  | .hbm, ⟨14, _⟩ => ⟨S_, .f32⟩
  | .hbm, ⟨15, _⟩ => ⟨S256x64x64, .f32⟩
  | .hbm, ⟨16, _⟩ => ⟨S256x64x64x1, .f32⟩
  | .hbm, ⟨17, _⟩ => ⟨S256x64x64x1, .f32⟩
  | .hbm, ⟨18, _⟩ => ⟨S_, .f32⟩
  | .hbm, ⟨19, _⟩ => ⟨S256x64x64x1, .f32⟩
  | .hbm, ⟨20, _⟩ => ⟨S256x64x64x1, .f32⟩
  | .hbm, ⟨21, _⟩ => ⟨S256x64x64x64, .f32⟩
  | .hbm, ⟨22, _⟩ => ⟨S256x64x64x64, .f32⟩
  | .hbm, ⟨23, _⟩ => ⟨S256x1x64x64, .f32⟩
  | .hbm, ⟨24, _⟩ => ⟨S256x63x64x64, .f32⟩
  | .hbm, ⟨25, _⟩ => ⟨S256x64x64x64, .f32⟩
  | .hbm, ⟨26, _⟩ => ⟨S256x64x128x64, .f32⟩
  | .hbm, ⟨27, _⟩ => ⟨S256x1x64x64, .f32⟩
  | .hbm, ⟨28, _⟩ => ⟨S256x63x64x64, .f32⟩
  | .hbm, ⟨29, _⟩ => ⟨S256x64x64x64, .f32⟩
  | .hbm, ⟨30, _⟩ => ⟨S256x64x128x64, .f32⟩
  | .hbm, ⟨31, _⟩ => ⟨S256x64x64x128, .f32⟩
  | .hbm, ⟨32, _⟩ => ⟨S_, .f32⟩
  | .hbm, ⟨33, _⟩ => ⟨S256x64x64x128, .f32⟩
  | .hbm, ⟨34, _⟩ => ⟨S256x64x64x128, .f32⟩
  | .hbm, ⟨35, _⟩ => ⟨S_, .f32⟩
  | .hbm, ⟨36, _⟩ => ⟨S_, .f32⟩
  | .hbm, ⟨37, _⟩ => ⟨S256x64x64x128, .i1⟩
  | .hbm, ⟨38, _⟩ => ⟨S256x64x64x128, .f32⟩
  | .hbm, ⟨39, _⟩ => ⟨S256x64x64x128, .f32⟩
  | .hbm, ⟨40, _⟩ => ⟨S_, .f32⟩
  | .hbm, ⟨41, _⟩ => ⟨S256x64x64, .f32⟩
  | .hbm, ⟨42, _⟩ => ⟨S256x64x64x1, .f32⟩
  | .hbm, ⟨43, _⟩ => ⟨S256x64x64x128, .f32⟩
  | .hbm, ⟨44, _⟩ => ⟨S256x64x64x128, .f32⟩
  | .hbm, ⟨45, _⟩ => ⟨S256x64x64x128, .f32⟩
  | .hbm, ⟨46, _⟩ => ⟨S_, .f32⟩
  | .hbm, ⟨47, _⟩ => ⟨S256x64x64, .f32⟩
  | .hbm, ⟨48, _⟩ => ⟨S256x64x64x1, .f32⟩
  | .hbm, ⟨49, _⟩ => ⟨S256x64x64x1, .f32⟩
  | .hbm, ⟨50, _⟩ => ⟨S256x64x64x1, .f32⟩
  | .hbm, ⟨51, _⟩ => ⟨S256x64x64x128, .f32⟩
  | .hbm, ⟨52, _⟩ => ⟨S256x64x64x128, .f32⟩
  | .hbm, ⟨53, _⟩ => ⟨S256x64x64x128, .f32⟩
  | .hbm, ⟨54, _⟩ => ⟨S256x64x64x64, .f32⟩
  | .hbm, ⟨55, _⟩ => ⟨S1048576x64, .f32⟩
  | .hbm, ⟨56, _⟩ => ⟨S1048576x1, .f32⟩
  | .hbm, ⟨57, _⟩ => ⟨S_, .f32⟩
  | .hbm, ⟨58, _⟩ => ⟨S1048576x63, .f32⟩
  | .hbm, ⟨59, _⟩ => ⟨S1048576x128, .f32⟩
  | .hbm, ⟨60, _⟩ => ⟨S256x8x512x128, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_cst : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call1_v0 : Ref sig .tc := ⟨.hbm, 23, rfl⟩
abbrev main_call1_v1 : Ref sig .tc := ⟨.hbm, 24, rfl⟩
abbrev main_v15 : Ref sig .tc := ⟨.hbm, 25, rfl⟩
abbrev main_v16 : Ref sig .tc := ⟨.hbm, 26, rfl⟩
abbrev main_call2_v0 : Ref sig .tc := ⟨.hbm, 27, rfl⟩
abbrev main_call2_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_call3_v0 : Ref sig .tc := ⟨.hbm, 36, rfl⟩
abbrev main_call3_v1 : Ref sig .tc := ⟨.hbm, 37, rfl⟩
abbrev main_call3_v2 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Hashing.lean ====
abbrev S4x4096x1024 : Shape := ⟨3, ![4, 4096, 1024]⟩
abbrev S1024x1024 : Shape := ⟨2, ![1024, 1024]⟩
abbrev S64x4x32 : Shape := ⟨3, ![64, 4, 32]⟩
abbrev S4x4096x16x64 : Shape := ⟨4, ![4, 4096, 16, 64]⟩
abbrev S4x16x4096x64 : Shape := ⟨4, ![4, 16, 4096, 64]⟩
abbrev S_ : Shape := ⟨0, ![]⟩
abbrev S4x16x4096 : Shape := ⟨3, ![4, 16, 4096]⟩
abbrev S4x16x4096x1 : Shape := ⟨4, ![4, 16, 4096, 1]⟩
abbrev S4x16x4096x4x32 : Shape := ⟨5, ![4, 16, 4096, 4, 32]⟩
abbrev S4x16x4096x4x64 : Shape := ⟨5, ![4, 16, 4096, 4, 64]⟩
abbrev S4x16x4096x4 : Shape := ⟨4, ![4, 16, 4096, 4]⟩
abbrev S4x16x4096x128 : Shape := ⟨4, ![4, 16, 4096, 128]⟩
abbrev S262144x128 : Shape := ⟨2, ![262144, 128]⟩
abbrev S4x4x16x4096 : Shape := ⟨4, ![4, 4, 16, 4096]⟩
abbrev S4x64x4096x1 : Shape := ⟨4, ![4, 64, 4096, 1]⟩
abbrev S1x1x4096x1 : Shape := ⟨4, ![1, 1, 4096, 1]⟩
abbrev S4096x1 : Shape := ⟨2, ![4096, 1]⟩
abbrev S512x64 : Shape := ⟨2, ![512, 64]⟩
abbrev S512x512 : Shape := ⟨2, ![512, 512]⟩
abbrev S64x64 : Shape := ⟨2, ![64, 64]⟩
abbrev S1x64 : Shape := ⟨2, ![1, 64]⟩
abbrev S512x1 : Shape := ⟨2, ![512, 1]⟩
abbrev S64 : Shape := ⟨1, ![64]⟩
abbrev S512 : Shape := ⟨1, ![512]⟩
abbrev S1x1x512x1 : Shape := ⟨4, ![1, 1, 512, 1]⟩

abbrev nBuf : Space → Nat
  | .hbm => 33
  | .vmem => 4
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S64x4x32, .f32⟩
  | .hbm, ⟨4, _⟩ => ⟨S4x4096x1024, .f32⟩
  | .hbm, ⟨5, _⟩ => ⟨S4x4096x16x64, .f32⟩
  | .hbm, ⟨6, _⟩ => ⟨S4x16x4096x64, .f32⟩
  | .hbm, ⟨7, _⟩ => ⟨S4x4096x1024, .f32⟩
  | .hbm, ⟨8, _⟩ => ⟨S4x4096x16x64, .f32⟩
  | .hbm, ⟨9, _⟩ => ⟨S4x16x4096x64, .f32⟩
  | .hbm, ⟨10, _⟩ => ⟨S4x16x4096x64, .f32⟩
  | .hbm, ⟨11, _⟩ => ⟨S_, .f32⟩
  | .hbm, ⟨12, _⟩ => ⟨S4x16x4096, .f32⟩
  | .hbm, ⟨13, _⟩ => ⟨S4x16x4096x1, .f32⟩
  | .hbm, ⟨14, _⟩ => ⟨S4x16x4096x1, .f32⟩
  | .hbm, ⟨15, _⟩ => ⟨S_, .f32⟩
  | .hbm, ⟨16, _⟩ => ⟨S4x16x4096x1, .f32⟩
  | .hbm, ⟨17, _⟩ => ⟨S4x16x4096x1, .f32⟩
  | .hbm, ⟨18, _⟩ => ⟨S4x16x4096x64, .f32⟩
  | .hbm, ⟨19, _⟩ => ⟨S4x16x4096x64, .f32⟩
  | .hbm, ⟨20, _⟩ => ⟨S4x16x4096x4x32, .f32⟩
  | .hbm, ⟨21, _⟩ => ⟨S4x16x4096x4x32, .f32⟩
  | .hbm, ⟨22, _⟩ => ⟨S4x16x4096x4x64, .f32⟩
  | .hbm, ⟨23, _⟩ => ⟨S4x16x4096x4x64, .i32⟩
  | .hbm, ⟨24, _⟩ => ⟨S_, .f32⟩
  | .hbm, ⟨25, _⟩ => ⟨S_, .i32⟩
  | .hbm, ⟨26, _⟩ => ⟨S4x16x4096x4, .f32⟩
  | .hbm, ⟨27, _⟩ => ⟨S4x16x4096x4, .i32⟩
  | .hbm, ⟨28, _⟩ => ⟨S4x16x4096x128, .f32⟩
  | .hbm, ⟨29, _⟩ => ⟨S262144x128, .f32⟩
  | .hbm, ⟨30, _⟩ => ⟨S4x4x16x4096, .i32⟩
  | .hbm, ⟨31, _⟩ => ⟨S4x64x4096x1, .i32⟩
  | .hbm, ⟨32, _⟩ => ⟨S4x64x4096x1, .i32⟩
  | .local _ .vmem, ⟨0, _⟩ => ⟨S1x1x4096x1, .i32⟩
  | .local _ .vmem, ⟨1, _⟩ => ⟨S1x1x4096x1, .i32⟩
  | .local _ .vmem, ⟨2, _⟩ => ⟨S1x1x4096x1, .i32⟩
  | .local _ .vmem, ⟨3, _⟩ => ⟨S1x1x4096x1, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_v0 : Ref sig .tc := ⟨.hbm, 23, rfl⟩
abbrev main_call1_cst : Ref sig .tc := ⟨.hbm, 24, rfl⟩
abbrev main_call1_c : Ref sig .tc := ⟨.hbm, 25, rfl⟩
abbrev main_call1_v1_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![64, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== HashingReferenceIdeal.lean ====
abbrev S4x4096x1024 : Shape := ⟨3, ![4, 4096, 1024]⟩
abbrev S1024x1024 : Shape := ⟨2, ![1024, 1024]⟩
abbrev S64x4x32 : Shape := ⟨3, ![64, 4, 32]⟩
abbrev S4x4096x16x64 : Shape := ⟨4, ![4, 4096, 16, 64]⟩
abbrev S4x16x4096x64 : Shape := ⟨4, ![4, 16, 4096, 64]⟩
abbrev S_ : Shape := ⟨0, ![]⟩
abbrev S4x16x4096 : Shape := ⟨3, ![4, 16, 4096]⟩
abbrev S4x16x4096x1 : Shape := ⟨4, ![4, 16, 4096, 1]⟩
abbrev S4x16x4096x4x32 : Shape := ⟨5, ![4, 16, 4096, 4, 32]⟩
abbrev S4x16x4096x4x64 : Shape := ⟨5, ![4, 16, 4096, 4, 64]⟩
abbrev S4x16x4096x4 : Shape := ⟨4, ![4, 16, 4096, 4]⟩
abbrev S4096 : Shape := ⟨1, ![4096]⟩
abbrev S4x4x16x4096 : Shape := ⟨4, ![4, 4, 16, 4096]⟩
abbrev S1x1x1x4096 : Shape := ⟨4, ![1, 1, 1, 4096]⟩
abbrev S256x4096 : Shape := ⟨2, ![256, 4096]⟩
abbrev S256 : Shape := ⟨1, ![256]⟩
abbrev S256x1 : Shape := ⟨2, ![256, 1]⟩
abbrev S4x16x4096x128 : Shape := ⟨4, ![4, 16, 4096, 128]⟩
abbrev S262144x128 : Shape := ⟨2, ![262144, 128]⟩
abbrev S4x64x4096x1 : Shape := ⟨4, ![4, 64, 4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S64x4x32, .f32⟩
  | .hbm, ⟨4, _⟩ => ⟨S4x4096x1024, .f32⟩
  | .hbm, ⟨5, _⟩ => ⟨S4x4096x16x64, .f32⟩
  | .hbm, ⟨6, _⟩ => ⟨S4x16x4096x64, .f32⟩
  | .hbm, ⟨7, _⟩ => ⟨S4x4096x1024, .f32⟩
  | .hbm, ⟨8, _⟩ => ⟨S4x4096x16x64, .f32⟩
  | .hbm, ⟨9, _⟩ => ⟨S4x16x4096x64, .f32⟩
  | .hbm, ⟨10, _⟩ => ⟨S4x16x4096x64, .f32⟩
  | .hbm, ⟨11, _⟩ => ⟨S_, .f32⟩
  | .hbm, ⟨12, _⟩ => ⟨S4x16x4096, .f32⟩
  | .hbm, ⟨13, _⟩ => ⟨S4x16x4096x1, .f32⟩
  | .hbm, ⟨14, _⟩ => ⟨S4x16x4096x1, .f32⟩
  | .hbm, ⟨15, _⟩ => ⟨S_, .f32⟩
  | .hbm, ⟨16, _⟩ => ⟨S4x16x4096x1, .f32⟩
  | .hbm, ⟨17, _⟩ => ⟨S4x16x4096x1, .f32⟩
  | .hbm, ⟨18, _⟩ => ⟨S4x16x4096x64, .f32⟩
  | .hbm, ⟨19, _⟩ => ⟨S4x16x4096x64, .f32⟩
  | .hbm, ⟨20, _⟩ => ⟨S4x16x4096x4x32, .f32⟩
  | .hbm, ⟨21, _⟩ => ⟨S4x16x4096x4x32, .f32⟩
  | .hbm, ⟨22, _⟩ => ⟨S4x16x4096x4x64, .f32⟩
  | .hbm, ⟨23, _⟩ => ⟨S4x16x4096x4x64, .i32⟩
  | .hbm, ⟨24, _⟩ => ⟨S_, .f32⟩
  | .hbm, ⟨25, _⟩ => ⟨S_, .i32⟩
  | .hbm, ⟨26, _⟩ => ⟨S4x16x4096x4, .f32⟩
  | .hbm, ⟨27, _⟩ => ⟨S4x16x4096x4, .i32⟩
  | .hbm, ⟨28, _⟩ => ⟨S4096, .i32⟩
  | .hbm, ⟨29, _⟩ => ⟨S4x4x16x4096, .i32⟩
  | .hbm, ⟨30, _⟩ => ⟨S_, .i32⟩
  | .hbm, ⟨31, _⟩ => ⟨S4x4x16x4096, .i32⟩
  | .hbm, ⟨32, _⟩ => ⟨S4x4x16x4096, .i32⟩
  | .hbm, ⟨33, _⟩ => ⟨S1x1x1x4096, .i32⟩
  | .hbm, ⟨34, _⟩ => ⟨S4x4x16x4096, .i32⟩
  | .hbm, ⟨35, _⟩ => ⟨S4x4x16x4096, .i32⟩
  | .hbm, ⟨36, _⟩ => ⟨S256x4096, .i32⟩
  | .hbm, ⟨37, _⟩ => ⟨S256x4096, .i32⟩
  | .hbm, ⟨38, _⟩ => ⟨S256x4096, .i32⟩
  | .hbm, ⟨39, _⟩ => ⟨S256x4096, .i32⟩
  | .hbm, ⟨40, _⟩ => ⟨S256x4096, .i32⟩
  | .hbm, ⟨41, _⟩ => ⟨S256x4096, .i32⟩
  | .hbm, ⟨42, _⟩ => ⟨S256x4096, .i32⟩
  | .hbm, ⟨43, _⟩ => ⟨S256, .i32⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256x1, .i32⟩
  | .hbm, ⟨48, _⟩ => ⟨S256x4096, .i32⟩
  | .hbm, ⟨49, _⟩ => ⟨S256x4096, .i32⟩
  | .hbm, ⟨50, _⟩ => ⟨S4x16x4096x128, .f32⟩
  | .hbm, ⟨51, _⟩ => ⟨S262144x128, .f32⟩
  | .hbm, ⟨52, _⟩ => ⟨S4x64x4096x1, .i32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call1_v0 : Ref sig .tc := ⟨.hbm, 23, rfl⟩
abbrev main_call1_cst : Ref sig .tc := ⟨.hbm, 24, rfl⟩
abbrev main_call1_c : Ref sig .tc := ⟨.hbm, 25, rfl⟩
abbrev main_call1_v1_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call2_v0 : Ref sig .tc := ⟨.hbm, 37, rfl⟩
abbrev main_call2_v1_0 : Ref sig .tc := ⟨.hbm, 38, rfl⟩
abbrev main_v23 : Ref sig .tc := ⟨.hbm, 39, rfl⟩
abbrev main_call3_v0 : Ref sig .tc := ⟨.hbm, 40, rfl⟩
abbrev main_call3_v1_0 : Ref sig .tc := ⟨.hbm, 41, rfl⟩
abbrev main_v24 : Ref sig .tc := ⟨.hbm, 42, rfl⟩
abbrev main_v25 : Ref sig .tc := ⟨.hbm, 43, rfl⟩
abbrev main_c_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Proof.Streams.lean ====
/-
  SEVERAL INDIRECT STREAMS OUTSTANDING ON ONE DMA CELL.

  A vector subcore starts several indirect streams — gathers or scatters — on one DMA semaphore before it waits for any of
  them, and then waits as many times. The counter then cannot tell which stream has landed: only once every unit of every
  stream has been consumed are all of them known to be in. A stream is nothing but its row transfers, each of which credits the
  same number of units, so `m` streams of `o` rows are a batch (`Transfers.Batch`) of `m * o` transfers; starting stream `j`
  issues the transfers `j * o … j * o + o - 1` at once, a wait for one stream consumes `o` transfers' units and hands nothing
  back, the last wait hands back everything.

  `Streams EC c sem ι N D j u`: `j` of the `m` streams started, the units of `u` of them consumed, row `k` of stream `i`
  delivering `D i k`. The rules: `streams_alloc`, `wp_streamGather`, `wp_streamScatter`, `wp_streamWait`, `wp_streamLast`.
  Each row delivers its destination row AT THE FINAL CONTENTS the proof names (`G`), so that everything delivered by all the
  streams joins into one buffer at `G` without restating anything.
-/
module

public import Idealize.ShloMosaic.Lib.Batch
public import Idealize.ShloMosaic.Lib.SparseCore.Scatter
public import Idealize.ShloMosaic.Lib.Tactic

@[expose] public section

noncomputable section

namespace Cert.Streams

open Idealize.ShloMosaic Idealize.ShloMosaic.SparseCore
open Idealize.SL
open Idealize.SL.BI (sProp Storable bigSep bigSep_insert bigSep_empty bigSep_singleton)
open scoped Idealize.SL.BI
open Idealize.SL.BI.BIBase Idealize.SL.BI.Laws Idealize.SL.Sem Idealize.SL.ProofMode
open Idealize.SL.RA
open Idealize.ShloMosaic.Transfers (Batch pending batchBody)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

omit [DecidableEq Ix] [DecidableEq Name] [URA U] [Preorder Lvl] in
/-- What a view reads at an index, as the buffer's own element. -/
theorem elt_of_read {κ : Kind} {v : View sig κ sp s e} {g : v.ty.Contents (Elt F)} {x : s.Idx} {y : Elt F e} (h : v.read (Elt F) g x = y) :
    _root_.cast (congrArg (Elt F) v.elt_eq.symm) y = g (v.emb x) := by
  subst h; unfold View.read; rw [cast_cast, cast_eq]

/-! ## The transfers of stream `j` among all -/

section Index

variable {m o : ℕ}

/-- Row `k` of stream `j`, as one of the `m * o` transfers. -/
def at_ (j : Fin m) (k : Fin o) : Fin (m * o) := finProdFinEquiv (j, k)

theorem at_val (j : Fin m) (k : Fin o) : (at_ j k).val = k.val + o * j.val := rfl

/-- The deliveries as one family. -/
def flat (D : Fin m → Fin o → sProp 𝕄) (t : Fin (m * o)) : sProp 𝕄 := D (finProdFinEquiv.symm t).1 (finProdFinEquiv.symm t).2

theorem flat_at (D : Fin m → Fin o → sProp 𝕄) (j : Fin m) (k : Fin o) : flat D (at_ j k) = D j k := by
  unfold flat at_; rw [Equiv.symm_apply_apply]

instance flat_storable (D : Fin m → Fin o → sProp 𝕄) [h : ∀ j k, Storable (upEmb : UEmb _ 𝕄) (D j k)] (t : Fin (m * o)) :
    Storable (upEmb : UEmb _ 𝕄) (flat D t) := h _ _

theorem at_injective (j : Fin m) : Function.Injective (at_ (o := o) j) := fun k k' h => by
  have := finProdFinEquiv.injective h; exact (Prod.mk.inj this).2

/-- The transfers from stream `j` on are stream `j`'s and those from stream `j + 1` on. -/
theorem pending_stream (j : Fin m) (Φ : Fin (m * o) → sProp 𝕄) :
    bigSep (pending (j.val * o)) Φ = iprop(bigSep Finset.univ (fun k => Φ (at_ j k)) ∗ bigSep (pending ((j.val + 1) * o)) Φ) := by
  classical
  have hset : pending (n := m * o) (j.val * o) = Finset.univ.map ⟨at_ (o := o) j, at_injective j⟩ ∪ pending ((j.val + 1) * o) := by
    ext t
    simp only [pending, Finset.mem_union, Finset.mem_filter, Finset.mem_univ, _root_.true_and, Finset.mem_map, Function.Embedding.coeFn_mk]
    have hs : (j.val + 1) * o = j.val * o + o := by rw [Nat.succ_mul]
    constructor
    · intro h
      by_cases h2 : (j.val + 1) * o ≤ t.val
      · exact .inr h2
      · refine .inl ⟨⟨t.val - j.val * o, by omega⟩, Fin.ext ?_⟩
        rw [at_val, Nat.mul_comm o]; simp only; omega
    · rintro (⟨k, rfl⟩ | h)
      · rw [at_val, Nat.mul_comm o]; omega
      · omega
  have hd : Disjoint (Finset.univ.map ⟨at_ (o := o) j, at_injective j⟩) (pending (n := m * o) ((j.val + 1) * o)) := by
    refine Finset.disjoint_left.mpr fun t ht ht' => ?_
    simp only [pending, Finset.mem_filter, Finset.mem_univ, _root_.true_and, Finset.mem_map, Function.Embedding.coeFn_mk] at ht ht'
    obtain ⟨k, rfl⟩ := ht
    rw [at_val, Nat.mul_comm o, Nat.succ_mul] at ht'
    have := k.isLt; omega
  rw [hset, BI.bigSep_union hd, BI.bigSep_map]
  rfl

/-- Everything delivered is, stream by stream and row by row, what each delivers. -/
theorem flat_all (D : Fin m → Fin o → sProp 𝕄) :
    bigSep Finset.univ (flat D) = bigSep Finset.univ fun j => bigSep Finset.univ fun k => D j k := by
  classical
  have key : ∀ n (hn : n ≤ m), bigSep (pending ((m - n) * o)) (flat D)
      = bigSep (Finset.univ.filter fun j : Fin m => m - n ≤ j.val) fun j => bigSep Finset.univ fun k => D j k := by
    intro n
    induction n with
    | zero =>
      intro _
      have h1 : pending (n := m * o) ((m - 0) * o) = ∅ := by
        ext t; have := t.isLt; simp [pending]
      have h2 : (Finset.univ.filter fun j : Fin m => m - 0 ≤ j.val) = ∅ := by
        ext j; have := j.isLt; simp
      rw [h1, h2, bigSep_empty, bigSep_empty]
    | succ n ih =>
      intro hn
      have hj : m - (n + 1) < m := by omega
      have hs : m - (n + 1) + 1 = m - n := by omega
      have hp := pending_stream (o := o) ⟨m - (n + 1), hj⟩ (flat D)
      simp only [flat_at, hs] at hp
      rw [hp, ih (by omega)]
      have hf : (Finset.univ.filter fun j : Fin m => m - (n + 1) ≤ j.val)
          = insert ⟨m - (n + 1), hj⟩ (Finset.univ.filter fun j : Fin m => m - n ≤ j.val) := by
        ext j; simp only [Finset.mem_filter, Finset.mem_univ, _root_.true_and, Finset.mem_insert, Fin.ext_iff]; omega
      rw [hf, bigSep_insert (by simp; omega)]
      rfl
  have h := key m le_rfl
  rw [Nat.sub_self, Nat.zero_mul, Transfers.pending_zero] at h
  rw [h]
  congr 1
  ext j; simp

omit [Preorder Lvl] in
/-- Three families side by side. -/
theorem bigSep_sep_sep (A B C : Fin o → sProp 𝕄) :
    (bigSep Finset.univ fun i => iprop((A i ∗ B i) ∗ C i)) = iprop((bigSep Finset.univ A ∗ bigSep Finset.univ B) ∗ bigSep Finset.univ C) :=
  (BI.bigSep_sep Finset.univ (fun i => iprop(A i ∗ B i)) C).trans
    (congrArg (fun X : sProp 𝕄 => iprop(X ∗ bigSep Finset.univ C)) (BI.bigSep_sep Finset.univ A B))

end Index

/-! ## The streams in flight -/

section Rules

variable {m o : ℕ}

/-- What the subcore holds of `m` streams of `o` rows of `N` units on its cell: `j` started, the units of `u` consumed. -/
def Streams (sm : SemLoc sig) (ι : Ix) (N : ℕ) (D : Fin m → Fin o → sProp 𝕄) (j u : ℕ) : sProp 𝕄 :=
  Batch EC c sm ι N (flat D) (j * o) (u * (o * N))

/-- None started, from the cell's counter at zero. -/
theorem streams_alloc [Infinite Name] [EC.LandsIn (upEmb : UEmb _ 𝕄)] {sm : SemLoc sig} (ι : Ix) (N : ℕ) (D : Fin m → Fin o → sProp 𝕄)
    (hD : ∀ j k, Storable (upEmb : UEmb _ 𝕄) (D j k)) {E : Set Name} :
    (semVal (c, sm) 0 : sProp 𝕄) ⊢ |={E}=> Streams EC c sm ι N D 0 0 := by
  unfold Streams
  rw [Nat.zero_mul, Nat.zero_mul]
  exact Transfers.batch_alloc' EC c ι N (flat D)

/-- A STREAM STARTED: its rows `rd`, of `N` units each; `T k` is what row `k` needs — its entry of the offset list, to be had
    back behind the row —, and what it leaves is `D j k`. -/
theorem wp_stream [Infinite Name] [EC.LandsIn (upEmb : UEmb _ 𝕄)]
    {hp : c.2.kind = .scVector} {offs : Memref sig c.2.kind .vmem si .i32} {hn : si.numel = o} {sem : DmaSem sig}
    {row : Fin o → Elt F .i32 → Option (RowDma τ sig (Elt F) c.2 sem)}
    {k : PUnit → Prog (TpuEff nD τ sig (Elt F) Λ c.2) α}
    {qo : PosShare TreeShare} {fo : Buf (Elt F) (offs.view.loc c)} {rd : Fin o → RowDma τ sig (Elt F) c.2 sem} (ι : Ix) (N : ℕ)
    (hA : (Stream.issued c offs.view hn sem row 0).RowsAgree)
    (hrd : ∀ i, row i ((Stream.issued c offs.view hn sem row 0).word fo i) = some (rd i))
    (hN : ∀ i, (rd i).dst.view.dmaCredit = N)
    {D : Fin m → Fin o → sProp 𝕄} (j : Fin m) {u : ℕ} (hu : u ≤ j.val) (T : Fin o → sProp 𝕄)
    (hT : ∀ i, ∃ (q : PosShare TreeShare) (fs : Buf (Elt F) ((rd i).src.view.loc c)) (R : sProp 𝕄),
      (T i ⊢ iprop((Stream.issued c offs.view hn sem row 0).heldEntry qo fo i
          ∗ ((Stream.issued c offs.view hn sem row 0).heldEntry qo fo i -∗
              ((rd i).src.view.loc c ↦[(rd i).src.view.set]{q} fs)
                ∗ writeUpdate c (rd i).dst.view ((rd i).via.apply ((rd i).src.view.read (Elt F) fs)) R)))
      ∧ (iprop(R ∗ ((rd i).src.view.loc c ↦[(rd i).src.view.set]{q} fs)) ⊢ D j i)) :
    iprop(bigSep Finset.univ T ∗ Streams EC c (.dma sem) ι N D j.val u)
      ⊢ iprop((Streams EC c (.dma sem) ι N D (j.val + 1) u -∗ wp frame (wpE defs 𝒱 c bd) Set.univ (k ⟨⟩) Q)
          -∗ wp frame (wpE defs 𝒱 c bd) Set.univ (.op (.enqueueIndirectDma hp offs hn sem row) k) Q) := by
  unfold Streams Batch
  iintro ⟨HT, ⟨%γ, %γ₀, %κ, #Hinv, HI, H0, Hcred⟩⟩ Hk
  ihave HI' := (Entails.of_eq (pending_stream j (fun t => count EC (γ t) 0))) $$ HI
  icases HI' with ⟨Hγ, HI⟩
  have hsum : ∑ i, (rd i).dst.view.dmaCredit = o * N := sum_rowCredit_eq _ hN rfl
  iapply (wp_enqueueIndirectDma 𝒱 c bd Set.univ (qo := qo) (fo := fo) (rd := rd) ι (o * N) hA hrd hsum) $$ [HT Hγ]
  · have hrow : ∀ i, iprop(inv κ (batchBody EC (c, SemLoc.dma sem) N (flat D) γ γ₀) ∗ (T i ∗ count EC (γ (at_ j i)) 0))
        ⊢ iprop((Stream.issued c offs.view hn sem row 0).heldEntry qo fo i
          ∗ ((Stream.issued c offs.view hn sem row 0).heldEntry qo fo i -∗ rowRes c (rd i))) := fun i => by
      obtain ⟨q, fs, R, hTi, hR⟩ := hT i
      iintro ⟨#Hinv, HTi, Hc⟩
      ihave HTi' := hTi $$ HTi
      icases HTi' with ⟨He, Hback⟩
      isplitl [He]; · iexact He
      iintro He
      ihave Hb := Hback $$ He
      icases Hb with ⟨Hs, Hw⟩
      unfold rowRes
      iexists q, fs, R
      isplitl [Hs]; · iexact Hs
      isplitl [Hw]; · iexact Hw
      iapply (Entails.of_eq (show (creditUpdate (c, SemLoc.dma sem) N 0
          iprop(R ∗ ((rd i).src.view.loc c ↦[(rd i).src.view.set]{q} fs)) : sProp 𝕄)
          = creditUpdate (c, SemLoc.dma sem) ((rd i).dst.view.amount (.dma sem)) 0
          iprop(R ∗ ((rd i).src.view.loc c ↦[(rd i).src.view.set]{q} fs)) from by rw [← hN i]))
      iapply (Transfers.batch_creditUpdate EC (D := flat D) (at_ j i) (by rw [flat_at]; exact hR))
      isplitr; · iexact Hinv
      iexact Hc
    unfold Stream.res
    ihave H1 := Transfers.bigSep_sep_in _ _ _ $$ [HT Hγ]; · isplitl [HT] <;> iassumption
    iapply (Transfers.bigSep_mono_pers Finset.univ _ _ _ fun i _ => hrow i)
    isplitr; · iexact Hinv
    iexact H1
  · iintro Hcred'
    iapply Hk
    iexists γ, γ₀, κ
    isplitr; · iexact Hinv
    isplitl [HI]; · iexact HI
    isplitl [H0]; · iexact H0
    have hle : u * (o * N) ≤ j.val * (o * N) := Nat.mul_le_mul_right _ hu
    rw [show (j.val + 1) * o * N - u * (o * N) = (j.val * o * N - u * (o * N)) + o * N by
        rw [Nat.succ_mul, Nat.add_mul, Nat.mul_assoc]; omega, ← tallyAt_add]
    icombine Hcred Hcred' as H
    iexact H

/-- A WAIT for one stream's units while others remain unconsumed: nothing comes back. -/
theorem wp_streamWait [EC.LandsIn (upEmb : UEmb _ 𝕄)] {sp' : Space} {s' : Shape} {e' : EltTy} {sp'' : Space} {s'' : Shape} {e'' : EltTy} {κ' : Kind} {sem : DmaSem sig}
    {srcw : Memref sig c.2.kind sp' s' e'} {dstw : Memref sig κ' sp'' s'' e''} {hsrc : srcw.view.WordExact} {hdst : dstw.view.WordExact}
    {k : PUnit → Prog (TpuEff nD τ sig (Elt F) Λ c.2) α} (ι : Ix) {N : ℕ} (hJ : dstw.view.dmaCredit = o * N)
    {D : Fin m → Fin o → sProp 𝕄} {u : ℕ} (hu : u < m) {O : CellTallies nD τ sig Ix} {W : Waits sig Ix} :
    iprop(Streams EC c (.dma sem) ι N D m u ∗ owes c O W ∗ MayWait c (.dma sem) ι O)
      ⊢ iprop((iprop(Streams EC c (.dma sem) ι N D m (u + 1) ∗ owes c O (insert (SemLoc.dma sem, ι) W)) -∗ wp frame (wpE defs 𝒱 c bd) Set.univ (k ⟨⟩) Q)
          -∗ wp frame (wpE defs 𝒱 c bd) Set.univ (.op (.waitDma2 sem srcw dstw hsrc hdst) k) Q) := by
  unfold Streams
  rw [Nat.succ_mul]
  refine Transfers.wp_waitBatchMulO EC 𝒱 c bd ι o hJ ?_
  have : (u + 1) * (o * N) ≤ m * (o * N) := Nat.mul_le_mul_right _ hu
  rw [Nat.succ_mul] at this
  rw [show N * (m * o) = m * (o * N) by rw [Nat.mul_comm, Nat.mul_assoc]]
  exact this

/-- THE LAST WAIT: every row of every stream is in, and the counter is back at zero. -/
theorem wp_streamLast [EC.LandsIn (upEmb : UEmb _ 𝕄)] {sp' : Space} {s' : Shape} {e' : EltTy} {sp'' : Space} {s'' : Shape} {e'' : EltTy} {κ' : Kind} {sem : DmaSem sig}
    {srcw : Memref sig c.2.kind sp' s' e'} {dstw : Memref sig κ' sp'' s'' e''} {hsrc : srcw.view.WordExact} {hdst : dstw.view.WordExact}
    {k : PUnit → Prog (TpuEff nD τ sig (Elt F) Λ c.2) α} (ι : Ix) {N : ℕ} (hJ : dstw.view.dmaCredit = o * N) (hN0 : 0 < N)
    {D : Fin m → Fin o → sProp 𝕄} {u : ℕ} (hu : u + 1 = m) {O : CellTallies nD τ sig Ix} {W : Waits sig Ix} :
    iprop(Streams EC c (.dma sem) ι N D m u ∗ owes c O W ∗ MayWait c (.dma sem) ι O)
      ⊢ iprop((iprop((bigSep Finset.univ fun j => bigSep Finset.univ fun i => D j i) ∗ semVal (c, .dma sem) 0 ∗ owes c O (insert (SemLoc.dma sem, ι) W))
              -∗ wp frame (wpE defs 𝒱 c bd) Set.univ (k ⟨⟩) Q)
          -∗ wp frame (wpE defs 𝒱 c bd) Set.univ (.op (.waitDma2 sem srcw dstw hsrc hdst) k) Q) := by
  unfold Streams
  rw [← flat_all]
  refine Transfers.wp_waitBatchAllO EC 𝒱 c bd ι hJ hN0 ?_
  rw [show N * (m * o) = m * (o * N) by rw [Nat.mul_comm, Nat.mul_assoc], ← hu, Nat.succ_mul]

end Rules

/-! ## A gather's stream -/

section Gather

variable {m : ℕ}

/-- What row `i` of a gather leaves: its row of the destination at the contents `G`, its entry of the list, its piece of the
    source's share. -/
def gatherLeaves (src : Memref sig c.2.kind sp s₀ e) (dst : Memref sig c.2.kind .vmem s e) (ax : Fin s.rank) (hs : 0 < s.size ax)
    (offs : Memref sig c.2.kind .vmem si .i32) (hn : si.numel = s.size ax)
    (q qo : PosShare TreeShare) (fs : Buf (Elt F) (src.view.loc c)) (G : Buf (Elt F) (dst.view.loc c)) (fo : Buf (Elt F) (offs.view.loc c))
    (i : Fin (s.size ax)) : sProp 𝕄 :=
  iprop(((dst.view.loc c ↦[(dst.view.slice (s.rowRect ax i)).set]{fullShare} G)
      ∗ (offs.view.loc c ↦[{offs.view.emb (si.rowMajor.symm (i.cast hn.symm))}]{qo} fo))
    ∗ (src.view.loc c ↦[src.view.set]{pieceOf q _ hs i} fs))

omit [Preorder Lvl] in
theorem gatherLeaves_storable (src : Memref sig c.2.kind sp s₀ e) (dst : Memref sig c.2.kind .vmem s e) (ax : Fin s.rank) (hs : 0 < s.size ax)
    (offs : Memref sig c.2.kind .vmem si .i32) (hn : si.numel = s.size ax)
    (q qo : PosShare TreeShare) (fs : Buf (Elt F) (src.view.loc c)) (G : Buf (Elt F) (dst.view.loc c)) (fo : Buf (Elt F) (offs.view.loc c))
    (i : Fin (s.size ax)) : Storable (upEmb : UEmb _ 𝕄) (gatherLeaves c src dst ax hs offs hn q qo fs G fo i) := by
  unfold gatherLeaves; infer_instance

omit [Preorder Lvl] in
/-- Row by row, what a gather leaves: the destination at `G`, the list's share, the source's share. -/
theorem gatherLeaves_all (src : Memref sig c.2.kind sp s₀ e) (dst : Memref sig c.2.kind .vmem s e) (ax : Fin s.rank) (hs : 0 < s.size ax)
    (offs : Memref sig c.2.kind .vmem si .i32) (hn : si.numel = s.size ax)
    (q qo : PosShare TreeShare) (fs : Buf (Elt F) (src.view.loc c)) (G : Buf (Elt F) (dst.view.loc c)) (fo : Buf (Elt F) (offs.view.loc c)) :
    (bigSep Finset.univ (gatherLeaves c src dst ax hs offs hn q qo fs G fo) : sProp 𝕄)
      = iprop(((dst.view.loc c ↦[dst.view.set]{fullShare} G) ∗ (offs.view.loc c ↦[offs.view.set]{qo} fo)) ∗ (src.view.loc c ↦[src.view.set]{q} fs)) := by
  have hen : Function.Bijective fun i : Fin (s.size ax) => si.rowMajor.symm (i.cast hn.symm) :=
    si.rowMajor.symm.bijective.comp (finCongr hn.symm).bijective
  rw [pointsTo_rows c dst.view ax fullShare G, pointsTo_entries c offs.view _ hen qo fo, pointsTo_piecesOf src.view.set fs hs q]
  exact bigSep_sep_sep _ _ _

/-- A GATHER STARTED as stream `j`: of the destination (outright), the list (a share, its words in range) and the source (a
    share), `G` agreeing on the destination with the rows of the source the list names. -/
theorem wp_streamGather [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd G : Buf (Elt F) (dst.view.loc c)} {fo : Buf (Elt F) (offs.view.loc c)}
    (ι : Ix) (N : ℕ) (hN : ∀ i, (dst.slice (s.rowRect hg.axis' i) (s.stride_rowRect hg.axis' i)).view.dmaCredit = N)
    (hs : 0 < s.size hg.axis') (hin : ∀ x, (offs.view.read (Elt F) fo x).toNat < s₀.size hg.axis)
    (hG : ∀ x, dst.view.read (Elt F) G x = gatherPayload hg (src.view.read (Elt F) fs) (rows (offs.view.read (Elt F) fo) hn hin) x)
    {D : Fin m → Fin (s.size hg.axis') → sProp 𝕄} (j : Fin m) {u : ℕ} (hu : u ≤ j.val)
    (hD : D j = gatherLeaves c src dst hg.axis' hs offs hn q qo fs G fo) :
    iprop(((dst.view.loc c ↦[dst.view.set]{fullShare} fd) ∗ (offs.view.loc c ↦[offs.view.set]{qo} fo) ∗ (src.view.loc c ↦[src.view.set]{q} fs))
        ∗ Streams EC c (.dma sem) ι N D j.val u)
      ⊢ iprop((Streams EC c (.dma sem) ι N D (j.val + 1) u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let row : Fin (s.size hg.axis') → Elt F .i32 → Option (RowDma τ sig (Elt F) c.2 sem) :=
    fun i w => (rowOf (s₀.size hg.axis) w).map (gatherRow c src dst hg sem hsrc he hsp hr i)
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  have hA : (Stream.issued c offs.view hn sem row 0).RowsAgree := by
    intro i x x' ρ ρ' h h'
    obtain ⟨_, _, rfl⟩ := Option.map_eq_some_iff.mp h
    obtain ⟨_, _, rfl⟩ := Option.map_eq_some_iff.mp h'
    rfl
  have hrd : ∀ i, row i ((Stream.issued c offs.view hn sem row 0).word fo i) = some (rd i) := fun i => by
    change (rowOf (s₀.size hg.axis) (offs.view.read (Elt F) fo (si.rowMajor.symm (i.cast hn.symm)))).map _ = _
    rw [rowOf_of_lt (hin _)]; rfl
  have hen : Function.Bijective fun i : Fin (s.size hg.axis') => si.rowMajor.symm (i.cast hn.symm) :=
    si.rowMajor.symm.bijective.comp (finCongr hn.symm).bijective
  -- one row's write lands on `G`
  have hland : ∀ i, ((dst.view.loc c ↦[(dst.view.slice (s.rowRect hg.axis' i)).set]{fullShare}
        ((dst.view.slice (s.rowRect hg.axis' i)).write (Elt F) fd (fun x => src.view.read (Elt F) fs (hg.rowIdx (r i) x)) Finset.univ)) : sProp 𝕄)
      = dst.view.loc c ↦[(dst.view.slice (s.rowRect hg.axis' i)).set]{fullShare} G := fun i => by
    refine pointsTo_congr fun b hb => ?_
    obtain ⟨x, -, rfl⟩ := Finset.mem_map.mp hb
    have h1 := View.write_emb_of_mem (Val := Elt F) (v := dst.view.slice (s.rowRect hg.axis' i)) fd
      (fun x => src.view.read (Elt F) fs (hg.rowIdx (r i) x)) (M := Finset.univ) (Finset.mem_univ x)
    rw [h1]
    exact elt_of_read ((hG ((s.rowRect hg.axis' i).emb x)).trans (congrArg (src.view.read (Elt F) fs) (Shape.Gathers.idx_rowRect_emb hg r i x)))
  refine Entails.trans ?_ (wp_stream EC 𝒱 c bd (row := row) (rd := rd) (qo := qo) (fo := fo) ι N hA hrd hN j hu
    (fun i => iprop(((dst.view.loc c ↦[(dst.view.slice (s.rowRect hg.axis' i)).set]{fullShare} fd)
      ∗ (offs.view.loc c ↦[{offs.view.emb (si.rowMajor.symm (i.cast hn.symm))}]{qo} fo))
      ∗ (src.view.loc c ↦[src.view.set]{pieceOf q _ hs i} fs))) fun i => ?_)
  · rw [pointsTo_rows c dst.view hg.axis' fullShare fd, pointsTo_entries c offs.view _ hen qo fo, pointsTo_piecesOf src.view.set fs hs q]
    iintro ⟨⟨Hd, Ho, Hs⟩, HB⟩
    ihave H1 := Transfers.bigSep_sep_in _ _ _ $$ [Hd Ho]; · isplitl [Hd] <;> iassumption
    ihave H2 := Transfers.bigSep_sep_in _ _ _ $$ [H1 Hs]; · isplitl [H1] <;> iassumption
    isplitl [H2] <;> iassumption
  · refine ⟨pieceOf q _ hs i, fs, iprop((dst.view.loc c ↦[(dst.view.slice (s.rowRect hg.axis' i)).set]{fullShare}
        ((dst.view.slice (s.rowRect hg.axis' i)).write (Elt F) fd (fun x => src.view.read (Elt F) fs (hg.rowIdx (r i) x)) Finset.univ))
      ∗ (offs.view.loc c ↦[{offs.view.emb (si.rowMajor.symm (i.cast hn.symm))}]{qo} fo)), ?_, ?_⟩
    · iintro ⟨⟨Hd, He⟩, Hs⟩
      isplitl [He]; · iexact He
      iintro He
      isplitl [Hs]; · iexact Hs
      iapply writeUpdate_frame
      isplitl [Hd]
      · iapply (pointsTo_writeUpdate c (v := dst.view.slice (s.rowRect hg.axis' i)) subset_rfl) $$ Hd
      · iexact He
    · rw [hland i, hD]; exact .rfl

end Gather

/-! ## A scatter's stream -/

section Scatter

variable {m : ℕ}

/-- What row `i` of a scatter leaves: the row of the target its entry names at the contents `G`, its entry of the list, its row
    of the source. -/
def scatterLeaves (src : Memref sig c.2.kind .vmem s e) (dst : Memref sig c.2.kind sp s₀ e) (ax : Fin s.rank) (ax₀ : Fin s₀.rank)
    (offs : Memref sig c.2.kind .vmem si .i32) (hn : si.numel = s.size ax) (r : Fin (s.size ax) → Fin (s₀.size ax₀))
    (q qo : PosShare TreeShare) (fs : Buf (Elt F) (src.view.loc c)) (G : Buf (Elt F) (dst.view.loc c)) (fo : Buf (Elt F) (offs.view.loc c))
    (i : Fin (s.size ax)) : sProp 𝕄 :=
  iprop(((dst.view.loc c ↦[(dst.view.slice (s₀.rowRect ax₀ (r i))).set]{fullShare} G)
      ∗ (offs.view.loc c ↦[{offs.view.emb (si.rowMajor.symm (i.cast hn.symm))}]{qo} fo))
    ∗ (src.view.loc c ↦[(src.view.slice (s.rowRect ax i)).set]{q} fs))

omit [Preorder Lvl] in
theorem scatterLeaves_storable (src : Memref sig c.2.kind .vmem s e) (dst : Memref sig c.2.kind sp s₀ e) (ax : Fin s.rank) (ax₀ : Fin s₀.rank)
    (offs : Memref sig c.2.kind .vmem si .i32) (hn : si.numel = s.size ax) (r : Fin (s.size ax) → Fin (s₀.size ax₀))
    (q qo : PosShare TreeShare) (fs : Buf (Elt F) (src.view.loc c)) (G : Buf (Elt F) (dst.view.loc c)) (fo : Buf (Elt F) (offs.view.loc c))
    (i : Fin (s.size ax)) : Storable (upEmb : UEmb _ 𝕄) (scatterLeaves c src dst ax ax₀ offs hn r q qo fs G fo i) := by
  unfold scatterLeaves; infer_instance

omit [Preorder Lvl] in
/-- Row by row, what a scatter leaves: the named rows of the target at `G`, the list's share, the source's share. -/
theorem scatterLeaves_all (src : Memref sig c.2.kind .vmem s e) (dst : Memref sig c.2.kind sp s₀ e) (ax : Fin s.rank) (ax₀ : Fin s₀.rank)
    (offs : Memref sig c.2.kind .vmem si .i32) (hn : si.numel = s.size ax) (r : Fin (s.size ax) → Fin (s₀.size ax₀)) (hinj : Function.Injective r)
    (q qo : PosShare TreeShare) (fs : Buf (Elt F) (src.view.loc c)) (G : Buf (Elt F) (dst.view.loc c)) (fo : Buf (Elt F) (offs.view.loc c)) :
    (bigSep Finset.univ (scatterLeaves c src dst ax ax₀ offs hn r q qo fs G fo) : sProp 𝕄)
      = iprop(((dst.view.loc c ↦[namedRows c dst.view ax₀ r]{fullShare} G) ∗ (offs.view.loc c ↦[offs.view.set]{qo} fo)) ∗ (src.view.loc c ↦[src.view.set]{q} fs)) := by
  have hen : Function.Bijective fun i : Fin (s.size ax) => si.rowMajor.symm (i.cast hn.symm) :=
    si.rowMajor.symm.bijective.comp (finCongr hn.symm).bijective
  rw [namedRows_eq, pointsTo_biUnion (ℓ := dst.view.loc c) Finset.univ _ fun i _ i' _ h => dst.view.disjoint_rows ax₀ fun e => h (hinj e),
    pointsTo_entries c offs.view _ hen qo fo, pointsTo_rows c src.view ax q fs]
  exact bigSep_sep_sep _ _ _

/-- A SCATTER STARTED as stream `j`: of the target's named rows (outright, pairwise distinct), the list (a share, its words in
    range) and the source (a share), `G` agreeing on each named row with the source's row. -/
theorem wp_streamScatter [Infinite Name] [EC.LandsIn (upEmb : UEmb _ 𝕄)]
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd G : Buf (Elt F) (dst.view.loc c)} {fo : Buf (Elt F) (offs.view.loc c)}
    (ι : Ix) (N : ℕ) (hin : ∀ x, (offs.view.read (Elt F) fo x).toNat < s₀.size hg.axis)
    (hinj : Function.Injective (rows (offs.view.read (Elt F) fo) hn hin))
    (hN : ∀ i, (dst.slice (s₀.rowRect hg.axis i) (s₀.stride_rowRect hg.axis i)).view.dmaCredit = N)
    (hG : ∀ i x, (dst.view.slice (s₀.rowRect hg.axis (rows (offs.view.read (Elt F) fo) hn hin i))).read (Elt F) G x = scatterRowPayload c src hg fs i x)
    {D : Fin m → Fin (s.size hg.axis') → sProp 𝕄} (j : Fin m) {u : ℕ} (hu : u ≤ j.val)
    (hD : D j = scatterLeaves c src dst hg.axis' hg.axis offs hn (rows (offs.view.read (Elt F) fo) hn hin) q qo fs G fo) :
    iprop(((dst.view.loc c ↦[namedRows c dst.view hg.axis (rows (offs.view.read (Elt F) fo) hn hin)]{fullShare} fd)
          ∗ (offs.view.loc c ↦[offs.view.set]{qo} fo) ∗ (src.view.loc c ↦[src.view.set]{q} fs))
        ∗ Streams EC c (.dma sem) ι N D j.val u)
      ⊢ iprop((Streams EC c (.dma sem) ι N D (j.val + 1) u -∗ wp frame (wpE defs 𝒱 c bd) Set.univ (k ⟨⟩) Q)
          -∗ wp frame (wpE defs 𝒱 c bd) Set.univ (enqueueIndirectScatter hp src dst hg offs hn sem he hsp hr >>= k) Q) := by
  rw [enqueueIndirectScatter_bind]
  let row : Fin (s.size hg.axis') → Elt F .i32 → Option (RowDma τ sig (Elt F) c.2 sem) :=
    fun i w => (rowOf (s₀.size hg.axis) w).map (scatterRow c src dst hg sem he hsp hr i)
  let r : Fin (s.size hg.axis') → Fin (s₀.size hg.axis) := rows (offs.view.read (Elt F) fo) hn hin
  let rd : Fin (s.size hg.axis') → RowDma τ sig (Elt F) c.2 sem := fun i => scatterRow c src dst hg sem he hsp hr i (r i)
  have hA : (Stream.issued c offs.view hn sem row 0).RowsAgree := by
    intro i x x' ρ ρ' h h'
    obtain ⟨_, _, rfl⟩ := Option.map_eq_some_iff.mp h
    obtain ⟨_, _, rfl⟩ := Option.map_eq_some_iff.mp h'
    rfl
  have hrd : ∀ i, row i ((Stream.issued c offs.view hn sem row 0).word fo i) = some (rd i) := fun i => by
    change (rowOf (s₀.size hg.axis) (offs.view.read (Elt F) fo (si.rowMajor.symm (i.cast hn.symm)))).map _ = _
    rw [rowOf_of_lt (hin _)]; rfl
  have hen : Function.Bijective fun i : Fin (s.size hg.axis') => si.rowMajor.symm (i.cast hn.symm) :=
    si.rowMajor.symm.bijective.comp (finCongr hn.symm).bijective
  have hset : ∀ i, (src.view.slice (s.rowRect hg.axis' i)).set = (rd i).src.view.set := fun i =>
    (View.set_cast (v := src.view.slice (s.rowRect hg.axis' i)) _ _).symm
  have hland : ∀ i, ((dst.view.loc c ↦[(dst.view.slice (s₀.rowRect hg.axis (r i))).set]{fullShare}
        ((dst.view.slice (s₀.rowRect hg.axis (r i))).write (Elt F) fd (scatterRowPayload c src hg fs i) Finset.univ)) : sProp 𝕄)
      = dst.view.loc c ↦[(dst.view.slice (s₀.rowRect hg.axis (r i))).set]{fullShare} G := fun i => by
    refine pointsTo_congr fun b hb => ?_
    obtain ⟨x, -, rfl⟩ := Finset.mem_map.mp hb
    have h1 := View.write_emb_of_mem (Val := Elt F) (v := dst.view.slice (s₀.rowRect hg.axis (r i))) fd
      (scatterRowPayload c src hg fs i) (M := Finset.univ) (Finset.mem_univ x)
    rw [h1]
    exact elt_of_read (hG i x)
  refine Entails.trans ?_ (wp_stream EC 𝒱 c bd (row := row) (rd := rd) (qo := qo) (fo := fo) ι N hA hrd (fun i => hN (r i)) j hu
    (fun i => iprop(((dst.view.loc c ↦[(dst.view.slice (s₀.rowRect hg.axis (r i))).set]{fullShare} fd)
      ∗ (offs.view.loc c ↦[{offs.view.emb (si.rowMajor.symm (i.cast hn.symm))}]{qo} fo))
      ∗ (src.view.loc c ↦[(src.view.slice (s.rowRect hg.axis' i)).set]{q} fs))) fun i => ?_)
  · rw [namedRows_eq, pointsTo_biUnion (ℓ := dst.view.loc c) Finset.univ _ fun i _ i' _ h => dst.view.disjoint_rows hg.axis fun e => h (hinj e),
      pointsTo_entries c offs.view _ hen qo fo, pointsTo_rows c src.view hg.axis' q fs]
    iintro ⟨⟨Hd, Ho, Hs⟩, HB⟩
    ihave H1 := Transfers.bigSep_sep_in _ _ _ $$ [Hd Ho]; · isplitl [Hd] <;> iassumption
    ihave H2 := Transfers.bigSep_sep_in _ _ _ $$ [H1 Hs]; · isplitl [H1] <;> iassumption
    isplitl [H2] <;> iassumption
  · refine ⟨q, fs, iprop((dst.view.loc c ↦[(dst.view.slice (s₀.rowRect hg.axis (r i))).set]{fullShare}
        ((dst.view.slice (s₀.rowRect hg.axis (r i))).write (Elt F) fd (scatterRowPayload c src hg fs i) Finset.univ))
      ∗ (offs.view.loc c ↦[{offs.view.emb (si.rowMajor.symm (i.cast hn.symm))}]{qo} fo)), ?_, ?_⟩
    · iintro ⟨⟨Hd, He⟩, Hs⟩
      isplitl [He]; · iexact He
      iintro He
      isplitl [Hs]; · iapply (Entails.of_eq (congrArg (fun I => (src.view.loc c ↦[I]{q} fs : sProp 𝕄)) (hset i))) $$ Hs
      iapply writeUpdate_frame
      isplitl [Hd]
      · iapply (pointsTo_writeUpdate c (v := dst.view.slice (s₀.rowRect hg.axis (r i))) subset_rfl) $$ Hd
      · iexact He
    · rw [hland i, hD]
      unfold scatterLeaves
      exact Entails.of_eq (by rw [hset i])

end Scatter

end Cert.Streams
-- ==== Proof.Sections.lean ====
/-
  A BUFFER BY SECTIONS.

  Every element of a buffer is given a number by a key; the elements whose number lies in an interval are a section. A
  points-to over a section is the points-to over the two parts of any cut of its interval, and over its equal pieces. A tile that
  fills its part of an array chunk by chunk holds the section it has filled and the section still to fill.
-/
module

public import Idealize.ShloMosaic.Lib.SparseCore.Scatter
public import Idealize.ShloMosaic.Lib.Tactic

@[expose] public section

noncomputable section

namespace Cert.Sections

open Idealize.ShloMosaic Idealize.ShloMosaic.SparseCore
open Idealize.SL
open Idealize.SL.BI (sProp bigSep bigSep_insert bigSep_singleton)
open scoped Idealize.SL.BI
open Idealize.SL.BI.BIBase Idealize.SL.BI.Laws Idealize.SL.ProofMode
open Idealize.SL.RA

section Sets

variable {I : Type} [Fintype I] (key : I → ℕ)

/-- The elements whose number is at least `lo` and below `hi`. -/
def sect (lo hi : ℕ) : Finset I := Finset.univ.filter fun i => lo ≤ key i ∧ key i < hi

variable {key}

theorem mem_sect {lo hi : ℕ} {i : I} : i ∈ sect key lo hi ↔ lo ≤ key i ∧ key i < hi := by simp [sect]

theorem sect_disjoint {lo hi lo' hi' : ℕ} (h : hi ≤ lo') : Disjoint (sect key lo hi) (sect key lo' hi') := by
  rw [Finset.disjoint_left]; intro i hi h'; rw [mem_sect] at hi h'; omega

theorem sect_union [DecidableEq I] {lo mid hi : ℕ} (h₁ : lo ≤ mid) (h₂ : mid ≤ hi) : sect key lo mid ∪ sect key mid hi = sect key lo hi := by
  ext i; rw [Finset.mem_union, mem_sect, mem_sect, mem_sect]; omega

theorem sect_univ {n : ℕ} (h : ∀ i, key i < n) : sect key 0 n = Finset.univ := by
  ext i; simp [mem_sect, h i]

theorem sect_self (lo : ℕ) : sect key lo lo = ∅ := by
  ext i; simp only [mem_sect, Finset.notMem_empty, iff_false]; omega

/-- An interval of `n` pieces of `w` numbers each. -/
theorem sect_pieces [DecidableEq I] (lo n w : ℕ) :
    (Finset.univ : Finset (Fin n)).biUnion (fun j => sect key (lo + j.val * w) (lo + j.val * w + w)) = sect key lo (lo + n * w) := by
  ext i
  simp only [Finset.mem_biUnion, Finset.mem_univ, _root_.true_and, mem_sect]
  constructor
  · rintro ⟨j, h₁, h₂⟩
    have : (j.val + 1) * w ≤ n * w := Nat.mul_le_mul_right w j.isLt
    rw [Nat.succ_mul] at this
    omega
  · rintro ⟨h₁, h₂⟩
    have hw : 0 < w := Nat.pos_of_ne_zero fun h => by subst h; omega
    have hk : (key i - lo) / w < n := (Nat.div_lt_iff_lt_mul hw).mpr (by omega)
    refine ⟨⟨(key i - lo) / w, hk⟩, ?_, ?_⟩
    · have := Nat.div_mul_le_self (key i - lo) w
      show lo + (key i - lo) / w * w ≤ key i
      omega
    · have := Nat.lt_div_mul_add hw (a := key i - lo)
      show key i < lo + (key i - lo) / w * w + w
      omega

theorem sect_pieces_disjoint (lo n w : ℕ) :
    ∀ j ∈ (Finset.univ : Finset (Fin n)), ∀ j' ∈ (Finset.univ : Finset (Fin n)), j ≠ j' →
      Disjoint (sect key (lo + j.val * w) (lo + j.val * w + w)) (sect key (lo + j'.val * w) (lo + j'.val * w + w)) := by
  intro j _ j' _ hne
  rcases Nat.lt_or_gt_of_ne (fun h => hne (Fin.ext h) : j.val ≠ j'.val) with h | h
  · refine sect_disjoint ?_
    have := Nat.mul_le_mul_right w (Nat.succ_le_of_lt h); rw [Nat.succ_mul] at this; omega
  · refine (sect_disjoint ?_).symm
    have := Nat.mul_le_mul_right w (Nat.succ_le_of_lt h); rw [Nat.succ_mul] at this; omega

end Sets

section Pts

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

variable {ℓ : Loc nD τ sig} {key : Idx ℓ → ℕ} {q : PosShare TreeShare} {f : Buf Val ℓ}

/-- A section cut in two. -/
theorem pts_cut {lo hi : ℕ} (mid : ℕ) (h₁ : lo ≤ mid) (h₂ : mid ≤ hi) :
    (ℓ ↦[sect key lo hi]{q} f : sProp 𝕄) = iprop((ℓ ↦[sect key lo mid]{q} f) ∗ ℓ ↦[sect key mid hi]{q} f) := by
  rw [← sect_union h₁ h₂]
  exact BI.Entails.antisymm (pointsTo_union (sect_disjoint le_rfl)).1 (pointsTo_union (sect_disjoint le_rfl)).2

/-- A section by its equal pieces. -/
theorem pts_pieces (lo n w : ℕ) :
    (ℓ ↦[sect key lo (lo + n * w)]{q} f : sProp 𝕄)
      = bigSep Finset.univ fun j : Fin n => ℓ ↦[sect key (lo + j.val * w) (lo + j.val * w + w)]{q} f := by
  rw [← sect_pieces, pointsTo_biUnion _ _ (sect_pieces_disjoint lo n w)]

/-- Four of them, one by one. -/
theorem bigSep_four {M : Type} [URA M] (Φ : Fin 4 → sProp M) : bigSep Finset.univ Φ = iprop(Φ 0 ∗ Φ 1 ∗ Φ 2 ∗ Φ 3) := by
  rw [show (Finset.univ : Finset (Fin 4)) = {0, 1, 2, 3} from by decide, bigSep_insert (by decide), bigSep_insert (by decide),
    bigSep_insert (by decide), bigSep_singleton]
  rfl

/-- Three families side by side are the family of the triples. -/
theorem bigSep_triples {M : Type} [URA M] {n : ℕ} (A B C : Fin n → sProp M) :
    (bigSep Finset.univ fun i => iprop((A i ∗ B i) ∗ C i)) = iprop((bigSep Finset.univ A ∗ bigSep Finset.univ B) ∗ bigSep Finset.univ C) :=
  (BI.bigSep_sep _ _ _).trans (congrArg (fun X => iprop(X ∗ bigSep Finset.univ C)) (BI.bigSep_sep _ _ _))

end Pts

end Cert.Sections
-- ==== Proof.Rows.lean ====
/-
  The rows the two SparseCore kernels move, as functions of the destinations: where each entry's row goes, and what the
  scattered and the gathered arrays hold.
-/
module

public import Idealize.ShloMosaic.Lib.ValueIdxCore

@[expose] public section

noncomputable section

namespace Cert.Rows

open Idealize.ShloMosaic

/-- Entry `n` of the destinations, in row-major order, is row `σ n`. -/
def Ranked (f : (⟨3, ![256, 32, 128]⟩ : Shape).Idx → BitVec 32) (σ : Equiv.Perm (Fin 1048576)) : Prop :=
  ∀ x : (⟨3, ![256, 32, 128]⟩ : Shape).Idx,
    (f x).toNat = (σ (Fin.ofNat 1048576 ((x 0).val * 4096 + (x 1).val * 128 + (x 2).val))).val

/-- Row `n` of the gathered rows: row `σ n` of the array gathered from. -/
def gathered {α : Type} (σ : Equiv.Perm (Fin 1048576)) (x : (⟨2, ![1048576, 128]⟩ : Shape).Idx → α) :
    (⟨2, ![1048576, 128]⟩ : Shape).Idx → α :=
  fun i => x (Shape.pair (d := ![1048576, 128]) (σ (i 0)) (i 1))

/-- The row of the scattered array's source that entry `n` sends: the 64 blocks of 4096 rows in turn. -/
def sentRow (n : Fin 1048576) : Fin 262144 := ⟨n.val / 4096 % 64 * 4096 + n.val % 4096, by omega⟩

/-- Row `n` of the scattered rows: the row that the entry with destination `n` sends. -/
def scattered {α : Type} (σ : Equiv.Perm (Fin 1048576)) (x : (⟨2, ![262144, 128]⟩ : Shape).Idx → α) :
    (⟨2, ![1048576, 128]⟩ : Shape).Idx → α :=
  fun i => x (Shape.pair (d := ![262144, 128]) (sentRow (σ.symm (i 0))) (i 1))

/-- The permutation of all 1048576 rows that permutes each of the 256 blocks of 4096 by its own permutation. -/
def blocks (π : Fin 256 → Equiv.Perm (Fin 4096)) : Equiv.Perm (Fin 1048576) where
  toFun n := ⟨n.val / 4096 * 4096 + (π ⟨n.val / 4096, by omega⟩ ⟨n.val % 4096, by omega⟩).val, by
    have := (π ⟨n.val / 4096, by omega⟩ ⟨n.val % 4096, by omega⟩).isLt
    omega⟩
  invFun n := ⟨n.val / 4096 * 4096 + ((π ⟨n.val / 4096, by omega⟩).symm ⟨n.val % 4096, by omega⟩).val, by
    have := ((π ⟨n.val / 4096, by omega⟩).symm ⟨n.val % 4096, by omega⟩).isLt
    omega⟩
  left_inv n := by
    apply Fin.ext
    generalize hp : π ⟨n.val / 4096, by omega⟩ = p
    have h1 := (p ⟨n.val % 4096, by omega⟩).isLt
    have ed : (n.val / 4096 * 4096 + (p ⟨n.val % 4096, by omega⟩).val) / 4096 = n.val / 4096 := by omega
    have em : (n.val / 4096 * 4096 + (p ⟨n.val % 4096, by omega⟩).val) % 4096 = (p ⟨n.val % 4096, by omega⟩).val := by omega
    simp only [hp, ed, em, Fin.eta, Equiv.symm_apply_apply]
    omega
  right_inv n := by
    apply Fin.ext
    generalize hp : π ⟨n.val / 4096, by omega⟩ = p
    have h1 := (p.symm ⟨n.val % 4096, by omega⟩).isLt
    have ed : (n.val / 4096 * 4096 + (p.symm ⟨n.val % 4096, by omega⟩).val) / 4096 = n.val / 4096 := by omega
    have em : (n.val / 4096 * 4096 + (p.symm ⟨n.val % 4096, by omega⟩).val) % 4096 = (p.symm ⟨n.val % 4096, by omega⟩).val := by omega
    simp only [hp, ed, em, Fin.eta, Equiv.apply_symm_apply]
    omega

end Cert.Rows

end
-- ==== Proof.SetupIdeal.lean ====
/-
  THE PROGRAM AS THE LAUNCH THEOREM SEES IT: its calls, the resource algebra of the proof, its arrays and each vector subcore's
  scratch.
-/
module

public import proofs.«01_k».proof.Proof.Gen.KernelIdeal.Skeleton
public import proofs.«01_k».proof.Proof.Streams
public import proofs.«01_k».proof.Proof.Sections
public import proofs.«01_k».proof.Proof.Rows
public import Idealize.ShloMosaic.Lib.SparseCore.Quiescent
public import Idealize.ShloMosaic.Lib.Pipeline.ValueKit.Geometry

@[expose] public section

noncomputable section

namespace Cert.KernelIdeal.Sc

open Cert.KernelIdeal Cert.KernelIdeal.Gen Cert.Sections Cert.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 2 := sc (F := F)
abbrev 𝒱₀ : Variants := Variants.none
abbrev 𝒱 : Variants := 𝒱₀.lift
abbrev v₀ : 𝒱.V := Sum.inl none
abbrev D [FloatOps F] : Defs nD τ sig (Elt F) (ΛP (F := F)) := Pipeline.defs pcfgs defs₀

/-- The launch's own rounds beside the transfers' counters. -/
abbrev UU : Type := URounds (GSem nD τ sig) ℕ × Counters

local notation "𝕄" => MT nD τ sig (HIx 2) (Elt F) ℕ UU ℕ

abbrev EH : Emb (URounds (GSem nD τ sig) ℕ) (MT nD τ sig (HIx 2) (Elt F) ℕ UU ℕ) := embL

/-! ## The arrays -/

/-- The rows to scatter, the destinations, the rows to gather from, the scattered rows, the gathered rows. -/
abbrev qLoc (d : Dev nD) : Loc nD τ sig := (SparseCore.T d).loc main_arg0
abbrev dLoc (d : Dev nD) : Loc nD τ sig := (SparseCore.T d).loc main_arg1
abbrev oLoc (d : Dev nD) : Loc nD τ sig := (SparseCore.T d).loc main_arg2
abbrev sLoc (d : Dev nD) : Loc nD τ sig := (SparseCore.T d).loc main_v0
abbrev uLoc (d : Dev nD) : Loc nD τ sig := (SparseCore.T d).loc main_v1

/-! ## Indices of the chunk windows -/

/-- Entry `x` of row `j` of a chunk's list, placed in the list. -/
theorem row_emb (j : ℕ) (inb : ∀ a, (![j, 0] : Fin 2 → ℕ) a + S1x128.size a ≤ S4x128.size a) (h : S128.numel = S1x128.numel) (x : S128.Idx) (a : Fin 2) :
    ((Rect.unit (s := S4x128) ![j, 0] S1x128.size inb).emb (Shape.reshapeEquiv h x) a).val = (![j, (x 0).val] : Fin 2 → ℕ) a := by
  rw [ValueKit.rect_emb_unit_val, Shape.reshapeEquiv_cons_one (d := ![128]) h x]
  match a with
  | 0 => rfl
  | 1 => exact Nat.zero_add _

/-- Entry `x` of a chunk's list, placed in the destinations. -/
theorem list_emb (off : Fin 3 → ℕ) (inb : ∀ a, off a + S1x4x128.size a ≤ S256x32x128.size a) (h : S4x128.numel = S1x4x128.numel) (x : S4x128.Idx)
    (a : Fin 3) :
    ((Rect.unit (s := S256x32x128) off S1x4x128.size inb).emb (Shape.reshapeEquiv h x) a).val = off a + (![0, (x 0).val, (x 1).val] : Fin 3 → ℕ) a := by
  rw [ValueKit.rect_emb_unit_val, Shape.reshapeEquiv_cons_one (d := ![4, 128]) h x]
  match a with
  | 0 => rfl
  | 1 => rfl
  | 2 => rfl

/-- The elements of row `j` of a chunk's list. -/
theorem row_set (j : ℕ) (inb : ∀ a, (![j, 0] : Fin 2 → ℕ) a + S1x128.size a ≤ S4x128.size a) :
    (Rect.unit (s := S4x128) ![j, 0] S1x128.size inb).set = sect (fun i : S4x128.Idx => (i 0).val) (0 + j * 1) (0 + j * 1 + 1) := by
  ext i
  rw [Rect.mem_set_unit, mem_sect]
  constructor
  · intro h; have h0 := h 0
    change j ≤ (i 0).val ∧ (i 0).val < j + 1 at h0; omega
  · rintro h a
    match a with
    | 0 => show j ≤ (i 0).val ∧ (i 0).val < j + 1; omega
    | 1 => exact ⟨Nat.zero_le _, (i 1).isLt.trans_eq (Nat.zero_add _).symm⟩

/-- The elements of rows `128 j … 128 j + 127` of a chunk. -/
theorem blk_set (j : ℕ) (inb : ∀ a, (![128 * j, 0] : Fin 2 → ℕ) a + S128x128.size a ≤ S512x128.size a) :
    (Rect.unit (s := S512x128) ![128 * j, 0] S128x128.size inb).set = sect (fun i : S512x128.Idx => (i 0).val) (0 + j * 128) (0 + j * 128 + 128) := by
  ext i
  rw [Rect.mem_set_unit, mem_sect]
  constructor
  · intro h; have h0 := h 0
    change 128 * j ≤ (i 0).val ∧ (i 0).val < 128 * j + 128 at h0; omega
  · rintro h a
    match a with
    | 0 => show 128 * j ≤ (i 0).val ∧ (i 0).val < 128 * j + 128; omega
    | 1 => exact ⟨Nat.zero_le _, (i 1).isLt.trans_eq (Nat.zero_add _).symm⟩

theorem row_inb (j : Fin 4) : ∀ a, (![j.val, 0] : Fin 2 → ℕ) a + S1x128.size a ≤ S4x128.size a := by
  intro a
  match a with
  | 0 => show j.val + 1 ≤ 4; omega
  | 1 => show 0 + 128 ≤ 128; omega

theorem blk_inb (j : Fin 4) : ∀ a, (![128 * j.val, 0] : Fin 2 → ℕ) a + S128x128.size a ≤ S512x128.size a := by
  intro a
  match a with
  | 0 => show 128 * j.val + 128 ≤ 512; omega
  | 1 => show 0 + 128 ≤ 128; omega

/-- Position `k` of a list of 128 is entry `k`. -/
theorem list_pos (k : Fin S128.numel) : ((S128.rowMajor.symm k) 0).val = k.val := by
  have h := Shape.rowMajor_val_one (d := ![128]) (S128.rowMajor.symm k)
  rw [Equiv.apply_symm_apply] at h
  exact h.symm

/-! ## A vector subcore's coordinates -/

abbrev cV (L : grid0.Coords) : Fin τ.nSC := (L 0).castLE hcore0
abbrev jV (L : grid0.Coords) : Fin τ.nSub := (L 1).castLE hsub0

end Cert.KernelIdeal.Sc
-- ==== Proof.ScatterTileIdeal.lean ====
/-
  THE SCATTER ON ONE VECTOR SUBCORE: its trips, its two counted loops, its task.
-/
module

public import proofs.«01_k».proof.Proof.SetupIdeal

@[expose] public section

noncomputable section

namespace Cert.KernelIdeal.Sc

open Cert.KernelIdeal Cert.KernelIdeal.Gen Cert.Sections Cert.Streams Cert.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

namespace Scatter

/-- The rows to scatter, the destinations, the scattered rows; the list of a chunk, the rows of a chunk. -/
local notation "qV" => (Memref.whole main_arg0_scv : Memref sig Kind.scVector Space.hbm S262144x128 EltTy.f32)
local notation "dV" => (Memref.whole main_arg1_scv : Memref sig Kind.scVector Space.hbm S256x32x128 EltTy.i32)
local notation "sV" => (Memref.whole main_v0_scv : Memref sig Kind.scVector Space.hbm S1048576x128 EltTy.f32)
local notation "iV" => (Memref.whole cc0_scratch0 : Memref sig Kind.scVector Space.vmem S4x128 EltTy.i32)
local notation "rV" => (Memref.whole cc0_scratch1 : Memref sig Kind.scVector Space.vmem S512x128 EltTy.f32)

variable [FloatOps F] (d : Dev nD) (L : grid0.Coords)

abbrev thr : Thread nD τ := V d ((L 0).castLE hcore0) ((L 1).castLE hsub0)

/-- The entry that names an element's row. -/
abbrev entKey (σ : Equiv.Perm (Fin 1048576)) (i : S1048576x128.Idx) : ℕ := (σ.symm (i 0)).val

/-- The position of the first entry of chunk `t2` of instance `t1`. -/
def base (L : grid0.Coords) (t1 t2 : ℕ) : ℕ := 65536 * (L 1).val + 32768 * (L 0).val + 4096 * t1 + 512 * t2

/-- Chunk window of the destinations and of the rows to scatter, as the trip addresses them. -/
abbrev dWin (t1 : Fin k0_t1_loop.trips) (t2 : Fin k0_t2_loop.trips) : Memref sig .scVector .hbm S4x128 .i32 :=
  ((dV).slice (Rect.unit (s := S256x32x128) (k0_off1 L t1 t2) S1x4x128.size (k0_off1_inb L t1 t2)) (fun _ => rfl)).squeeze S4x128 squeezes_S1x4x128_S4x128
abbrev qWin (t1 : Fin k0_t1_loop.trips) (t2 : Fin k0_t2_loop.trips) : Memref sig .scVector .hbm S512x128 .f32 :=
  (qV).slice (Rect.unit (s := S262144x128) (k0_off2 L t1 t2) S512x128.size (k0_off2_inb L t1 t2)) (fun _ => rfl)

/-- Row `j` of the chunk's list, rows `128 j …` of the chunk's buffer, the array scattered into. -/
abbrev iRow (j : Fin 4) : Memref sig .scVector .vmem S128 .i32 :=
  ((iV).slice (Rect.unit (s := S4x128) ![j.val, 0] S1x128.size (row_inb j)) (fun _ => rfl)).squeeze S128 squeezes_S1x128_S128
abbrev rBlk (j : Fin 4) : Memref sig .scVector .vmem S128x128 .f32 :=
  (rV).slice (Rect.unit (s := S512x128) ![128 * j.val, 0] S128x128.size (blk_inb j)) (fun _ => rfl)
abbrev sAll : Memref sig .scVector .hbm S1048576x128 .f32 :=
  (sV).slice (Rect.unit (s := S1048576x128) ![0, 0] S1048576x128.size inb_S1048576x128_S1048576x128_0_0) (fun _ => rfl)

/-- The chunk's list and its rows. -/
def lst (fd : Buf (Elt F) (dLoc d)) (t1 : Fin k0_t1_loop.trips) (t2 : Fin k0_t2_loop.trips) : S4x128.Idx → BitVec 32 :=
  fun x => fd ((dWin L t1 t2).view.emb x)
def ld (fq : Buf (Elt F) (qLoc d)) (t1 : Fin k0_t1_loop.trips) (t2 : Fin k0_t2_loop.trips) : S512x128.Idx → Elt F .f32 :=
  fun x => fq ((qWin L t1 t2).view.emb x)

theorem trips1 : k0_t1_loop.trips ≤ 8 := k0_t1_abs.2.1
theorem trips2 : k0_t2_loop.trips ≤ 8 := k0_t2_abs.2.1

theorem base_le (t1 : Fin k0_t1_loop.trips) (t2 : Fin k0_t2_loop.trips) : base L t1 t2 + 512 ≤ 1048576 := by
  have h0 : (L 0).val < 2 := (L 0).isLt
  have h1 : (L 1).val < 16 := (L 1).isLt
  have h2 := t1.isLt.trans_le trips1
  have h3 := t2.isLt.trans_le trips2
  unfold base; omega

omit [FloatOps F] in
theorem lst_val {σ : Equiv.Perm (Fin 1048576)} {fd : Buf (Elt F) (dLoc d)} (hσ : Ranked fd σ) (t1 : Fin k0_t1_loop.trips) (t2 : Fin k0_t2_loop.trips)
    (x : S4x128.Idx) : (lst d L fd t1 t2 x).toNat = (σ (Fin.ofNat 1048576 (base L t1 t2 + 128 * (x 0).val + (x 1).val))).val := by
  have e := list_emb (k0_off1 L t1 t2) (k0_off1_inb L t1 t2) squeezes_S1x4x128_S4x128.numel_eq x
  have o := k0_off1_eq L t1 t2
  have e0 := (e 0).trans (congrArg (· + _) (congrFun o 0))
  have e1 := (e 1).trans (congrArg (· + _) (congrFun o 1))
  have e2 := (e 2).trans (congrArg (· + _) (congrFun o 2))
  refine (hσ _).trans (congrArg (fun n : ℕ => (σ (Fin.ofNat 1048576 n)).val) ?_)
  change _ = (16 * (L 1).val + 8 * (L 0).val + t1.val) + 0 at e0
  change _ = 4 * t2.val + (x 0).val at e1
  change _ = 0 + (x 1).val at e2
  change ((Rect.unit (s := S256x32x128) (k0_off1 L t1 t2) S1x4x128.size _).emb (Shape.reshapeEquiv _ x) 0).val * 4096
    + ((Rect.unit (s := S256x32x128) (k0_off1 L t1 t2) S1x4x128.size _).emb (Shape.reshapeEquiv _ x) 1).val * 128
    + ((Rect.unit (s := S256x32x128) (k0_off1 L t1 t2) S1x4x128.size _).emb (Shape.reshapeEquiv _ x) 2).val = _
  rw [e0, e1, e2]; unfold base; omega

omit [FloatOps F] in
theorem word_val {σ : Equiv.Perm (Fin 1048576)} {fd : Buf (Elt F) (dLoc d)} (hσ : Ranked fd σ) (t1 : Fin k0_t1_loop.trips) (t2 : Fin k0_t2_loop.trips)
    (j : Fin 4) (x : S128.Idx) :
    ((iRow j).view.read (Elt F) (lst d L fd t1 t2) x).toNat = (σ (Fin.ofNat 1048576 (base L t1 t2 + 128 * j.val + (x 0).val))).val := by
  rw [View.read_apply, cast_eq, lst_val d L hσ]
  have e := row_emb j.val (row_inb j) squeezes_S1x128_S128.numel_eq x
  have e0 := e 0; have e1 := e 1
  change ((iRow j).view.emb x 0).val = j.val at e0
  change ((iRow j).view.emb x 1).val = (x 0).val at e1
  rw [e0, e1]

omit [FloatOps F] in
theorem word_lt {σ : Equiv.Perm (Fin 1048576)} {fd : Buf (Elt F) (dLoc d)} (hσ : Ranked fd σ) (t1 : Fin k0_t1_loop.trips) (t2 : Fin k0_t2_loop.trips)
    (j : Fin 4) (x : S128.Idx) :
    ((iRow j).view.read (Elt F) (lst d L fd t1 t2) x).toNat < S1048576x128.size gathers_S1048576x128_S128x128.axis := by
  rw [word_val d L hσ]; exact Fin.isLt _

/-- The row that entry `k` of stream `j` names. -/
def rowsOf {σ : Equiv.Perm (Fin 1048576)} {fd : Buf (Elt F) (dLoc d)} (hσ : Ranked fd σ) (t1 : Fin k0_t1_loop.trips) (t2 : Fin k0_t2_loop.trips)
    (j : Fin 4) : Fin (S128x128.size gathers_S1048576x128_S128x128.axis') → Fin (S1048576x128.size gathers_S1048576x128_S128x128.axis) :=
  SparseCore.rows ((iRow j).view.read (Elt F) (lst d L fd t1 t2)) rfl (word_lt d L hσ t1 t2 j)

omit [FloatOps F] in
theorem rowsOf_val {σ : Equiv.Perm (Fin 1048576)} {fd : Buf (Elt F) (dLoc d)} (hσ : Ranked fd σ) (t1 : Fin k0_t1_loop.trips) (t2 : Fin k0_t2_loop.trips)
    (j : Fin 4) (k : Fin 128) : (rowsOf d L hσ t1 t2 j k : Fin 1048576) = σ (Fin.ofNat 1048576 (base L t1 t2 + 128 * j.val + k.val)) := by
  refine Fin.ext ((word_val d L hσ t1 t2 j _).trans ?_)
  rw [list_pos]; rfl

theorem ent_val (t1 : Fin k0_t1_loop.trips) (t2 : Fin k0_t2_loop.trips) (j : Fin 4) (k : Fin 128) :
    (Fin.ofNat 1048576 (base L t1 t2 + 128 * j.val + k.val)).val = base L t1 t2 + 128 * j.val + k.val := by
  have := base_le L t1 t2
  exact Nat.mod_eq_of_lt (by omega)

omit [FloatOps F] in
theorem rowsOf_inj {σ : Equiv.Perm (Fin 1048576)} {fd : Buf (Elt F) (dLoc d)} (hσ : Ranked fd σ) (t1 : Fin k0_t1_loop.trips) (t2 : Fin k0_t2_loop.trips)
    (j : Fin 4) : Function.Injective (rowsOf d L hσ t1 t2 j) := by
  intro (k : Fin 128) (k' : Fin 128) h
  have h := σ.injective ((rowsOf_val d L hσ t1 t2 j k).symm.trans (h.trans (rowsOf_val d L hσ t1 t2 j k')))
  have h := (ent_val L t1 t2 j k).symm.trans ((congrArg Fin.val h).trans (ent_val L t1 t2 j k'))
  exact Fin.ext (Nat.add_left_cancel h)

theorem all_emb (y : S1048576x128.Idx) : sAll.view.emb y = y := by
  funext a
  refine Fin.ext ((ValueKit.rect_emb_unit_val (s := S1048576x128) ![0, 0] S1048576x128.size inb_S1048576x128_S1048576x128_0_0 y a).trans ?_)
  match a with
  | 0 => exact Nat.zero_add _
  | 1 => exact Nat.zero_add _

theorem mem_row (k : Fin (S1048576x128.size gathers_S1048576x128_S128x128.axis)) (y : S1048576x128.Idx) :
    y ∈ (S1048576x128.rowRect gathers_S1048576x128_S128x128.axis k).set ↔ (y 0 : Fin 1048576) = k := by
  constructor
  · intro h
    have h0 := Rect.mem_set_unit.mp h (0 : Fin 2)
    change k.val ≤ (y 0).val ∧ (y 0).val < k.val + 1 at h0
    exact Fin.ext (by omega)
  · intro h
    refine Rect.mem_set_unit.mpr fun (a : Fin 2) => ?_
    have h := congrArg Fin.val h
    match a with
    | 0 => exact ⟨h.ge, h.trans_lt (Nat.lt_succ_self _)⟩
    | 1 => exact ⟨Nat.zero_le _, (y 1).isLt.trans_eq (Nat.zero_add _).symm⟩

omit [FloatOps F] in
/-- The rows stream `j` names are those whose entries are the stream's. -/
theorem named_set {σ : Equiv.Perm (Fin 1048576)} {fd : Buf (Elt F) (dLoc d)} (hσ : Ranked fd σ) (t1 : Fin k0_t1_loop.trips) (t2 : Fin k0_t2_loop.trips)
    (j : Fin 4) :
    SparseCore.namedRows (thr d L) sAll.view gathers_S1048576x128_S128x128.axis (rowsOf d L hσ t1 t2 j)
      = sect (entKey σ) (base L t1 t2 + j.val * 128) (base L t1 t2 + j.val * 128 + 128) := by
  ext b
  rw [SparseCore.namedRows_eq, mem_sect, Finset.mem_biUnion]
  constructor
  · rintro ⟨k, -, hb⟩
    rw [View.set_slice] at hb
    obtain ⟨y, hy, rfl⟩ := Finset.mem_map.mp hb
    rw [all_emb]
    have h0 := ((mem_row _ _).mp hy).trans (rowsOf_val d L hσ t1 t2 j k)
    have h1 : entKey σ y = base L t1 t2 + 128 * j.val + k.val :=
      (congrArg (fun z => (σ.symm z).val) h0).trans ((congrArg Fin.val (σ.symm_apply_apply _)).trans (ent_val L t1 t2 j k))
    have := k.isLt
    change k.val < 128 at this
    rw [h1]; omega
  · intro h
    have hk : entKey σ b - (base L t1 t2 + 128 * j.val) < 128 := by omega
    refine ⟨⟨_, hk⟩, Finset.mem_univ _, ?_⟩
    rw [View.set_slice]
    refine Finset.mem_map.mpr ⟨b, (mem_row _ _).mpr ?_, all_emb b⟩
    refine Eq.trans ?_ (rowsOf_val d L hσ t1 t2 j ⟨_, hk⟩).symm
    have h1 : Fin.ofNat 1048576 (base L t1 t2 + 128 * j.val + (entKey σ b - (base L t1 t2 + 128 * j.val))) = σ.symm (b 0) :=
      Fin.ext ((ent_val L t1 t2 j ⟨_, hk⟩).trans (by show _ = entKey σ b; change _ + (entKey σ b - _) = _; omega))
    exact (σ.apply_symm_apply (b 0)).symm.trans (congrArg σ h1.symm)

/-- An index over an equal shape has the same coordinates. -/
theorem idx_cast_val {s t : Shape} (h : s = t) (x : t.Idx) (a : ℕ) (hs : a < s.rank := by decide) (ht : a < t.rank := by decide) :
    ((Shape.idxEquiv h).symm x ⟨a, hs⟩).val = (x ⟨a, ht⟩).val := by
  subst h; rfl

omit [FloatOps F] in
/-- On the row that entry `k` of stream `j` names, the scattered rows are row `k` of the stream's source. -/
theorem sent_read {σ : Equiv.Perm (Fin 1048576)} (fq : Buf (Elt F) (qLoc d)) {fd : Buf (Elt F) (dLoc d)} (hσ : Ranked fd σ)
    (t1 : Fin k0_t1_loop.trips) (t2 : Fin k0_t2_loop.trips) (j : Fin 4) (k : Fin (S128x128.size gathers_S1048576x128_S128x128.axis'))
    (x : (S1048576x128.rowShape gathers_S1048576x128_S128x128.axis).Idx) :
    (sAll.view.slice (S1048576x128.rowRect gathers_S1048576x128_S128x128.axis (rowsOf d L hσ t1 t2 j k))).read (Elt F) (scattered σ fq) x
      = SparseCore.scatterRowPayload (thr d L) (rBlk j) gathers_S1048576x128_S128x128 (ld d L fq t1 t2) k x := by
  refine (View.read_apply _ _).trans ((cast_eq _ _).trans (Eq.trans ?_ ((View.read_apply _ _).trans (cast_eq _ _)).symm))
  have hr := rowsOf_val d L hσ t1 t2 j k
  generalize rowsOf d L hσ t1 t2 j k = r at hr ⊢
  let E : S1048576x128.Idx := sAll.view.emb ((S1048576x128.rowRect gathers_S1048576x128_S128x128.axis r).emb x)
  let y : (S128x128.rowShape gathers_S1048576x128_S128x128.axis').Idx := (Shape.idxEquiv gathers_S1048576x128_S128x128.rowShape_eq).symm x
  have hE : E = (S1048576x128.rowRect gathers_S1048576x128_S128x128.axis r).emb x := all_emb _
  have hE0 : (E 0 : Fin 1048576) = r := (congrFun hE 0).trans (Shape.rowRect_emb_axis _ r x)
  have hE1 : (E 1).val = (x (1 : Fin 2)).val := (congrArg Fin.val (congrFun hE 1)).trans (Shape.rowRect_emb_of_ne _ r x (b := 1) (by decide))
  have hy : (y (1 : Fin 2)).val = (x (1 : Fin 2)).val := idx_cast_val gathers_S1048576x128_S128x128.rowShape_eq x 1
  let Y := (S128x128.rowRect gathers_S1048576x128_S128x128.axis' k).emb y
  have hY0 : (Y 0).val = k.val := congrArg Fin.val (Shape.rowRect_emb_axis _ k y)
  have hY1 : (Y 1).val = (y (1 : Fin 2)).val := Shape.rowRect_emb_of_ne _ k y (b := 1) (by decide)
  let Z := (rBlk j).view.emb Y
  have hZ0 : (Z 0).val = 128 * j.val + (Y 0).val := ValueKit.rect_emb_unit_val (s := S512x128) ![128 * j.val, 0] S128x128.size (blk_inb j) Y 0
  have hZ1 : (Z 1).val = 0 + (Y 1).val := ValueKit.rect_emb_unit_val (s := S512x128) ![128 * j.val, 0] S128x128.size (blk_inb j) Y 1
  show fq (Shape.pair (d := ![262144, 128]) (sentRow (σ.symm (E 0))) (E 1)) = fq ((qWin L t1 t2).view.emb Z)
  have e0 := (ValueKit.rect_emb_unit_val (s := S262144x128) (k0_off2 L t1 t2) S512x128.size (k0_off2_inb L t1 t2) Z 0).trans
    (congrArg (· + _) (congrFun (k0_off2_eq L t1 t2) 0))
  have e1 := (ValueKit.rect_emb_unit_val (s := S262144x128) (k0_off2 L t1 t2) S512x128.size (k0_off2_inb L t1 t2) Z 1).trans
    (congrArg (· + _) (congrFun (k0_off2_eq L t1 t2) 1))
  change ((qWin L t1 t2).view.emb Z 0).val = 4096 * ((16 * (L 1).val + 8 * (L 0).val + t1.val) % 64) + 512 * t2.val + (Z 0).val at e0
  change ((qWin L t1 t2).view.emb Z 1).val = 0 + (Z 1).val at e1
  refine congrArg fq (funext fun a => Fin.ext ?_)
  have h2 := t1.isLt.trans_le trips1
  have h3 := t2.isLt.trans_le trips2
  have hk : k.val < 128 := k.isLt
  match a with
  | 0 =>
    refine Eq.trans ?_ e0.symm
    rw [hZ0, hY0]
    show (sentRow (σ.symm (E 0))).val = _
    have hs : (σ.symm (E 0)).val = base L t1 t2 + 128 * j.val + k.val :=
      (congrArg (fun z => (σ.symm z).val) (hE0.trans hr)).trans ((congrArg Fin.val (σ.symm_apply_apply _)).trans (ent_val L t1 t2 j k))
    unfold sentRow
    show (σ.symm (E 0)).val / 4096 % 64 * 4096 + (σ.symm (E 0)).val % 4096 = _
    rw [hs]; unfold base; omega
  | 1 =>
    refine Eq.trans ?_ e1.symm
    rw [hZ1, hY1, hy]
    show (E 1).val = _
    omega

/-! ## A chunk's pieces -/

abbrev axT : Fin S1048576x128.rank := gathers_S1048576x128_S128x128.axis

omit [FloatOps F] in
theorem list_split (f : Buf (Elt F) ((iV).view.loc (thr d L))) :
    ((iV).view.loc (thr d L) ↦{fullShare} f : sProp 𝕄) = bigSep Finset.univ fun j : Fin 4 => (iV).view.loc (thr d L) ↦[(iRow j).view.set]{fullShare} f := by
  rw [← sect_univ (key := fun i : S4x128.Idx => (i 0).val) (n := 0 + 4 * 1) fun i => (i 0).isLt, pts_pieces]
  refine bigSep_congr fun j _ => ?_
  rw [← row_set j.val (row_inb j)]
  refine congrArg (fun I => ((iV).view.loc (thr d L) ↦[I]{fullShare} f : sProp 𝕄)) ?_
  exact ((Memref.set_view_squeeze _ _).trans (View.set_slice_whole _ _)).symm

omit [FloatOps F] in
theorem blk_split (f : Buf (Elt F) ((rV).view.loc (thr d L))) :
    ((rV).view.loc (thr d L) ↦{fullShare} f : sProp 𝕄) = bigSep Finset.univ fun j : Fin 4 => (rV).view.loc (thr d L) ↦[(rBlk j).view.set]{fullShare} f := by
  rw [← sect_univ (key := fun i : S512x128.Idx => (i 0).val) (n := 0 + 4 * 128) fun i => (i 0).isLt, pts_pieces]
  refine bigSep_congr fun j _ => ?_
  rw [← blk_set j.val (blk_inb j)]
  refine congrArg (fun I => ((rV).view.loc (thr d L) ↦[I]{fullShare} f : sProp 𝕄)) ?_
  exact (View.set_slice_whole _ _).symm

omit [FloatOps F] in
/-- The chunk's section of the target by the four streams' named rows. -/
theorem dst_split {σ : Equiv.Perm (Fin 1048576)} {fd : Buf (Elt F) (dLoc d)} (hσ : Ranked fd σ) (t1 : Fin k0_t1_loop.trips) (t2 : Fin k0_t2_loop.trips)
    (f : Buf (Elt F) (sLoc d)) :
    ((sV).view.loc (thr d L) ↦[sect (entKey σ) (base L t1 t2) (base L t1 t2 + 512)]{fullShare} f : sProp 𝕄)
      = bigSep Finset.univ fun j : Fin 4 => (sV).view.loc (thr d L) ↦[SparseCore.namedRows (thr d L) sAll.view axT (rowsOf d L hσ t1 t2 j)]{fullShare} f := by
  rw [show base L t1 t2 + 512 = base L t1 t2 + 4 * 128 by omega, pts_pieces]
  refine bigSep_congr fun j _ => ?_
  rw [named_set]

/-- The units a row's transfer credits. -/
def unitN : ℕ := ((sAll).slice (S1048576x128.rowRect axT ⟨0, by decide⟩) (S1048576x128.stride_rowRect axT _)).view.dmaCredit

/-- What stream `j`'s rows leave. -/
def leaves {σ : Equiv.Perm (Fin 1048576)} (fq : Buf (Elt F) (qLoc d)) {fd : Buf (Elt F) (dLoc d)} (hσ : Ranked fd σ)
    (t1 : Fin k0_t1_loop.trips) (t2 : Fin k0_t2_loop.trips) (j : Fin 4) : Fin (S128x128.size gathers_S1048576x128_S128x128.axis') → sProp 𝕄 :=
  scatterLeaves (thr d L) (rBlk j) sAll gathers_S1048576x128_S128x128.axis' axT (iRow j) rfl (rowsOf d L hσ t1 t2 j) fullShare fullShare
    (ld d L fq t1 t2) (scattered σ fq) (lst d L fd t1 t2)

theorem leaves_storable {σ : Equiv.Perm (Fin 1048576)} (fq : Buf (Elt F) (qLoc d)) {fd : Buf (Elt F) (dLoc d)} (hσ : Ranked fd σ)
    (t1 : Fin k0_t1_loop.trips) (t2 : Fin k0_t2_loop.trips) (j : Fin 4) (k : Fin (S128x128.size gathers_S1048576x128_S128x128.axis')) :
    Storable (upEmb : UEmb _ 𝕄) (leaves d L fq hσ t1 t2 j k) := scatterLeaves_storable _ _ _ _ _ _ _ _ _ _ _ _ _ _

/-- All four streams' leavings: the chunk's rows of the target, its list, its rows. -/
theorem leaves_all {σ : Equiv.Perm (Fin 1048576)} (fq : Buf (Elt F) (qLoc d)) {fd : Buf (Elt F) (dLoc d)} (hσ : Ranked fd σ)
    (t1 : Fin k0_t1_loop.trips) (t2 : Fin k0_t2_loop.trips) :
    (bigSep Finset.univ fun j : Fin 4 => bigSep Finset.univ fun k => leaves d L fq hσ t1 t2 j k : sProp 𝕄)
      = iprop((((sV).view.loc (thr d L) ↦[sect (entKey σ) (base L t1 t2) (base L t1 t2 + 512)]{fullShare} scattered σ fq)
          ∗ ((iV).view.loc (thr d L) ↦{fullShare} lst d L fd t1 t2)) ∗ ((rV).view.loc (thr d L) ↦{fullShare} ld d L fq t1 t2)) := by
  rw [list_split d L, blk_split d L, dst_split d L hσ, ← bigSep_triples]
  exact bigSep_congr fun j _ => scatterLeaves_all _ _ _ _ _ _ _ _ (rowsOf_inj d L hσ t1 t2 j) _ _ _ _ _

set_option maxRecDepth 16384 in
theorem unitN_pos : 0 < unitN := by decide
set_option maxRecDepth 16384 in
theorem credit (j : Fin 4) : (rBlk j).view.dmaCredit = 128 * unitN := by revert j; decide

/-- The waits a trip adds are all at the one wait index of copies. -/
theorem waits_mem {W W' : Waits sig (HIx 2)} (a b c e f g : SemLoc sig) (h : ∀ p ∈ W', p ∈ W ∨ p.2 = none) :
    ∀ p ∈ insert (a, (default : HIx 2)) (insert (b, default) (insert (c, default) (insert (e, default) (insert (f, default) (insert (g, default) W'))))),
      p ∈ W ∨ p.2 = none := by
  intro p hp
  simp only [Finset.mem_insert] at hp
  rcases hp with rfl | rfl | rfl | rfl | rfl | rfl | hp
  iterate 6 exact Or.inr rfl
  exact h p hp

/-! ## The trip -/

/-- What a trip holds, `p` the position it starts at. -/
def inv (σ : Equiv.Perm (Fin 1048576)) (q qd : PosShare TreeShare) (fq : Buf (Elt F) (qLoc d)) (fd : Buf (Elt F) (dLoc d)) (f₀ : Buf (Elt F) (sLoc d))
    (O : CellTallies nD τ sig (HIx 2)) (W : Waits sig (HIx 2)) (lo hi p : ℕ) : sProp 𝕄 :=
  iprop(levAts (K (F := F)).L (K (F := F)).lev
    ∗ ((qV).view.loc (thr d L) ↦{q} fq) ∗ ((dV).view.loc (thr d L) ↦{qd} fd)
    ∗ ((sV).view.loc (thr d L) ↦[sect (entKey σ) lo p]{fullShare} scattered σ fq) ∗ ((sV).view.loc (thr d L) ↦[sect (entKey σ) p hi]{fullShare} f₀)
    ∗ (∃ f, (iV).view.loc (thr d L) ↦{fullShare} f) ∗ (∃ f, (rV).view.loc (thr d L) ↦{fullShare} f)
    ∗ semVal ((thr d L), .dma cc0_scratch2.sem) 0 ∗ semVal ((thr d L), .dma cc0_scoped0.sem) 0 ∗ semVal ((thr d L), .dma cc0_scoped1.sem) 0
    ∗ ∃ W', ⌜∀ p ∈ W', p ∈ W ∨ p.2 = none⌝ ∗ owes (thr d L) O W')

set_option maxHeartbeats 1000000 in
theorem trip (σ : Equiv.Perm (Fin 1048576)) (q qd : PosShare TreeShare) (fq : Buf (Elt F) (qLoc d)) (fd : Buf (Elt F) (dLoc d)) (f₀ : Buf (Elt F) (sLoc d))
    (hσ : Ranked fd σ) (O : CellTallies nD τ sig (HIx 2)) (W : Waits sig (HIx 2)) (hO : ∀ g, O g none = 0) (lo hi : ℕ)
    (v5 : BitVec 32) (t1 : Fin k0_t1_loop.trips) (t2 : Fin k0_t2_loop.trips) (hlo : lo ≤ base L t1 t2) (hhi : base L t1 t2 + 512 ≤ hi) :
    inv d L σ q qd fq fd f₀ O W lo hi (base L t1 t2)
      ⊢ wp frame (wpE (defs₀ (F := F)) 𝒱₀ (thr d L) none) Set.univ
          (k0_t2_body L qV (Memref.isWhole_whole _) dV (Memref.isWhole_whole _) sV (Memref.isWhole_whole _)
            iV (Memref.isWhole_whole _) rV (Memref.isWhole_whole _) cc0_scratch2 cc0_scoped0 cc0_scoped1 t1 v5 t2 ())
          fun _ => inv d L σ q qd fq fd f₀ O W lo hi (base L t1 t2 + 512) := by
  unfold k0_t2_body
  rw [k0_part1_eq_skeleton, k0_part2_eq_skeleton]; unfold k0_part1_skel k0_part2_skel
  unfold inv
  iintro ⟨#Hlv, Hq, Hd, Hu, Hf, ⟨%fi, Hi⟩, ⟨%fr, Hr⟩, HsC, HsA, HsB, ⟨%W', %hW', HO⟩⟩
  ihave Hmw := (show levAts (K (F := F)).L (K (F := F)).lev ⊢ Transfers.MayWaits (thr d L) (default : HIx 2) O from
    (K (F := F)).mayWaits_none (thr := thr d L) hO) $$ Hlv
  sl_exec
  ihave Hi := (Entails.of_eq (show ((iV).view.loc (thr d L) ↦{fullShare} View.write (Elt F) (iV).view fi (trip.sl.dma0 d L fd t1 t2) Finset.univ : sProp 𝕄)
      = bigSep Finset.univ fun j : Fin 4 => (iV).view.loc (thr d L) ↦[(iRow j).view.set]{fullShare} lst d L fd t1 t2 from by
    rw [list_split d L, View.write_whole_univ]; rfl)) $$ Hi
  ihave Hr := (Entails.of_eq (show ((rV).view.loc (thr d L) ↦{fullShare} View.write (Elt F) (rV).view fr (trip.sl.dma0_1 d L fq t1 t2) Finset.univ : sProp 𝕄)
      = bigSep Finset.univ fun j : Fin 4 => (rV).view.loc (thr d L) ↦[(rBlk j).view.set]{fullShare} ld d L fq t1 t2 from by
    rw [blk_split d L, View.write_whole_univ]; rfl)) $$ Hr
  ihave Hf := (Entails.of_eq (pts_cut (base L t1 t2 + 512) (Nat.le_add_right _ _) hhi)) $$ Hf
  icases Hf with ⟨Hw, Hf⟩
  ihave Ho := (Entails.of_eq (dst_split d L hσ t1 t2 f₀)) $$ Hw
  imod (streams_alloc countersEmb (thr d L) (default : HIx 2) unitN (leaves d L fq hσ t1 t2) (leaves_storable d L fq hσ t1 t2)) $$ HsC with HS
  ihave Hi := (Entails.of_eq (bigSep_four _)) $$ Hi
  ihave Hr := (Entails.of_eq (bigSep_four _)) $$ Hr
  ihave Ho := (Entails.of_eq (bigSep_four _)) $$ Ho
  icases Hi with ⟨Hi0, Hi1, Hi2, Hi3⟩
  icases Hr with ⟨Hr0, Hr1, Hr2, Hr3⟩
  icases Ho with ⟨Ho0, Ho1, Ho2, Ho3⟩
  iapply (wp_streamScatter countersEmb 𝒱₀ (thr d L) none (default : HIx 2) unitN (word_lt d L hσ t1 t2 0) (rowsOf_inj d L hσ t1 t2 0)
    (fun _ => rfl) (sent_read d L fq hσ t1 t2 0) (0 : Fin 4) (u := 0) (Nat.zero_le _) (rfl : leaves d L fq hσ t1 t2 0 = _)) $$ [Hi0 Hr0 Ho0 HS]
  · isplitr [HS]
    · isplitl [Ho0]; · iexact Ho0
      isplitl [Hi0]; · iexact Hi0
      iexact Hr0
    · iexact HS
  iintro HS
  sl_exec
  iapply (wp_streamScatter countersEmb 𝒱₀ (thr d L) none (default : HIx 2) unitN (word_lt d L hσ t1 t2 1) (rowsOf_inj d L hσ t1 t2 1)
    (fun _ => rfl) (sent_read d L fq hσ t1 t2 1) (1 : Fin 4) (u := 0) (Nat.zero_le _) (rfl : leaves d L fq hσ t1 t2 1 = _)) $$ [Hi1 Hr1 Ho1 HS]
  · isplitr [HS]
    · isplitl [Ho1]; · iexact Ho1
      isplitl [Hi1]; · iexact Hi1
      iexact Hr1
    · iexact HS
  iintro HS
  sl_exec
  iapply (wp_streamScatter countersEmb 𝒱₀ (thr d L) none (default : HIx 2) unitN (word_lt d L hσ t1 t2 2) (rowsOf_inj d L hσ t1 t2 2)
    (fun _ => rfl) (sent_read d L fq hσ t1 t2 2) (2 : Fin 4) (u := 0) (Nat.zero_le _) (rfl : leaves d L fq hσ t1 t2 2 = _)) $$ [Hi2 Hr2 Ho2 HS]
  · isplitr [HS]
    · isplitl [Ho2]; · iexact Ho2
      isplitl [Hi2]; · iexact Hi2
      iexact Hr2
    · iexact HS
  iintro HS
  sl_exec
  iapply (wp_streamScatter countersEmb 𝒱₀ (thr d L) none (default : HIx 2) unitN (word_lt d L hσ t1 t2 3) (rowsOf_inj d L hσ t1 t2 3)
    (fun _ => rfl) (sent_read d L fq hσ t1 t2 3) (3 : Fin 4) (u := 0) (Nat.zero_le _) (rfl : leaves d L fq hσ t1 t2 3 = _)) $$ [Hi3 Hr3 Ho3 HS]
  · isplitr [HS]
    · isplitl [Ho3]; · iexact Ho3
      isplitl [Hi3]; · iexact Hi3
      iexact Hr3
    · iexact HS
  iintro HS
  sl_exec
  ihave Hm := (Transfers.MayWaits.elim (SemLoc.dma cc0_scratch2.sem)) $$ Hmw
  iapply (wp_streamWait countersEmb 𝒱₀ (thr d L) none (default : HIx 2) (credit 0) (D := leaves d L fq hσ t1 t2) (u := 0) (by decide)) $$ [HS HO Hm]
  · isplitl [HS]; · iexact HS
    isplitl [HO]; · iexact HO
    iexact Hm
  iintro ⟨HS, HO⟩
  sl_exec
  ihave Hm := (Transfers.MayWaits.elim (SemLoc.dma cc0_scratch2.sem)) $$ Hmw
  iapply (wp_streamWait countersEmb 𝒱₀ (thr d L) none (default : HIx 2) (credit 1) (D := leaves d L fq hσ t1 t2) (u := 1) (by decide)) $$ [HS HO Hm]
  · isplitl [HS]; · iexact HS
    isplitl [HO]; · iexact HO
    iexact Hm
  iintro ⟨HS, HO⟩
  sl_exec
  ihave Hm := (Transfers.MayWaits.elim (SemLoc.dma cc0_scratch2.sem)) $$ Hmw
  iapply (wp_streamWait countersEmb 𝒱₀ (thr d L) none (default : HIx 2) (credit 2) (D := leaves d L fq hσ t1 t2) (u := 2) (by decide)) $$ [HS HO Hm]
  · isplitl [HS]; · iexact HS
    isplitl [HO]; · iexact HO
    iexact Hm
  iintro ⟨HS, HO⟩
  sl_exec
  ihave Hm := (Transfers.MayWaits.elim (SemLoc.dma cc0_scratch2.sem)) $$ Hmw
  iapply (wp_streamLast countersEmb 𝒱₀ (thr d L) none (default : HIx 2) (credit 3) unitN_pos (D := leaves d L fq hσ t1 t2) (u := 3) rfl) $$ [HS HO Hm]
  · isplitl [HS]; · iexact HS
    isplitl [HO]; · iexact HO
    iexact Hm
  iintro ⟨HS, HsC, HO⟩
  ihave HS := (show (bigSep (Finset.univ : Finset (Fin 4)) fun j => bigSep (Finset.univ : Finset (Fin 128)) fun i => leaves d L fq hσ t1 t2 j i : sProp 𝕄)
    ⊢ _ from Entails.of_eq (leaves_all d L fq hσ t1 t2)) $$ HS
  icases HS with ⟨⟨Hw, Hi⟩, Hr⟩
  sl_exec
  rw [wp_ret]
  imodintro
  isplitr; · iexact Hlv
  isplitl [Hq]; · iexact Hq
  isplitl [Hd]; · iexact Hd
  isplitl [Hu Hw]
  · rw [pts_cut (base L t1 t2) hlo (Nat.le_add_right _ 512)]
    isplitl [Hu]; · iexact Hu
    iexact Hw
  isplitl [Hf]; · iexact Hf
  isplitl [Hi]; · iexists _; iexact Hi
  isplitl [Hr]; · iexists _; iexact Hr
  isplitl [HsC]; · iexact HsC
  isplitl [HsA]; · iexact HsA
  isplitl [HsB]; · iexact HsB
  iexists _
  isplitr
  rotate_left
  · iexact HO
  · ipureintro
    exact waits_mem _ _ _ _ _ _ hW'

/-! ## The two counted loops -/

/-- The position of the subcore's first entry. -/
def lo (L : grid0.Coords) : ℕ := 65536 * (L 1).val + 32768 * (L 0).val

theorem base_zero : base L 0 0 = lo L := by unfold base lo; omega
theorem base_succ (t1 t2 : ℕ) : base L t1 (t2 + 1) = base L t1 t2 + 512 := by unfold base; omega
theorem base_row (t1 : ℕ) : base L t1 8 = base L (t1 + 1) 0 := by unfold base; omega
theorem base_end : base L 8 0 = lo L + 32768 := by unfold base lo; omega
theorem trips1_eq : k0_t1_loop.trips = 8 := by decide
theorem trips2_eq : k0_t2_loop.trips = 8 := by decide

theorem row (σ : Equiv.Perm (Fin 1048576)) (q qd : PosShare TreeShare) (fq : Buf (Elt F) (qLoc d)) (fd : Buf (Elt F) (dLoc d)) (f₀ : Buf (Elt F) (sLoc d))
    (hσ : Ranked fd σ) (O : CellTallies nD τ sig (HIx 2)) (W : Waits sig (HIx 2)) (hO : ∀ g, O g none = 0) (v1 : BitVec 32)
    (t1 : Fin k0_t1_loop.trips) :
    inv d L σ q qd fq fd f₀ O W (lo L) (lo L + 32768) (base L t1 0)
      ⊢ wp frame (wpE (defs₀ (F := F)) 𝒱₀ (thr d L) none) Set.univ
          (k0_t1_body L qV (Memref.isWhole_whole _) dV (Memref.isWhole_whole _) sV (Memref.isWhole_whole _)
            iV (Memref.isWhole_whole _) rV (Memref.isWhole_whole _) cc0_scratch2 cc0_scoped0 cc0_scoped1 v1 t1 ())
          fun _ => inv d L σ q qd fq fd f₀ O W (lo L) (lo L + 32768) (base L (t1 + 1) 0) := by
  unfold k0_t1_body
  iintro H
  iapply (Scf.wp_for_bind frame (wpE (defs₀ (F := F)) 𝒱₀ (thr d L) none) Set.univ _ _ _ k0_t2_ok ⟨⟩ _
    (fun k _ => inv d L σ q qd fq fd f₀ O W (lo L) (lo L + 32768) (base L t1 k)) (fun t2 _ => by
      rw [base_succ]
      have h1 := t1.isLt.trans_le trips1
      have h2 := t2.isLt.trans_le trips2
      exact trip d L σ q qd fq fd f₀ hσ O W hO _ _ _ t1 t2 (by unfold lo base; omega) (by unfold lo base; omega))) $$ H
  iintro %acc H
  rw [wp_pure]
  imodintro
  iapply (Entails.of_eq (congrArg (inv d L σ q qd fq fd f₀ O W (lo L) (lo L + 32768))
    (show base L t1 k0_t2_loop.trips = base L (t1 + 1) 0 from (congrArg (base L t1) trips2_eq).trans (base_row L t1))))
  iexact H

theorem rows_all (σ : Equiv.Perm (Fin 1048576)) (q qd : PosShare TreeShare) (fq : Buf (Elt F) (qLoc d)) (fd : Buf (Elt F) (dLoc d)) (f₀ : Buf (Elt F) (sLoc d))
    (hσ : Ranked fd σ) (O : CellTallies nD τ sig (HIx 2)) (W : Waits sig (HIx 2)) (hO : ∀ g, O g none = 0) :
    inv d L σ q qd fq fd f₀ O W (lo L) (lo L + 32768) (lo L)
      ⊢ wp frame (wpE (defs₀ (F := F)) 𝒱₀ (thr d L) none) Set.univ
          (cc0_sc_scatter L qV (Memref.isWhole_whole _) dV (Memref.isWhole_whole _) sV (Memref.isWhole_whole _)
            iV (Memref.isWhole_whole _) rV (Memref.isWhole_whole _) cc0_scratch2 cc0_scoped0 cc0_scoped1)
          fun _ => inv d L σ q qd fq fd f₀ O W (lo L) (lo L + 32768) (lo L + 32768) := by
  rw [cc0_sc_scatter_eq_skeleton]; unfold cc0_sc_scatter_skel
  iintro H
  iapply (Scf.wp_for_bind frame (wpE (defs₀ (F := F)) 𝒱₀ (thr d L) none) Set.univ _ _ _ k0_t1_ok ⟨⟩ _
    (fun k _ => inv d L σ q qd fq fd f₀ O W (lo L) (lo L + 32768) (base L k 0)) (fun t1 _ => row d L σ q qd fq fd f₀ hσ O W hO _ t1)) $$ [H]
  · iapply (Entails.of_eq (congrArg (inv d L σ q qd fq fd f₀ O W (lo L) (lo L + 32768)) (base_zero L).symm)); iexact H
  iintro %acc H
  rw [wp_pure]
  imodintro
  iapply (Entails.of_eq (congrArg (inv d L σ q qd fq fd f₀ O W (lo L) (lo L + 32768))
    (show base L k0_t1_loop.trips 0 = lo L + 32768 from (congrArg (base L · 0) trips1_eq).trans (base_end L))))
  iexact H

/-! ## The task -/

abbrev sem2 : GSem nD τ sig := (thr d L, .dma cc0_scratch2.sem)
abbrev semA : GSem nD τ sig := (thr d L, .dma cc0_scoped0.sem)
abbrev semB : GSem nD τ sig := (thr d L, .dma cc0_scoped1.sem)

omit [FloatOps F] in
theorem ownSems :
    (ownSems0 (thr d L) : sProp 𝕄) = iprop(semVal (sem2 d L) 0 ∗ semVal (semA d L) 0 ∗ semVal (semB d L) 0
      ∗ bigSep ((((ownCells (thr d L)).erase (sem2 d L)).erase (semA d L)).erase (semB d L)) fun g => semVal g 0) := by
  unfold SparseCore.Cfg.ownSems0
  rw [SparseCore.bigSep_erase' ((mem_ownCells (g := sem2 d L)).mpr ⟨rfl, by
      show (SemLoc.dma cc0_scratch2.sem : SemLoc sig).isScoped .scVector = true; decide⟩),
    SparseCore.bigSep_erase' (Finset.mem_erase.mpr ⟨by simp [sem2, semA]; decide, (mem_ownCells (g := semA d L)).mpr ⟨rfl, by
      show (SemLoc.dma cc0_scoped0.sem : SemLoc sig).isScoped .scVector = true; decide⟩⟩),
    SparseCore.bigSep_erase' (Finset.mem_erase.mpr ⟨by simp [semA, semB]; decide, Finset.mem_erase.mpr ⟨by simp [sem2, semB]; decide,
      (mem_ownCells (g := semB d L)).mpr ⟨rfl, by show (SemLoc.dma cc0_scoped1.sem : SemLoc sig).isScoped .scVector = true; decide⟩⟩⟩)]

omit [FloatOps F] in
theorem ownBufs_eq :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (thr d L).2).erase ((thr d L).2.devRef cc0_scratch0)).erase ((thr d L).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d L).2) (b := (thr d L).2.devRef cc0_scratch1) rfl⟩)]

/-- The task: from its shares and its section of the output at anything, its section at the scattered rows. -/
theorem task (hF : (K (F := F)).Facts) (σ : Equiv.Perm (Fin 1048576)) (q qd : PosShare TreeShare) (fq : Buf (Elt F) (qLoc d)) (fd : Buf (Elt F) (dLoc d))
    (f₀ : Buf (Elt F) (sLoc d)) (hσ : Ranked fd σ) (O : CellTallies nD τ sig (HIx 2)) (W : Waits sig (HIx 2)) (hO : ∀ g, O g none = 0) (X : sProp 𝕄) :
    iprop(levAts (K (F := F)).L (K (F := F)).lev ∗ X
        ∗ ((qLoc d ↦{q} fq) ∗ (dLoc d ↦{qd} fd) ∗ (sLoc d ↦[sect (entKey σ) (lo L) (lo L + 32768)]{fullShare} f₀))
        ∗ scopedBufs (thr d L) ∗ scopedSems0 (thr d L) ∗ owes (thr d L) O W)
      ⊢ wp frame (wpE (defs₀ (F := F)) 𝒱₀ (thr d L) none) Set.univ
          (cc0_sc_scatter L qV (Memref.isWhole_whole _) dV (Memref.isWhole_whole _) sV (Memref.isWhole_whole _)
            iV (Memref.isWhole_whole _) rV (Memref.isWhole_whole _) cc0_scratch2 cc0_scoped0 cc0_scoped1)
          fun _ => iprop(((qLoc d ↦{q} fq) ∗ (dLoc d ↦{qd} fd) ∗ (sLoc d ↦[sect (entKey σ) (lo L) (lo L + 32768)]{fullShare} scattered σ fq))
            ∗ scopedBufs (thr d L) ∗ scopedSems0 (thr d L)
            ∗ ∃ W', ⌜∀ p ∈ W', p ∈ W ∨ p.2 = none⌝ ∗ owes (thr d L) O W') := by
  rw [(K (F := F)).scopedBufs_V hF d _ _, SparseCore.Cfg.scopedSems0_V (Val := Elt F) d _ _, ownSems, ownBufs_eq]
  iintro ⟨#Hlv, -, ⟨Hq, Hd, Hu⟩, ⟨Hi, Hr, Hbufs⟩, ⟨HsC, HsA, HsB, Hsems⟩, HO⟩
  ihave Hu := (Entails.of_eq (pts_cut (lo L) le_rfl (Nat.le_add_right _ _))) $$ Hu
  icases Hu with ⟨Hu, Hf⟩
  ihave Hu := (Entails.of_eq (pointsTo_congr (g := scattered σ fq) (fun i hi => by rw [sect_self] at hi; exact absurd hi (Finset.notMem_empty i)))) $$ Hu
  ihave Hwp := (rows_all d L σ q qd fq fd f₀ hσ O W hO) $$ [Hlv Hq Hd Hu Hf Hi Hr HsC HsA HsB HO]
  · unfold inv
    isplitr; · iexact Hlv
    isplitl [Hq]; · iexact Hq
    isplitl [Hd]; · iexact Hd
    isplitl [Hu]; · iexact Hu
    isplitl [Hf]; · iexact Hf
    isplitl [Hi]; · iexact Hi
    isplitl [Hr]; · iexact Hr
    isplitl [HsC]; · iexact HsC
    isplitl [HsA]; · iexact HsA
    isplitl [HsB]; · iexact HsB
    iexists W; isplitr
    · ipureintro; exact fun p hp => Or.inl hp
    · iexact HO
  iapply (wp_wand) $$ [Hwp]
  · iexact Hwp
  iintro %x H
  unfold inv
  icases H with ⟨-, Hq, Hd, Hu, -, Hi, Hr, HsC, HsA, HsB, HO⟩
  isplitl [Hq Hd Hu]
  · isplitl [Hq]; · iexact Hq
    isplitl [Hd]; · iexact Hd
    iexact Hu
  isplitl [Hi Hr Hbufs]
  · isplitl [Hi]; · iexact Hi
    isplitl [Hr]; · iexact Hr
    iexact Hbufs
  isplitl [HsC HsA HsB Hsems]
  · isplitl [HsC]; · iexact HsC
    isplitl [HsA]; · iexact HsA
    isplitl [HsB]; · iexact HsB
    iexact Hsems
  iexact HO

end Scatter

end Cert.KernelIdeal.Sc
-- ==== Proof.GatherTileIdeal.lean ====
/-
  THE GATHER ON ONE VECTOR SUBCORE: its trips, its two counted loops, its task.
-/
module

public import proofs.«01_k».proof.Proof.SetupIdeal

@[expose] public section

noncomputable section

namespace Cert.KernelIdeal.Sc

open Cert.KernelIdeal Cert.KernelIdeal.Gen Cert.Sections Cert.Streams Cert.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

namespace Gather

/-- The array gathered from, the destinations, the gathered rows; the list of a chunk, the rows of a chunk. -/
local notation "oV" => (Memref.whole main_arg2_scv : Memref sig Kind.scVector Space.hbm S1048576x128 EltTy.f32)
local notation "dV" => (Memref.whole main_arg1_scv : Memref sig Kind.scVector Space.hbm S256x32x128 EltTy.i32)
local notation "uV" => (Memref.whole main_v1_scv : Memref sig Kind.scVector Space.hbm S1048576x128 EltTy.f32)
local notation "iV" => (Memref.whole cc1_scratch0 : Memref sig Kind.scVector Space.vmem S4x128 EltTy.i32)
local notation "rV" => (Memref.whole cc1_scratch1 : Memref sig Kind.scVector Space.vmem S512x128 EltTy.f32)

variable [FloatOps F] (d : Dev nD) (L : grid1.Coords)

abbrev thr : Thread nD τ := V d ((L 0).castLE hcore1) ((L 1).castLE hsub1)

abbrev rowKey (i : S1048576x128.Idx) : ℕ := (i 0).val

/-- The position of the first entry of chunk `t2` of instance `t1`. -/
def base (L : grid1.Coords) (t1 t2 : ℕ) : ℕ := 65536 * (L 1).val + 32768 * (L 0).val + 4096 * t1 + 512 * t2

/-- Chunk window of the destinations and of the gathered rows, as the trip addresses them. -/
abbrev dWin (t1 : Fin k1_t1_loop.trips) (t2 : Fin k1_t2_loop.trips) : Memref sig .scVector .hbm S4x128 .i32 :=
  ((dV).slice (Rect.unit (s := S256x32x128) (k1_off1 L t1 t2) S1x4x128.size (k1_off1_inb L t1 t2)) (fun _ => rfl)).squeeze S4x128 squeezes_S1x4x128_S4x128
abbrev uWin (t1 : Fin k1_t1_loop.trips) (t2 : Fin k1_t2_loop.trips) : Memref sig .scVector .hbm S512x128 .f32 :=
  (uV).slice (Rect.unit (s := S1048576x128) (k1_off2 L t1 t2) S512x128.size (k1_off2_inb L t1 t2)) (fun _ => rfl)

/-- Row `j` of the chunk's list, rows `128 j …` of the chunk's buffer, the array gathered from. -/
abbrev iRow (j : Fin 4) : Memref sig .scVector .vmem S128 .i32 :=
  ((iV).slice (Rect.unit (s := S4x128) ![j.val, 0] S1x128.size (row_inb j)) (fun _ => rfl)).squeeze S128 squeezes_S1x128_S128
abbrev rBlk (j : Fin 4) : Memref sig .scVector .vmem S128x128 .f32 :=
  (rV).slice (Rect.unit (s := S512x128) ![128 * j.val, 0] S128x128.size (blk_inb j)) (fun _ => rfl)
abbrev oAll : Memref sig .scVector .hbm S1048576x128 .f32 :=
  (oV).slice (Rect.unit (s := S1048576x128) ![0, 0] S1048576x128.size inb_S1048576x128_S1048576x128_0_0) (fun _ => rfl)

/-- The chunk's list and the rows it names. -/
def lst (fd : Buf (Elt F) (dLoc d)) (t1 : Fin k1_t1_loop.trips) (t2 : Fin k1_t2_loop.trips) : S4x128.Idx → BitVec 32 :=
  fun x => fd ((dWin L t1 t2).view.emb x)
def got (σ : Equiv.Perm (Fin 1048576)) (fo : Buf (Elt F) (oLoc d)) (p : ℕ) : S512x128.Idx → Elt F .f32 :=
  fun x => fo (Shape.pair (d := ![1048576, 128]) (σ (Fin.ofNat 1048576 (p + (x 0).val))) (x 1))

omit [FloatOps F] in
theorem lst_val {σ : Equiv.Perm (Fin 1048576)} {fd : Buf (Elt F) (dLoc d)} (hσ : Ranked fd σ) (t1 : Fin k1_t1_loop.trips) (t2 : Fin k1_t2_loop.trips)
    (x : S4x128.Idx) : (lst d L fd t1 t2 x).toNat = (σ (Fin.ofNat 1048576 (base L t1 t2 + 128 * (x 0).val + (x 1).val))).val := by
  have e := list_emb (k1_off1 L t1 t2) (k1_off1_inb L t1 t2) squeezes_S1x4x128_S4x128.numel_eq x
  have o := k1_off1_eq L t1 t2
  have e0 := (e 0).trans (congrArg (· + _) (congrFun o 0))
  have e1 := (e 1).trans (congrArg (· + _) (congrFun o 1))
  have e2 := (e 2).trans (congrArg (· + _) (congrFun o 2))
  refine (hσ _).trans (congrArg (fun n : ℕ => (σ (Fin.ofNat 1048576 n)).val) ?_)
  change _ = (16 * (L 1).val + 8 * (L 0).val + t1.val) + 0 at e0
  change _ = 4 * t2.val + (x 0).val at e1
  change _ = 0 + (x 1).val at e2
  change ((Rect.unit (s := S256x32x128) (k1_off1 L t1 t2) S1x4x128.size _).emb (Shape.reshapeEquiv _ x) 0).val * 4096
    + ((Rect.unit (s := S256x32x128) (k1_off1 L t1 t2) S1x4x128.size _).emb (Shape.reshapeEquiv _ x) 1).val * 128
    + ((Rect.unit (s := S256x32x128) (k1_off1 L t1 t2) S1x4x128.size _).emb (Shape.reshapeEquiv _ x) 2).val = _
  rw [e0, e1, e2]; unfold base; omega

omit [FloatOps F] in
theorem word_val {σ : Equiv.Perm (Fin 1048576)} {fd : Buf (Elt F) (dLoc d)} (hσ : Ranked fd σ) (t1 : Fin k1_t1_loop.trips) (t2 : Fin k1_t2_loop.trips)
    (j : Fin 4) (x : S128.Idx) :
    ((iRow j).view.read (Elt F) (lst d L fd t1 t2) x).toNat = (σ (Fin.ofNat 1048576 (base L t1 t2 + 128 * j.val + (x 0).val))).val := by
  rw [View.read_apply, cast_eq, lst_val d L hσ]
  have e := row_emb j.val (row_inb j) squeezes_S1x128_S128.numel_eq x
  have e0 := e 0; have e1 := e 1
  change ((iRow j).view.emb x 0).val = j.val at e0
  change ((iRow j).view.emb x 1).val = (x 0).val at e1
  rw [e0, e1]

omit [FloatOps F] in
theorem word_lt {σ : Equiv.Perm (Fin 1048576)} {fd : Buf (Elt F) (dLoc d)} (hσ : Ranked fd σ) (t1 : Fin k1_t1_loop.trips) (t2 : Fin k1_t2_loop.trips)
    (j : Fin 4) (x : S128.Idx) :
    ((iRow j).view.read (Elt F) (lst d L fd t1 t2) x).toNat < S1048576x128.size gathers_S1048576x128_S128x128.axis := by
  rw [word_val d L hσ]; exact Fin.isLt _

omit [FloatOps F] in
/-- What stream `j` lands is its block of the chunk's rows. -/
theorem got_read {σ : Equiv.Perm (Fin 1048576)} (fo : Buf (Elt F) (oLoc d)) {fd : Buf (Elt F) (dLoc d)} (hσ : Ranked fd σ)
    (t1 : Fin k1_t1_loop.trips) (t2 : Fin k1_t2_loop.trips) (j : Fin 4) (x : S128x128.Idx) :
    (rBlk j).view.read (Elt F) (got d σ fo (base L t1 t2)) x
      = SparseCore.gatherPayload gathers_S1048576x128_S128x128 (oAll.view.read (Elt F) fo)
          (SparseCore.rows ((iRow j).view.read (Elt F) (lst d L fd t1 t2)) rfl (word_lt d L hσ t1 t2 j)) x := by
  unfold SparseCore.gatherPayload
  rw [View.read_apply, View.read_apply, cast_eq, cast_eq]
  have h0 : ((rBlk j).view.emb x 0).val = 128 * j.val + (x 0).val := ValueKit.rect_emb_unit_val (s := S512x128) ![128 * j.val, 0] S128x128.size (blk_inb j) x 0
  have h1 : ((rBlk j).view.emb x 1).val = 0 + (x 1).val := ValueKit.rect_emb_unit_val (s := S512x128) ![128 * j.val, 0] S128x128.size (blk_inb j) x 1
  refine congrArg fo (funext fun a => Fin.ext ?_)
  refine Eq.trans ?_ (ValueKit.rect_emb_unit_val _ _ _ _ a).symm
  match a with
  | 0 =>
    refine Eq.trans ?_ (Nat.zero_add _).symm
    refine Eq.trans ?_ (congrArg Fin.val (Shape.Gathers.idx_axis gathers_S1048576x128_S128x128 _ x)).symm
    refine Eq.trans ?_ (word_val d L hσ t1 t2 j _).symm
    show (σ (Fin.ofNat 1048576 (base L t1 t2 + ((rBlk j).view.emb x 0).val))).val = _
    rw [h0, list_pos, Nat.add_assoc]; rfl
  | 1 =>
    refine Eq.trans ?_ (Nat.zero_add _).symm
    refine Eq.trans ?_ (Shape.Gathers.idx_of_ne gathers_S1048576x128_S128x128 _ x 1 (by decide)).symm
    exact h1.trans (Nat.zero_add _)

/-! ## A chunk's pieces -/

abbrev axG : Fin S128x128.rank := gathers_S1048576x128_S128x128.axis'

omit [FloatOps F] in
theorem list_split (f : Buf (Elt F) ((iV).view.loc (thr d L))) :
    ((iV).view.loc (thr d L) ↦{fullShare} f : sProp 𝕄) = bigSep Finset.univ fun j : Fin 4 => (iV).view.loc (thr d L) ↦[(iRow j).view.set]{fullShare} f := by
  rw [← sect_univ (key := fun i : S4x128.Idx => (i 0).val) (n := 0 + 4 * 1) fun i => (i 0).isLt, pts_pieces]
  refine bigSep_congr fun j _ => ?_
  rw [← row_set j.val (row_inb j)]
  refine congrArg (fun I => ((iV).view.loc (thr d L) ↦[I]{fullShare} f : sProp 𝕄)) ?_
  exact ((Memref.set_view_squeeze _ _).trans (View.set_slice_whole _ _)).symm

omit [FloatOps F] in
theorem blk_split (f : Buf (Elt F) ((rV).view.loc (thr d L))) :
    ((rV).view.loc (thr d L) ↦{fullShare} f : sProp 𝕄) = bigSep Finset.univ fun j : Fin 4 => (rV).view.loc (thr d L) ↦[(rBlk j).view.set]{fullShare} f := by
  rw [← sect_univ (key := fun i : S512x128.Idx => (i 0).val) (n := 0 + 4 * 128) fun i => (i 0).isLt, pts_pieces]
  refine bigSep_congr fun j _ => ?_
  rw [← blk_set j.val (blk_inb j)]
  refine congrArg (fun I => ((rV).view.loc (thr d L) ↦[I]{fullShare} f : sProp 𝕄)) ?_
  exact (View.set_slice_whole _ _).symm

theorem oAll_set : oAll.view.set = Finset.univ := by
  refine (View.set_slice_whole _ _).trans ?_
  ext i; simp only [Finset.mem_univ, iff_true]
  rw [Rect.mem_set_unit]; intro a
  match a with
  | 0 => exact ⟨Nat.zero_le _, (i 0).isLt.trans_eq (Nat.zero_add _).symm⟩
  | 1 => exact ⟨Nat.zero_le _, (i 1).isLt.trans_eq (Nat.zero_add _).symm⟩

omit [FloatOps F] in
theorem src_split (q : PosShare TreeShare) (f : Buf (Elt F) (oLoc d)) :
    ((oV).view.loc (thr d L) ↦{q} f : sProp 𝕄)
      = bigSep Finset.univ fun j : Fin 4 => (oV).view.loc (thr d L) ↦[oAll.view.set]{pieceOf q 4 (by decide) j} f := by
  rw [oAll_set]; exact pointsTo_piecesOf _ _ _ _

/-- The units a row's transfer credits. -/
def unitN : ℕ := ((rBlk 0).slice (S128x128.rowRect axG ⟨0, by decide⟩) (S128x128.stride_rowRect axG _)).view.dmaCredit

/-- What stream `j`'s rows leave. -/
def leaves (σ : Equiv.Perm (Fin 1048576)) (q : PosShare TreeShare) (fo : Buf (Elt F) (oLoc d)) (fd : Buf (Elt F) (dLoc d))
    (t1 : Fin k1_t1_loop.trips) (t2 : Fin k1_t2_loop.trips) (j : Fin 4) : Fin (S128x128.size axG) → sProp 𝕄 :=
  gatherLeaves (thr d L) oAll (rBlk j) axG (by decide) (iRow j) rfl (pieceOf q 4 (by decide) j) fullShare fo
    (got d σ fo (base L t1 t2)) (lst d L fd t1 t2)

theorem leaves_storable (σ : Equiv.Perm (Fin 1048576)) (q : PosShare TreeShare) (fo : Buf (Elt F) (oLoc d)) (fd : Buf (Elt F) (dLoc d))
    (t1 : Fin k1_t1_loop.trips) (t2 : Fin k1_t2_loop.trips) (j : Fin 4) (k : Fin (S128x128.size axG)) :
    Storable (upEmb : UEmb _ 𝕄) (leaves d L σ q fo fd t1 t2 j k) := gatherLeaves_storable _ _ _ _ _ _ _ _ _ _ _ _ _

/-- All four streams' leavings: the chunk's rows, its list, the source's share. -/
theorem leaves_all (σ : Equiv.Perm (Fin 1048576)) (q : PosShare TreeShare) (fo : Buf (Elt F) (oLoc d)) (fd : Buf (Elt F) (dLoc d))
    (t1 : Fin k1_t1_loop.trips) (t2 : Fin k1_t2_loop.trips) :
    (bigSep Finset.univ fun j : Fin 4 => bigSep Finset.univ fun k => leaves d L σ q fo fd t1 t2 j k : sProp 𝕄)
      = iprop((((rV).view.loc (thr d L) ↦{fullShare} got d σ fo (base L t1 t2)) ∗ ((iV).view.loc (thr d L) ↦{fullShare} lst d L fd t1 t2))
          ∗ ((oV).view.loc (thr d L) ↦{q} fo)) := by
  rw [list_split d L, blk_split d L, src_split d L, ← bigSep_triples]
  exact bigSep_congr fun j _ => gatherLeaves_all _ _ _ _ _ _ _ _ _ _ _ _

theorem unitN_pos : 0 < unitN := by decide
theorem credit (j : Fin 4) : (rBlk j).view.dmaCredit = 128 * unitN := by revert j; decide

theorem uWin_set (t1 : Fin k1_t1_loop.trips) (t2 : Fin k1_t2_loop.trips) :
    (uWin L t1 t2).view.set = sect rowKey (base L t1 t2) (base L t1 t2 + 512) := by
  refine (View.set_slice_whole _ _).trans ?_
  ext i
  have h1 : (i 1).val < 128 := (i 1).isLt
  rw [Rect.mem_set_unit, mem_sect, k1_off2_eq]
  constructor
  · intro h
    have h0 := h 0
    change 65536 * (L 1).val + 32768 * (L 0).val + 4096 * t1.val + 512 * t2.val ≤ _ ∧ _ < 65536 * (L 1).val + 32768 * (L 0).val + 4096 * t1.val + 512 * t2.val + 512 at h0
    exact h0
  · intro h a
    match a with
    | 0 => exact h
    | 1 => exact ⟨Nat.zero_le _, h1.trans_eq (Nat.zero_add _).symm⟩

omit [FloatOps F] in
/-- The window of the gathered rows after the chunk's copy: the gathered rows. -/
theorem win_written (σ : Equiv.Perm (Fin 1048576)) (fo : Buf (Elt F) (oLoc d)) (t1 : Fin k1_t1_loop.trips) (t2 : Fin k1_t2_loop.trips)
    (f₀ : Buf (Elt F) (uLoc d)) {i : S1048576x128.Idx} (hi : i ∈ (uWin L t1 t2).view.set) :
    (uWin L t1 t2).view.writes (Elt F) f₀ [⟨Rect.whole S512x128, got d σ fo (base L t1 t2)⟩] i = gathered σ fo i := by
  obtain ⟨x, -, rfl⟩ := Finset.mem_map.mp hi
  have hx : (uWin L t1 t2).view.emb x = ((uWin L t1 t2).view.slice (Rect.whole S512x128)).emb x :=
    congrArg (uWin L t1 t2).view.emb (funext fun a => Fin.ext
      ((ValueKit.rect_emb_unit_val (s := S512x128) _ _ _ x a).trans (Nat.zero_add _)).symm)
  rw [View.writes_singleton, hx, View.write_emb_of_mem _ _ (Finset.mem_univ _), ← hx, cast_eq]
  have e0 := (ValueKit.rect_emb_unit_val (s := S1048576x128) (k1_off2 L t1 t2) S512x128.size (k1_off2_inb L t1 t2) x 0).trans
    (congrArg (· + _) (congrFun (k1_off2_eq L t1 t2) 0))
  have e1 := (ValueKit.rect_emb_unit_val (s := S1048576x128) (k1_off2 L t1 t2) S512x128.size (k1_off2_inb L t1 t2) x 1).trans
    (congrArg (· + _) (congrFun (k1_off2_eq L t1 t2) 1))
  change ((uWin L t1 t2).view.emb x 0).val = base L t1 t2 + (x 0).val at e0
  change ((uWin L t1 t2).view.emb x 1).val = 0 + (x 1).val at e1
  unfold got gathered
  have h0 : Fin.ofNat 1048576 (base L t1 t2 + (x 0).val) = (uWin L t1 t2).view.emb x 0 :=
    Fin.ext ((congrArg (· % 1048576) e0.symm).trans (Nat.mod_eq_of_lt ((uWin L t1 t2).view.emb x 0).isLt))
  have h1 : x 1 = (uWin L t1 t2).view.emb x 1 := Fin.ext ((Nat.zero_add _).symm.trans e1.symm)
  rw [h0]
  exact congrArg (fun b => fo (Shape.pair (d := ![1048576, 128]) (σ ((uWin L t1 t2).view.emb x 0)) b)) h1

/-- The waits a trip adds are all at the one wait index of copies. -/
theorem waits_mem {W W' : Waits sig (HIx 2)} (a b c e f g : SemLoc sig) (h : ∀ p ∈ W', p ∈ W ∨ p.2 = none) :
    ∀ p ∈ insert (a, (default : HIx 2)) (insert (b, default) (insert (c, default) (insert (e, default) (insert (f, default) (insert (g, default) W'))))),
      p ∈ W ∨ p.2 = none := by
  intro p hp
  simp only [Finset.mem_insert] at hp
  rcases hp with rfl | rfl | rfl | rfl | rfl | rfl | hp
  iterate 6 exact Or.inr rfl
  exact h p hp

/-! ## The trip -/

/-- What a trip holds, `p` the position it starts at. -/
def inv (σ : Equiv.Perm (Fin 1048576)) (q qd : PosShare TreeShare) (fo : Buf (Elt F) (oLoc d)) (fd : Buf (Elt F) (dLoc d)) (f₀ : Buf (Elt F) (uLoc d))
    (O : CellTallies nD τ sig (HIx 2)) (W : Waits sig (HIx 2)) (lo hi p : ℕ) : sProp 𝕄 :=
  iprop(levAts (K (F := F)).L (K (F := F)).lev
    ∗ ((oV).view.loc (thr d L) ↦{q} fo) ∗ ((dV).view.loc (thr d L) ↦{qd} fd)
    ∗ ((uV).view.loc (thr d L) ↦[sect rowKey lo p]{fullShare} gathered σ fo) ∗ ((uV).view.loc (thr d L) ↦[sect rowKey p hi]{fullShare} f₀)
    ∗ (∃ f, (iV).view.loc (thr d L) ↦{fullShare} f) ∗ (∃ f, (rV).view.loc (thr d L) ↦{fullShare} f)
    ∗ semVal ((thr d L), .dma cc1_scratch2.sem) 0 ∗ semVal ((thr d L), .dma cc1_scoped0.sem) 0 ∗ semVal ((thr d L), .dma cc1_scoped1.sem) 0
    ∗ ∃ W', ⌜∀ p ∈ W', p ∈ W ∨ p.2 = none⌝ ∗ owes (thr d L) O W')

theorem trips1 : k1_t1_loop.trips ≤ 8 := k1_t1_abs.2.1
theorem trips2 : k1_t2_loop.trips ≤ 8 := k1_t2_abs.2.1

set_option maxHeartbeats 1000000 in
theorem trip (σ : Equiv.Perm (Fin 1048576)) (q qd : PosShare TreeShare) (fo : Buf (Elt F) (oLoc d)) (fd : Buf (Elt F) (dLoc d)) (f₀ : Buf (Elt F) (uLoc d))
    (hσ : Ranked fd σ) (O : CellTallies nD τ sig (HIx 2)) (W : Waits sig (HIx 2)) (hO : ∀ g, O g none = 0) (lo hi : ℕ)
    (v4 : BitVec 32) (t1 : Fin k1_t1_loop.trips) (t2 : Fin k1_t2_loop.trips) (hlo : lo ≤ base L t1 t2) (hhi : base L t1 t2 + 512 ≤ hi) :
    inv d L σ q qd fo fd f₀ O W lo hi (base L t1 t2)
      ⊢ wp frame (wpE (defs₀ (F := F)) 𝒱₀ (thr d L) none) Set.univ
          (k1_t2_body L oV (Memref.isWhole_whole _) dV (Memref.isWhole_whole _) uV (Memref.isWhole_whole _)
            iV (Memref.isWhole_whole _) rV (Memref.isWhole_whole _) cc1_scratch2 cc1_scoped0 cc1_scoped1 t1 v4 t2 ())
          fun _ => inv d L σ q qd fo fd f₀ O W lo hi (base L t1 t2 + 512) := by
  unfold k1_t2_body
  rw [k1_part1_eq_skeleton, k1_part2_eq_skeleton]; unfold k1_part1_skel k1_part2_skel
  unfold inv
  iintro ⟨#Hlv, Ho, Hd, Hu, Hf, ⟨%fi, Hi⟩, ⟨%fr, Hr⟩, HsC, HsA, HsB, ⟨%W', %hW', HO⟩⟩
  ihave Hmw := (show levAts (K (F := F)).L (K (F := F)).lev ⊢ Transfers.MayWaits (thr d L) (default : HIx 2) O from
    (K (F := F)).mayWaits_none (thr := thr d L) hO) $$ Hlv
  sl_exec
  ihave Hi := (Entails.of_eq (show ((iV).view.loc (thr d L) ↦{fullShare} View.write (Elt F) (iV).view fi (trip.sl.dma0 d L fd t1 t2) Finset.univ : sProp 𝕄)
      = bigSep Finset.univ fun j : Fin 4 => (iV).view.loc (thr d L) ↦[(iRow j).view.set]{fullShare} lst d L fd t1 t2 from by
    rw [list_split d L, View.write_whole_univ]; rfl)) $$ Hi
  ihave Hr := (Entails.of_eq (blk_split d L fr)) $$ Hr
  ihave Ho := (Entails.of_eq (src_split d L q fo)) $$ Ho
  imod (streams_alloc countersEmb (thr d L) (default : HIx 2) unitN (leaves d L σ q fo fd t1 t2) (leaves_storable d L σ q fo fd t1 t2)) $$ HsC with HS
  ihave Hi := (Entails.of_eq (bigSep_four _)) $$ Hi
  ihave Hr := (Entails.of_eq (bigSep_four _)) $$ Hr
  ihave Ho := (Entails.of_eq (bigSep_four _)) $$ Ho
  icases Hi with ⟨Hi0, Hi1, Hi2, Hi3⟩
  icases Hr with ⟨Hr0, Hr1, Hr2, Hr3⟩
  icases Ho with ⟨Ho0, Ho1, Ho2, Ho3⟩
  iapply (wp_streamGather countersEmb 𝒱₀ (thr d L) none (default : HIx 2) unitN (fun _ => rfl) (by decide) (word_lt d L hσ t1 t2 0)
    (got_read d L fo hσ t1 t2 0) (0 : Fin 4) (u := 0) (Nat.zero_le _) (rfl : leaves d L σ q fo fd t1 t2 0 = _)) $$ [Hi0 Hr0 Ho0 HS]
  · isplitr [HS]
    · isplitl [Hr0]; · iexact Hr0
      isplitl [Hi0]; · iexact Hi0
      iexact Ho0
    · iexact HS
  iintro HS
  sl_exec
  iapply (wp_streamGather countersEmb 𝒱₀ (thr d L) none (default : HIx 2) unitN (fun _ => rfl) (by decide) (word_lt d L hσ t1 t2 1)
    (got_read d L fo hσ t1 t2 1) (1 : Fin 4) (u := 0) (Nat.zero_le _) (rfl : leaves d L σ q fo fd t1 t2 1 = _)) $$ [Hi1 Hr1 Ho1 HS]
  · isplitr [HS]
    · isplitl [Hr1]; · iexact Hr1
      isplitl [Hi1]; · iexact Hi1
      iexact Ho1
    · iexact HS
  iintro HS
  sl_exec
  iapply (wp_streamGather countersEmb 𝒱₀ (thr d L) none (default : HIx 2) unitN (fun _ => rfl) (by decide) (word_lt d L hσ t1 t2 2)
    (got_read d L fo hσ t1 t2 2) (2 : Fin 4) (u := 0) (Nat.zero_le _) (rfl : leaves d L σ q fo fd t1 t2 2 = _)) $$ [Hi2 Hr2 Ho2 HS]
  · isplitr [HS]
    · isplitl [Hr2]; · iexact Hr2
      isplitl [Hi2]; · iexact Hi2
      iexact Ho2
    · iexact HS
  iintro HS
  sl_exec
  iapply (wp_streamGather countersEmb 𝒱₀ (thr d L) none (default : HIx 2) unitN (fun _ => rfl) (by decide) (word_lt d L hσ t1 t2 3)
    (got_read d L fo hσ t1 t2 3) (3 : Fin 4) (u := 0) (Nat.zero_le _) (rfl : leaves d L σ q fo fd t1 t2 3 = _)) $$ [Hi3 Hr3 Ho3 HS]
  · isplitr [HS]
    · isplitl [Hr3]; · iexact Hr3
      isplitl [Hi3]; · iexact Hi3
      iexact Ho3
    · iexact HS
  iintro HS
  sl_exec
  ihave Hm := (Transfers.MayWaits.elim (SemLoc.dma cc1_scratch2.sem)) $$ Hmw
  iapply (wp_streamWait countersEmb 𝒱₀ (thr d L) none (default : HIx 2) (credit 0) (D := leaves d L σ q fo fd t1 t2) (u := 0) (by decide)) $$ [HS HO Hm]
  · isplitl [HS]; · iexact HS
    isplitl [HO]; · iexact HO
    iexact Hm
  iintro ⟨HS, HO⟩
  sl_exec
  ihave Hm := (Transfers.MayWaits.elim (SemLoc.dma cc1_scratch2.sem)) $$ Hmw
  iapply (wp_streamWait countersEmb 𝒱₀ (thr d L) none (default : HIx 2) (credit 1) (D := leaves d L σ q fo fd t1 t2) (u := 1) (by decide)) $$ [HS HO Hm]
  · isplitl [HS]; · iexact HS
    isplitl [HO]; · iexact HO
    iexact Hm
  iintro ⟨HS, HO⟩
  sl_exec
  ihave Hm := (Transfers.MayWaits.elim (SemLoc.dma cc1_scratch2.sem)) $$ Hmw
  iapply (wp_streamWait countersEmb 𝒱₀ (thr d L) none (default : HIx 2) (credit 2) (D := leaves d L σ q fo fd t1 t2) (u := 2) (by decide)) $$ [HS HO Hm]
  · isplitl [HS]; · iexact HS
    isplitl [HO]; · iexact HO
    iexact Hm
  iintro ⟨HS, HO⟩
  sl_exec
  ihave Hm := (Transfers.MayWaits.elim (SemLoc.dma cc1_scratch2.sem)) $$ Hmw
  iapply (wp_streamLast countersEmb 𝒱₀ (thr d L) none (default : HIx 2) (credit 3) unitN_pos (D := leaves d L σ q fo fd t1 t2) (u := 3) rfl) $$ [HS HO Hm]
  · isplitl [HS]; · iexact HS
    isplitl [HO]; · iexact HO
    iexact Hm
  iintro ⟨HS, HsC, HO⟩
  ihave HS := (show (bigSep (Finset.univ : Finset (Fin 4)) fun j => bigSep (Finset.univ : Finset (Fin 128)) fun i => leaves d L σ q fo fd t1 t2 j i : sProp 𝕄)
    ⊢ _ from Entails.of_eq (leaves_all d L σ q fo fd t1 t2)) $$ HS
  icases HS with ⟨⟨Hr, Hi⟩, Ho⟩
  ihave Hf := (Entails.of_eq (pts_cut (base L t1 t2 + 512) (Nat.le_add_right _ _) hhi)) $$ Hf
  icases Hf with ⟨Hw, Hf⟩
  ihave Hw := (Entails.of_eq (show ((uV).view.loc (thr d L) ↦[sect rowKey (base L t1 t2) (base L t1 t2 + 512)]{fullShare} f₀ : sProp 𝕄)
      = ((uV).slice (Rect.unit (s := S1048576x128) (k1_off2 L t1 t2) S512x128.size (k1_off2_inb L t1 t2)) (fun _ => rfl)).view.loc (thr d L)
        ↦[((uV).slice (Rect.unit (s := S1048576x128) (k1_off2 L t1 t2) S512x128.size (k1_off2_inb L t1 t2)) (fun _ => rfl)).view.set]{fullShare} f₀ from by
    rw [uWin_set])) $$ Hw
  sl_exec
  rw [wp_ret]
  imodintro
  ihave Hw := (Entails.of_eq ((pointsTo_congr (fun i hi => win_written d L σ fo t1 t2 f₀ hi)).trans
      (show _ = ((uV).view.loc (thr d L) ↦[sect rowKey (base L t1 t2) (base L t1 t2 + 512)]{fullShare} gathered σ fo : sProp 𝕄) from by
        rw [← uWin_set]))) $$ Hw
  isplitr; · iexact Hlv
  isplitl [Ho]; · iexact Ho
  isplitl [Hd]; · iexact Hd
  isplitl [Hu Hw]
  · rw [pts_cut (base L t1 t2) hlo (Nat.le_add_right _ 512)]
    isplitl [Hu]; · iexact Hu
    iexact Hw
  isplitl [Hf]; · iexact Hf
  isplitl [Hi]; · iexists _; iexact Hi
  isplitl [Hr]; · iexists _; iexact Hr
  isplitl [HsC]; · iexact HsC
  isplitl [HsA]; · iexact HsA
  isplitl [HsB]; · iexact HsB
  iexists _
  isplitr
  rotate_left
  · iexact HO
  · ipureintro
    exact waits_mem _ _ _ _ _ _ hW'

/-! ## The two counted loops -/

/-- The position of the subcore's first entry. -/
def lo (L : grid1.Coords) : ℕ := 65536 * (L 1).val + 32768 * (L 0).val

theorem base_zero : base L 0 0 = lo L := by unfold base lo; omega
theorem base_succ (t1 t2 : ℕ) : base L t1 (t2 + 1) = base L t1 t2 + 512 := by unfold base; omega
theorem base_row (t1 : ℕ) : base L t1 8 = base L (t1 + 1) 0 := by unfold base; omega
theorem base_end : base L 8 0 = lo L + 32768 := by unfold base lo; omega
theorem trips1_eq : k1_t1_loop.trips = 8 := by decide
theorem trips2_eq : k1_t2_loop.trips = 8 := by decide

theorem row (σ : Equiv.Perm (Fin 1048576)) (q qd : PosShare TreeShare) (fo : Buf (Elt F) (oLoc d)) (fd : Buf (Elt F) (dLoc d)) (f₀ : Buf (Elt F) (uLoc d))
    (hσ : Ranked fd σ) (O : CellTallies nD τ sig (HIx 2)) (W : Waits sig (HIx 2)) (hO : ∀ g, O g none = 0) (v1 : BitVec 32)
    (t1 : Fin k1_t1_loop.trips) :
    inv d L σ q qd fo fd f₀ O W (lo L) (lo L + 32768) (base L t1 0)
      ⊢ wp frame (wpE (defs₀ (F := F)) 𝒱₀ (thr d L) none) Set.univ
          (k1_t1_body L oV (Memref.isWhole_whole _) dV (Memref.isWhole_whole _) uV (Memref.isWhole_whole _)
            iV (Memref.isWhole_whole _) rV (Memref.isWhole_whole _) cc1_scratch2 cc1_scoped0 cc1_scoped1 v1 t1 ())
          fun _ => inv d L σ q qd fo fd f₀ O W (lo L) (lo L + 32768) (base L (t1 + 1) 0) := by
  unfold k1_t1_body
  iintro H
  iapply (Scf.wp_for_bind frame (wpE (defs₀ (F := F)) 𝒱₀ (thr d L) none) Set.univ _ _ _ k1_t2_ok ⟨⟩ _
    (fun k _ => inv d L σ q qd fo fd f₀ O W (lo L) (lo L + 32768) (base L t1 k)) (fun t2 _ => by
      rw [base_succ]
      have h1 := t1.isLt.trans_le trips1
      have h2 := t2.isLt.trans_le trips2
      exact trip d L σ q qd fo fd f₀ hσ O W hO _ _ _ t1 t2 (by unfold lo base; omega) (by unfold lo base; omega))) $$ H
  iintro %acc H
  rw [wp_pure]
  imodintro
  iapply (Entails.of_eq (congrArg (inv d L σ q qd fo fd f₀ O W (lo L) (lo L + 32768))
    (show base L t1 k1_t2_loop.trips = base L (t1 + 1) 0 from (congrArg (base L t1) trips2_eq).trans (base_row L t1))))
  iexact H

theorem rows_all (σ : Equiv.Perm (Fin 1048576)) (q qd : PosShare TreeShare) (fo : Buf (Elt F) (oLoc d)) (fd : Buf (Elt F) (dLoc d)) (f₀ : Buf (Elt F) (uLoc d))
    (hσ : Ranked fd σ) (O : CellTallies nD τ sig (HIx 2)) (W : Waits sig (HIx 2)) (hO : ∀ g, O g none = 0) :
    inv d L σ q qd fo fd f₀ O W (lo L) (lo L + 32768) (lo L)
      ⊢ wp frame (wpE (defs₀ (F := F)) 𝒱₀ (thr d L) none) Set.univ
          (cc1_sc_gather L oV (Memref.isWhole_whole _) dV (Memref.isWhole_whole _) uV (Memref.isWhole_whole _)
            iV (Memref.isWhole_whole _) rV (Memref.isWhole_whole _) cc1_scratch2 cc1_scoped0 cc1_scoped1)
          fun _ => inv d L σ q qd fo fd f₀ O W (lo L) (lo L + 32768) (lo L + 32768) := by
  rw [cc1_sc_gather_eq_skeleton]; unfold cc1_sc_gather_skel
  iintro H
  iapply (Scf.wp_for_bind frame (wpE (defs₀ (F := F)) 𝒱₀ (thr d L) none) Set.univ _ _ _ k1_t1_ok ⟨⟩ _
    (fun k _ => inv d L σ q qd fo fd f₀ O W (lo L) (lo L + 32768) (base L k 0)) (fun t1 _ => row d L σ q qd fo fd f₀ hσ O W hO _ t1)) $$ [H]
  · iapply (Entails.of_eq (congrArg (inv d L σ q qd fo fd f₀ O W (lo L) (lo L + 32768)) (base_zero L).symm)); iexact H
  iintro %acc H
  rw [wp_pure]
  imodintro
  iapply (Entails.of_eq (congrArg (inv d L σ q qd fo fd f₀ O W (lo L) (lo L + 32768))
    (show base L k1_t1_loop.trips 0 = lo L + 32768 from (congrArg (base L · 0) trips1_eq).trans (base_end L))))
  iexact H

/-! ## The task -/

abbrev sem2 : GSem nD τ sig := (thr d L, .dma cc1_scratch2.sem)
abbrev semA : GSem nD τ sig := (thr d L, .dma cc1_scoped0.sem)
abbrev semB : GSem nD τ sig := (thr d L, .dma cc1_scoped1.sem)

omit [FloatOps F] in
theorem ownSems :
    (ownSems0 (thr d L) : sProp 𝕄) = iprop(semVal (sem2 d L) 0 ∗ semVal (semA d L) 0 ∗ semVal (semB d L) 0
      ∗ bigSep ((((ownCells (thr d L)).erase (sem2 d L)).erase (semA d L)).erase (semB d L)) fun g => semVal g 0) := by
  unfold SparseCore.Cfg.ownSems0
  rw [SparseCore.bigSep_erase' ((mem_ownCells (g := sem2 d L)).mpr ⟨rfl, by
      show (SemLoc.dma cc1_scratch2.sem : SemLoc sig).isScoped .scVector = true; decide⟩),
    SparseCore.bigSep_erase' (Finset.mem_erase.mpr ⟨by simp [sem2, semA]; decide, (mem_ownCells (g := semA d L)).mpr ⟨rfl, by
      show (SemLoc.dma cc1_scoped0.sem : SemLoc sig).isScoped .scVector = true; decide⟩⟩),
    SparseCore.bigSep_erase' (Finset.mem_erase.mpr ⟨by simp [semA, semB]; decide, Finset.mem_erase.mpr ⟨by simp [sem2, semB]; decide,
      (mem_ownCells (g := semB d L)).mpr ⟨rfl, by show (SemLoc.dma cc1_scoped1.sem : SemLoc sig).isScoped .scVector = true; decide⟩⟩⟩)]

omit [FloatOps F] in
theorem ownBufs_eq :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (thr d L).2).erase ((thr d L).2.devRef cc1_scratch0)).erase ((thr d L).2.devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := (thr d L).2) (b := (thr d L).2.devRef cc1_scratch1) rfl⟩)]

/-- The task: from its shares and its section of the output at anything, its section at the gathered rows. -/
theorem task (hF : (K (F := F)).Facts) (σ : Equiv.Perm (Fin 1048576)) (q qd : PosShare TreeShare) (fo : Buf (Elt F) (oLoc d)) (fd : Buf (Elt F) (dLoc d))
    (f₀ : Buf (Elt F) (uLoc d)) (hσ : Ranked fd σ) (O : CellTallies nD τ sig (HIx 2)) (W : Waits sig (HIx 2)) (hO : ∀ g, O g none = 0) (X : sProp 𝕄) :
    iprop(levAts (K (F := F)).L (K (F := F)).lev ∗ X
        ∗ ((oLoc d ↦{q} fo) ∗ (dLoc d ↦{qd} fd) ∗ (uLoc d ↦[sect rowKey (lo L) (lo L + 32768)]{fullShare} f₀))
        ∗ scopedBufs (thr d L) ∗ scopedSems0 (thr d L) ∗ owes (thr d L) O W)
      ⊢ wp frame (wpE (defs₀ (F := F)) 𝒱₀ (thr d L) none) Set.univ
          (cc1_sc_gather L oV (Memref.isWhole_whole _) dV (Memref.isWhole_whole _) uV (Memref.isWhole_whole _)
            iV (Memref.isWhole_whole _) rV (Memref.isWhole_whole _) cc1_scratch2 cc1_scoped0 cc1_scoped1)
          fun _ => iprop(((oLoc d ↦{q} fo) ∗ (dLoc d ↦{qd} fd) ∗ (uLoc d ↦[sect rowKey (lo L) (lo L + 32768)]{fullShare} gathered σ fo))
            ∗ scopedBufs (thr d L) ∗ scopedSems0 (thr d L)
            ∗ ∃ W', ⌜∀ p ∈ W', p ∈ W ∨ p.2 = none⌝ ∗ owes (thr d L) O W') := by
  rw [(K (F := F)).scopedBufs_V hF d _ _, SparseCore.Cfg.scopedSems0_V (Val := Elt F) d _ _, ownSems, ownBufs_eq]
  iintro ⟨#Hlv, -, ⟨Ho, Hd, Hu⟩, ⟨Hi, Hr, Hbufs⟩, ⟨HsC, HsA, HsB, Hsems⟩, HO⟩
  ihave Hu := (Entails.of_eq (pts_cut (lo L) le_rfl (Nat.le_add_right _ _))) $$ Hu
  icases Hu with ⟨Hu, Hf⟩
  ihave Hu := (Entails.of_eq (pointsTo_congr (g := gathered σ fo) (fun i hi => by rw [sect_self] at hi; exact absurd hi (Finset.notMem_empty i)))) $$ Hu
  ihave Hwp := (rows_all d L σ q qd fo fd f₀ hσ O W hO) $$ [Hlv Ho Hd Hu Hf Hi Hr HsC HsA HsB HO]
  · unfold inv
    isplitr; · iexact Hlv
    isplitl [Ho]; · iexact Ho
    isplitl [Hd]; · iexact Hd
    isplitl [Hu]; · iexact Hu
    isplitl [Hf]; · iexact Hf
    isplitl [Hi]; · iexact Hi
    isplitl [Hr]; · iexact Hr
    isplitl [HsC]; · iexact HsC
    isplitl [HsA]; · iexact HsA
    isplitl [HsB]; · iexact HsB
    iexists W; isplitr
    · ipureintro; exact fun p hp => Or.inl hp
    · iexact HO
  iapply (wp_wand) $$ [Hwp]
  · iexact Hwp
  iintro %x H
  unfold inv
  icases H with ⟨-, Ho, Hd, Hu, -, Hi, Hr, HsC, HsA, HsB, HO⟩
  isplitl [Ho Hd Hu]
  · isplitl [Ho]; · iexact Ho
    isplitl [Hd]; · iexact Hd
    iexact Hu
  isplitl [Hi Hr Hbufs]
  · isplitl [Hi]; · iexact Hi
    isplitl [Hr]; · iexact Hr
    iexact Hbufs
  isplitl [HsC HsA HsB Hsems]
  · isplitl [HsC]; · iexact HsC
    isplitl [HsA]; · iexact HsA
    isplitl [HsB]; · iexact HsB
    iexact Hsems
  iexact HO

end Gather

end Cert.KernelIdeal.Sc
-- ==== Proof.LaunchIdeal.lean ====
/-
  THE LAUNCH: what the two calls hand their SparseCores and their vector subcores, each subcore's obligation from its task,
  `@main`, and the run of the whole program with the values of its two results.
-/
module

public import proofs.«01_k».proof.Proof.ScatterTileIdeal
public import proofs.«01_k».proof.Proof.GatherTileIdeal

@[expose] public section

noncomputable section

namespace Cert.KernelIdeal.Sc

open Cert.KernelIdeal Cert.KernelIdeal.Gen Cert.Sections Cert.Rows

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg) (σ : Dev nD → Equiv.Perm (Fin 1048576))

/-! ## The shares and the sections of the vector subcores -/

/-- The share of an array that subcore `i` of SparseCore `c` reads it at. -/
def sh (c : Fin 2) (i : Fin 16) : PosShare TreeShare := pieceOf (pieceOf fullShare 2 (by decide) c) 16 (by decide) i

/-- The first entry that subcore `i` of SparseCore `c` handles. -/
def first (c : Fin 2) (i : Fin 16) : ℕ := 65536 * i.val + 32768 * c.val

/-- An array dealt to every subcore at its share. -/
theorem deal_shares {ℓ : Loc nD τ sig} (f : Buf (Elt F) ℓ) :
    (ℓ ↦{fullShare} f : sProp 𝕄) = bigSep Finset.univ fun c : Fin 2 => bigSep Finset.univ fun i : Fin 16 => ℓ ↦{sh c i} f := by
  rw [pointsTo_piecesOf Finset.univ f (o := 2) (by decide) fullShare]
  exact bigSep_congr fun c _ => pointsTo_piecesOf Finset.univ f (o := 16) (by decide) _

/-- Over pairs, either index may come first. -/
theorem swap_two (Φ : Fin 2 → Fin 16 → sProp 𝕄) :
    (bigSep Finset.univ fun c => bigSep Finset.univ fun i => Φ c i) = bigSep Finset.univ fun i => bigSep Finset.univ fun c => Φ c i := by
  have two : ∀ Ψ : Fin 2 → sProp 𝕄, bigSep Finset.univ Ψ = iprop(Ψ 0 ∗ Ψ 1) := fun Ψ => by
    rw [show (Finset.univ : Finset (Fin 2)) = {0, 1} by decide, SparseCore.bigSep_insert' (by decide), bigSep_singleton]
  rw [two, ← bigSep_sep']
  exact bigSep_congr fun i _ => (two fun c => Φ c i).symm

/-- An array dealt to the subcores by sections of 32768 entries. -/
theorem deal_sections {ℓ : Loc nD τ sig} (key : Idx ℓ → ℕ) (h : ∀ i, key i < 1048576) (f : Buf (Elt F) ℓ) :
    (ℓ ↦{fullShare} f : sProp 𝕄) = bigSep Finset.univ fun c : Fin 2 => bigSep Finset.univ fun i : Fin 16 =>
      ℓ ↦[sect key (first c i) (first c i + 32768)]{fullShare} f := by
  rw [← sect_univ h, show (1048576 : ℕ) = 0 + 16 * 65536 by omega, pts_pieces 0 16 65536, swap_two]
  refine bigSep_congr fun i _ => ?_
  refine (congrArg (fun e => (ℓ ↦[sect key (0 + i.val * 65536) e]{fullShare} f : sProp 𝕄))
    (show 0 + i.val * 65536 + 65536 = 0 + i.val * 65536 + 2 * 32768 by omega)).trans ((pts_pieces _ 2 32768).trans ?_)
  refine bigSep_congr fun c _ => ?_
  rw [show 0 + i.val * 65536 + c.val * 32768 = first c i by unfold first; omega]

variable [FloatOps F]

/-! ## What the handshakes carry -/

/-- What a subcore is handed for the scatter, the output at `f`. -/
abbrev part0 (d : Dev nD) (f : Buf (Elt F) (sLoc d)) (c : Fin 2) (i : Fin 16) : sProp 𝕄 :=
  iprop((qLoc d ↦{sh c i} m (qLoc d)) ∗ (dLoc d ↦{sh c i} m (dLoc d))
    ∗ (sLoc d ↦[sect (Scatter.entKey (σ d)) (first c i) (first c i + 32768)]{fullShare} f))

/-- What a subcore is handed for the gather, the output at `f`. -/
abbrev part1 (d : Dev nD) (f : Buf (Elt F) (uLoc d)) (c : Fin 2) (i : Fin 16) : sProp 𝕄 :=
  iprop((oLoc d ↦{sh c i} m (oLoc d)) ∗ (dLoc d ↦{sh c i} m (dLoc d))
    ∗ (uLoc d ↦[sect Gather.rowKey (first c i) (first c i + 32768)]{fullShare} f))

theorem nCore_0 : (K (F := F)).nCore 0 = 2 := rfl
theorem nCore_1 : (K (F := F)).nCore 1 = 2 := rfl
theorem nSub_0 : (K (F := F)).nSub 0 = 16 := rfl
theorem nSub_1 : (K (F := F)).nSub 1 = 16 := rfl

def P : (K (F := F)).Pay (nD := nD) (Val := Elt F) (Name := ℕ) (U := UU) where
  st := fun q d c => match q with
    | 0 => bigSep Finset.univ fun i : Fin 16 => part0 m σ d (m (sLoc d)) (Fin.cast nCore_0 c) i
    | 1 => bigSep Finset.univ fun i : Fin 16 => part1 m d (m (uLoc d)) (Fin.cast nCore_1 c) i
  dn := fun q d c => match q with
    | 0 => bigSep Finset.univ fun i : Fin 16 => part0 m σ d (scattered (σ d) (m (qLoc d))) (Fin.cast nCore_0 c) i
    | 1 => bigSep Finset.univ fun i : Fin 16 => part1 m d (gathered (σ d) (m (oLoc d))) (Fin.cast nCore_1 c) i
  go := fun q d c i => match q with
    | 0 => part0 m σ d (m (sLoc d)) (Fin.cast nCore_0 c) (Fin.cast nSub_0 i)
    | 1 => part1 m d (m (uLoc d)) (Fin.cast nCore_1 c) (Fin.cast nSub_1 i)
  td := fun q d c i => match q with
    | 0 => part0 m σ d (scattered (σ d) (m (qLoc d))) (Fin.cast nCore_0 c) (Fin.cast nSub_0 i)
    | 1 => part1 m d (gathered (σ d) (m (oLoc d))) (Fin.cast nCore_1 c) (Fin.cast nSub_1 i)
  x := fun _ _ => iprop(emp)

instance P_storable : (P (F := F) m σ).IsStorable where
  st q d c := match q with
    | 0 => (inferInstance : BI.Storable (upEmb : UEmb _ 𝕄)
        (bigSep Finset.univ fun i : Fin 16 => part0 m σ d (m (sLoc d)) (Fin.cast nCore_0 c) i))
    | 1 => (inferInstance : BI.Storable (upEmb : UEmb _ 𝕄)
        (bigSep Finset.univ fun i : Fin 16 => part1 m d (m (uLoc d)) (Fin.cast nCore_1 c) i))
  dn q d c := match q with
    | 0 => (inferInstance : BI.Storable (upEmb : UEmb _ 𝕄)
        (bigSep Finset.univ fun i : Fin 16 => part0 m σ d (scattered (σ d) (m (qLoc d))) (Fin.cast nCore_0 c) i))
    | 1 => (inferInstance : BI.Storable (upEmb : UEmb _ 𝕄)
        (bigSep Finset.univ fun i : Fin 16 => part1 m d (gathered (σ d) (m (oLoc d))) (Fin.cast nCore_1 c) i))
  go q d c i := match q with
    | 0 => (inferInstance : BI.Storable (upEmb : UEmb _ 𝕄) (part0 m σ d (m (sLoc d)) (Fin.cast nCore_0 c) (Fin.cast nSub_0 i)))
    | 1 => (inferInstance : BI.Storable (upEmb : UEmb _ 𝕄) (part1 m d (m (uLoc d)) (Fin.cast nCore_1 c) (Fin.cast nSub_1 i)))
  td q d c i := match q with
    | 0 => (inferInstance : BI.Storable (upEmb : UEmb _ 𝕄)
        (part0 m σ d (scattered (σ d) (m (qLoc d))) (Fin.cast nCore_0 c) (Fin.cast nSub_0 i)))
    | 1 => (inferInstance : BI.Storable (upEmb : UEmb _ 𝕄)
        (part1 m d (gathered (σ d) (m (oLoc d))) (Fin.cast nCore_1 c) (Fin.cast nSub_1 i)))

/-- What the proof asks of the launch memory: on every device the destinations are the permutation's words. -/
def PreOK : Prop := ∀ d : Dev nD, Ranked (m (dLoc d)) (σ d)

/-! ## The obligations -/

def coords0 (c : Fin (grid0.bound 0)) (s : Fin (grid0.bound 1)) : grid0.Coords :=
  fun | 0 => c | 1 => s | ⟨_ + 2, h⟩ => absurd h (Nat.not_lt.2 (Nat.le_add_left _ _))

def coords1 (c : Fin (grid1.bound 0)) (s : Fin (grid1.bound 1)) : grid1.Coords :=
  fun | 0 => c | 1 => s | ⟨_ + 2, h⟩ => absurd h (Nat.not_lt.2 (Nat.le_add_left _ _))

theorem defs₀_scatter (c : Fin τ.nSC) (s : Fin τ.nSub) :
    defs₀ (F := F) (.scVector c s) 0 ()
      = SparseCore.onTile hcore0 hsub0 (fun c s => cc0_sc_scatter (coords0 c s)
          (Memref.whole main_arg0_scv) (Memref.isWhole_whole _) (Memref.whole main_arg1_scv) (Memref.isWhole_whole _)
          (Memref.whole main_v0_scv) (Memref.isWhole_whole _)
          (Memref.whole cc0_scratch0) (Memref.isWhole_whole _) (Memref.whole cc0_scratch1) (Memref.isWhole_whole _)
          cc0_scratch2 cc0_scoped0 cc0_scoped1) ⟨⟩ c s := rfl

theorem defs₀_gather (c : Fin τ.nSC) (s : Fin τ.nSub) :
    defs₀ (F := F) (.scVector c s) 1 ()
      = SparseCore.onTile hcore1 hsub1 (fun c s => cc1_sc_gather (coords1 c s)
          (Memref.whole main_arg2_scv) (Memref.isWhole_whole _) (Memref.whole main_arg1_scv) (Memref.isWhole_whole _)
          (Memref.whole main_v1_scv) (Memref.isWhole_whole _)
          (Memref.whole cc1_scratch0) (Memref.isWhole_whole _) (Memref.whole cc1_scratch1) (Memref.isWhole_whole _)
          cc1_scratch2 cc1_scoped0 cc1_scoped1) ⟨⟩ c s := rfl

omit [FloatOps F] in
/-- A task waits on no unit of the handshakes. -/
theorem post_of_task {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right ?_))
  iintro ⟨%W', %h, HO⟩
  iexists W'
  isplitr
  · ipureintro; exact fun p hp => (h p hp).imp_right Or.inl
  · iexact HO

set_option maxRecDepth 16384 in
theorem tile0 (h : PreOK m σ) : (K (F := F)).TileObl (D (F := F)) 𝒱 (P m σ) v₀ 0 := by
  intro d c i O W hO _ _
  simp only [show (P m σ).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_scatter]; simp only [SparseCore.onTile, hci, and_self, ↓reduceDIte]
  exact (Scatter.task d (coords0 ⟨_, hci.1⟩ ⟨_, hci.2⟩) facts (σ d) _ _ (m (qLoc d)) (m (dLoc d)) (m (sLoc d)) (h d) O W hO _).trans
    (wp_mono frame _ _ fun _ => post_of_task)

set_option maxRecDepth 16384 in
theorem tile1 (h : PreOK m σ) : (K (F := F)).TileObl (D (F := F)) 𝒱 (P m σ) v₀ 1 := by
  intro d c i O W hO _ _
  simp only [show (P m σ).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_gather]; simp only [SparseCore.onTile, hci, and_self, ↓reduceDIte]
  exact (Gather.task d (coords1 ⟨_, hci.1⟩ ⟨_, hci.2⟩) facts (σ d) _ _ (m (oLoc d)) (m (dLoc d)) (m (uLoc d)) (h d) O W hO _).trans
    (wp_mono frame _ _ fun _ => post_of_task)

theorem split0 : (K (F := F)).VecSplit' (P m σ) 0 := by
  intro d c
  show (bigSep Finset.univ fun i : Fin 16 => part0 m σ d (m (sLoc d)) (Fin.cast nCore_0 c) i) ⊢ |={Set.univ}=> iprop(
      (bigSep Finset.univ fun i : Fin 16 => part0 m σ d (m (sLoc d)) (Fin.cast nCore_0 c) i)
      ∗ ((bigSep Finset.univ fun i : Fin 16 => part0 m σ d (scattered (σ d) (m (qLoc d))) (Fin.cast nCore_0 c) i)
        -∗ bigSep Finset.univ fun i : Fin 16 => part0 m σ d (scattered (σ d) (m (qLoc d))) (Fin.cast nCore_0 c) i))
  iintro H; imodintro
  isplitl [H]; · iexact H
  iintro H; iexact H

theorem split1 : (K (F := F)).VecSplit' (P m σ) 1 := by
  intro d c
  show (bigSep Finset.univ fun i : Fin 16 => part1 m d (m (uLoc d)) (Fin.cast nCore_1 c) i) ⊢ |={Set.univ}=> iprop(
      (bigSep Finset.univ fun i : Fin 16 => part1 m d (m (uLoc d)) (Fin.cast nCore_1 c) i)
      ∗ ((bigSep Finset.univ fun i : Fin 16 => part1 m d (gathered (σ d) (m (oLoc d))) (Fin.cast nCore_1 c) i)
        -∗ bigSep Finset.univ fun i : Fin 16 => part1 m d (gathered (σ d) (m (oLoc d))) (Fin.cast nCore_1 c) i))
  iintro H; imodintro
  isplitl [H]; · iexact H
  iintro H; iexact H

/-! ## The ghost state of the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m σ).x q thr) := by
  have none_owed : (bigSep Finset.univ fun thr : Thread nD τ => bigSep Finset.univ fun q : Fin 2 => (P (F := F) m σ).x q thr)
      = (iprop(emp) : sProp 𝕄) :=
    (bigSep_congr fun _ _ => bigSep_emp_const Finset.univ).trans (bigSep_emp_const Finset.univ)
  rw [none_owed, show (bigSep Finset.univ fun _ : Dev nD => iprop(emp)) = (iprop(emp) : sProp 𝕄) from bigSep_emp_const Finset.univ]
  unfold u₀
  iintro Hu
  ihave H := (ownU_pair (initOf (K (F := F)).hsCells (K (F := F)).hsToks) (1 : Counters)) $$ Hu
  icases H with ⟨HH, -⟩
  imodintro
  isplitl [HH]; · iexact HH
  isplitr; · iempintro
  iempintro

/-! ## `@main` on the TensorCore -/

theorem unscopedBufs_eq (d : Dev nD) (W : (b : Ref sig .tc) → Buf (Elt F) ((d.tc : Thread nD τ).loc b)) :
    (unscopedBufs d W : sProp 𝕄) = iprop((qLoc d ↦{fullShare} W main_arg0) ∗ (dLoc d ↦{fullShare} W main_arg1)
      ∗ (oLoc d ↦{fullShare} W main_arg2) ∗ (sLoc d ↦{fullShare} W main_v0) ∗ uLoc d ↦{fullShare} W main_v1) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide),
    SparseCore.bigSep_insert' (by decide), bigSep_singleton]

/-- All the subcores' parts of a call: the arrays whole. -/
theorem parts0 (d : Dev nD) (f : Buf (Elt F) (sLoc d)) :
    (bigSep Finset.univ fun c : Fin 2 => bigSep Finset.univ fun i : Fin 16 => part0 m σ d f c i)
      = (iprop((qLoc d ↦{fullShare} m (qLoc d)) ∗ (dLoc d ↦{fullShare} m (dLoc d)) ∗ sLoc d ↦{fullShare} f) : sProp 𝕄) := by
  rw [deal_shares (m (qLoc d)), deal_shares (m (dLoc d)),
    deal_sections (ℓ := sLoc d) (Scatter.entKey (σ d)) (fun i => ((σ d).symm (i 0)).isLt) f]
  simp only [← bigSep_sep']

theorem parts1 (d : Dev nD) (f : Buf (Elt F) (uLoc d)) :
    (bigSep Finset.univ fun c : Fin 2 => bigSep Finset.univ fun i : Fin 16 => part1 m d f c i)
      = (iprop((oLoc d ↦{fullShare} m (oLoc d)) ∗ (dLoc d ↦{fullShare} m (dLoc d)) ∗ uLoc d ↦{fullShare} f) : sProp 𝕄) := by
  rw [deal_shares (m (oLoc d)), deal_shares (m (dLoc d)),
    deal_sections (ℓ := uLoc d) Gather.rowKey (fun i => (i 0).isLt) f]
  simp only [← bigSep_sep']

theorem st0 (d : Dev nD) : (bigSep Finset.univ fun c : Fin ((K (F := F)).nCore 0) => (P m σ).st 0 d c)
    = iprop((qLoc d ↦{fullShare} m (qLoc d)) ∗ (dLoc d ↦{fullShare} m (dLoc d)) ∗ sLoc d ↦{fullShare} m (sLoc d)) := parts0 m σ d _
theorem dn0 (d : Dev nD) : (bigSep Finset.univ fun c : Fin ((K (F := F)).nCore 0) => (P m σ).dn 0 d c)
    = iprop((qLoc d ↦{fullShare} m (qLoc d)) ∗ (dLoc d ↦{fullShare} m (dLoc d)) ∗ sLoc d ↦{fullShare} scattered (σ d) (m (qLoc d))) := parts0 m σ d _
theorem st1 (d : Dev nD) : (bigSep Finset.univ fun c : Fin ((K (F := F)).nCore 1) => (P m σ).st 1 d c)
    = iprop((oLoc d ↦{fullShare} m (oLoc d)) ∗ (dLoc d ↦{fullShare} m (dLoc d)) ∗ uLoc d ↦{fullShare} m (uLoc d)) := parts1 m d _
theorem dn1 (d : Dev nD) : (bigSep Finset.univ fun c : Fin ((K (F := F)).nCore 1) => (P m σ).dn 1 d c)
    = iprop((oLoc d ↦{fullShare} m (oLoc d)) ∗ (dLoc d ↦{fullShare} m (dLoc d)) ∗ uLoc d ↦{fullShare} gathered (σ d) (m (oLoc d))) := parts1 m d _

/-- The arrays as the program leaves them. -/
abbrev FIN (d : Dev nD) : sProp 𝕄 :=
  iprop((qLoc d ↦{fullShare} m (qLoc d)) ∗ (dLoc d ↦{fullShare} m (dLoc d)) ∗ (oLoc d ↦{fullShare} m (oLoc d))
    ∗ (sLoc d ↦{fullShare} scattered (σ d) (m (qLoc d))) ∗ uLoc d ↦{fullShare} gathered (σ d) (m (oLoc d)))

/-- `@main` on device `d`'s TensorCore: the two calls in turn. -/
theorem hmain (κ : GSem nD τ sig → ℕ) (d : Dev nD) :
    iprop((K (F := F)).ctx EH (P m σ) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m σ d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hq, Hd, Ho, Hs, Hu⟩, Hts, -⟩, -⟩
  iapply ((K (F := F)).wp_run (D (F := F)) 𝒱 (EH := EH) (P := P m σ) κ d 0) $$ [Hst Hq Hd Ho Hs Hu Hb Hts]
  isplitr; · iexact Hctx
  isplitl [Hst]; · iexact Hst
  isplitl [Hq Hd Hs]
  · rw [st0]
    isplitl [Hq]; · iexact Hq
    isplitl [Hd]; · iexact Hd
    iexact Hs
  iintro ⟨Hst, Hdn⟩
  ihave Hdn' := (Entails.of_eq (dn0 m σ d)) $$ Hdn
  icases Hdn' with ⟨Hq, Hd, Hs⟩
  iapply ((K (F := F)).wp_run (D (F := F)) 𝒱 (EH := EH) (P := P m σ) κ d 1) $$ [Hst Hq Hd Ho Hs Hu Hb Hts]
  isplitr; · iexact Hctx
  isplitl [Hst]; · iexact Hst
  isplitl [Ho Hd Hu]
  · rw [st1]
    isplitl [Ho]; · iexact Ho
    isplitl [Hd]; · iexact Hd
    iexact Hu
  iintro ⟨Hst, Hdn⟩
  ihave Hdn' := (Entails.of_eq (dn1 m σ d)) $$ Hdn
  icases Hdn' with ⟨Ho, Hd, Hu⟩
  imodintro
  isplitl [Hst]; · iexact Hst
  isplitr [Hb Hts]
  · isplitl [Hq]; · iexact Hq
    isplitl [Hd]; · iexact Hd
    isplitl [Ho]; · iexact Ho
    isplitl [Hs]; · iexact Hs
    iexact Hu
  isplitl [Hb] <;> iassumption

/-- The memory a device ends with. -/
def fin (d : Dev nD) (s' : Phys nD τ sig (Elt F)) : Prop :=
  s'.mem.mem (qLoc d) = m (qLoc d) ∧ s'.mem.mem (dLoc d) = m (dLoc d) ∧ s'.mem.mem (oLoc d) = m (oLoc d)
    ∧ s'.mem.mem (sLoc d) = scattered (σ d) (m (qLoc d)) ∧ s'.mem.mem (uLoc d) = gathered (σ d) (m (oLoc d))

/-- An array held whole is what the memory holds. -/
theorem held {s' : Phys nD τ sig (Elt F)} {ℓ : Loc nD τ sig} {f : Buf (Elt F) ℓ} {R : sProp 𝕄} {q : Prop} (h : iprop(R ∗ SI s') ⊢ (⌜q⌝ : sProp 𝕄)) :
    iprop(((ℓ ↦{fullShare} f) ∗ R) ∗ SI s') ⊢ (⌜s'.mem.mem ℓ = f ∧ q⌝ : sProp 𝕄) := by
  iintro ⟨⟨Hf, HR⟩, HSI⟩
  ihave H := (persistent_entails_right (SI_pointsTo_agree (st := s') (ℓ := ℓ) (I := Finset.univ) (q := fullShare) (f := f))) $$ [HSI Hf]
  · isplitl [HSI] <;> iassumption
  icases H with ⟨%h1, HSI, -⟩
  ihave H := h $$ [HSI HR]
  · isplitl [HR] <;> iassumption
  icases H with %h2
  ipureintro; exact ⟨funext fun i => h1 i (Finset.mem_univ i), h2⟩

set_option maxRecDepth 16384 in
theorem hfin (d : Dev nD) (s' : Phys nD τ sig (Elt F)) : iprop(FIN m σ d ∗ SI s') ⊢ (⌜fin m σ d s'⌝ : sProp 𝕄) := by
  refine held (held (held (held ?_)))
  iintro ⟨Hu, HSI⟩
  ihave H := (SI_pointsTo_agree (st := s') (ℓ := uLoc d) (I := Finset.univ) (q := fullShare) (f := gathered (σ d) (m (oLoc d)))) $$ [HSI Hu]
  · isplitl [HSI] <;> iassumption
  icases H with %h
  ipureintro; exact funext fun i => h i (Finset.mem_univ i)

/-- The states the program ends in: the arguments unchanged, the two results, every semaphore at zero. -/
def QC : PUnit × MemSt nD τ sig (Elt F) → Prop := fun r =>
  (∀ d : Dev nD, r.2.mem (qLoc d) = m (qLoc d) ∧ r.2.mem (dLoc d) = m (dLoc d) ∧ r.2.mem (oLoc d) = m (oLoc d)
    ∧ r.2.mem (sLoc d) = scattered (σ d) (m (qLoc d)) ∧ r.2.mem (uLoc d) = gathered (σ d) (m (oLoc d))) ∧ r.2.sem = fun _ => 0

/-- The run of the program. -/
theorem run_main [∀ e, Nonempty (Elt F e)] (h : PreOK m σ) :
    θ_run (Cert.KernelIdeal.defs (F := F)) (Cert.KernelIdeal.threads (F := F)) ⟨m, fun _ => 0, ρ⟩ (QC m σ) :=
  SparseCore.Cfg.θ_run_sc_quiescent (K := K (F := F)) (D := D (F := F)) (𝒱 := 𝒱) (EH := EH) (P := P m σ) (A := ∅) facts v₀
    (fun q hq => match q with | 0 => nomatch hq | 1 => nomatch hq)
    (fun q _ => match q with | 0 => tile0 m σ h | 1 => tile1 m σ h)
    (fun q _ => match q with | 0 => SparseCore.Cfg.VecSplit.of_plain (split0 m σ) | 1 => SparseCore.Cfg.VecSplit.of_plain (split1 m σ))
    m ρ main (fun _ => iprop(emp)) (FIN m σ) (u₀ (F := F)) (sep_elim_left.trans (hu₀ m σ)) (hmain m ρ σ) (fin m σ) (hfin m σ) (QC m σ)
    (fun _ h hz => ⟨h, hz⟩)

end Cert.KernelIdeal.Sc

end
-- ==== Proof.Destinations.lean ====
/-
  THE DESTINATIONS: the precondition — each of the 256 rows of destinations, less its base, sorts to 0 .. 4095 — says that each
  row is a permutation of its own block, and the second result of the sort is that permutation's inverse.
-/
module

public import proofs.«01_k».proof.Proof.Rows
public import proofs.«01_k».proof.Proof.Gen.Pre_ranks
public import Idealize.ShloMosaic.Lib.Pipeline.Value
public import Idealize.ShloMosaic.Lib.SortFacts
public import Idealize.ShloMosaic.Lib.ReduceAll
public import Idealize.ShloMosaic.Lib.WordCmp

@[expose] public section

noncomputable section

namespace Cert.Rows

open Idealize.ShloMosaic Idealize.ShloMosaic.ValueIdx
open Cert.Pre_ranks Cert.Pre_ranks.Gen

/-- The destinations in 256 rows, each less the base of its row's block. -/
def offsets (f : IVec S256x32x128 32) : IVec S256x4096 32 :=
  subi (shapeCast _ f shapeCasts_S256x32x128_S256x4096) (broadcastInDim S256x4096 ![0, 1] bcast_S256x1_S256x4096_0_1
    (broadcastInDim S256x1 ![0] bcast_S256_S256x1_0 (muli (iotaInDim S256 32 0) (broadcastInDim S256 ![] bcast_S_S256 (constantI S_ 32 4096#32)))))

/-- Where entry `i` of row `t` is among the destinations. -/
def entry (t : Fin 256) (i : Fin 4096) : S256x32x128.Idx :=
  ix3 t ⟨i.val / 128, by omega⟩ ⟨i.val % 128, by omega⟩

theorem offsets_apply (f : IVec S256x32x128 32) (t : Fin 256) (i : Fin 4096) :
    offsets f (ix2 t i) = f (entry t i) - BitVec.ofNat 32 (t.val * 4096) := by
  have h1 : shapeCast S256x4096 f shapeCasts_S256x32x128_S256x4096 (ix2 t i) = f (entry t i) := by
    refine shapeCast_apply _ _ _ _ ?_
    rw [Shape.rowMajor_val_three, Shape.rowMajor_val_two]
    show (t.val * 32 + i.val / 128) * 128 + i.val % 128 = t.val * 4096 + i.val
    omega
  have h2 : ∀ y : IVec S256 32, broadcastInDim S256x4096 ![0, 1] bcast_S256x1_S256x4096_0_1
      (broadcastInDim S256x1 ![0] bcast_S256_S256x1_0 y) (ix2 t i) = y (ix1 t) := by
    intro y
    refine (broadcastInDim_apply _ _ _ _ (ix2 t 0) ?_).trans (broadcastInDim_apply _ _ _ _ (ix1 t) ?_)
    · intro a; match a with | 0 => rfl | 1 => rfl
    · intro a; match a with | 0 => rfl
  show shapeCast S256x4096 f shapeCasts_S256x32x128_S256x4096 (ix2 t i) - broadcastInDim S256x4096 ![0, 1] bcast_S256x1_S256x4096_0_1
    (broadcastInDim S256x1 ![0] bcast_S256_S256x1_0 (muli (iotaInDim S256 32 0) (broadcastInDim S256 ![] bcast_S_S256 (constantI S_ 32 4096#32)))) (ix2 t i) = _
  rw [h1, h2]
  show _ - BitVec.ofNat 32 t.val * BitVec.ofNat 32 4096 = _
  rw [BitVec.ofNat_mul]

/-- The order of the positions of row `t` by their values, as the sort compares them. -/
def before (x : IVec S256x4096 32) (t : Fin 256) (k k' : Fin 4096) : Bool :=
  IntOp.cmpi .slt (x (ix2 t k)) (x (ix2 t k')) == 1#1

theorem along_ix2 (t : Fin 256) (i k : Fin 4096) : (ix2 t i : S256x4096.Idx).along 1 k = ix2 t k := by
  funext a
  match a with
  | 0 => rfl
  | 1 => rfl

theorem sort_apply (x : IVec S256x4096 32) (t : Fin 256) (k : Fin 4096) :
    Host.sort S256x4096 1 comparator_i32_d1 x (ix2 t k) = x (ix2 t (sortedFrom (before x t) k)) := by
  have h : ∀ k', (ix2 t k : S256x4096.Idx).along 1 k' = ix2 t k' := along_ix2 t k
  show x ((ix2 t k : S256x4096.Idx).along 1 (sortedFrom (fun p q => comparator_i32_d1 (x ((ix2 t k : S256x4096.Idx).along 1 p)) (x ((ix2 t k : S256x4096.Idx).along 1 q)) == 1#1) k)) = _
  rw [h]
  simp only [h]
  rfl

/-- The positions the sort of row `t` takes its entries from, as a permutation. -/
def taken (x : IVec S256x4096 32) (t : Fin 256) : Equiv.Perm (Fin 4096) :=
  Equiv.ofBijective (sortedFrom (before x t)) (And.intro (sortedFrom_injective _) (sortedFrom_surjective _))

theorem taken_apply (x : IVec S256x4096 32) (t : Fin 256) (k : Fin 4096) : taken x t k = sortedFrom (before x t) k :=
  Equiv.ofBijective_apply ..

/-- A row that sorts to 0 .. 4095 is a permutation, undone by the positions the sort takes its entries from. -/
theorem perm_of_sort (x : IVec S256x4096 32)
    (h : ∀ t k, Host.sort S256x4096 1 comparator_i32_d1 x (ix2 t k) = BitVec.ofNat 32 k.val) :
    ∃ π : Fin 256 → Equiv.Perm (Fin 4096), (∀ t i, x (ix2 t i) = BitVec.ofNat 32 (π t i).val)
      ∧ ∀ t k, sortedFrom (before x t) k = (π t).symm k := by
  refine ⟨fun t => (taken x t).symm, fun t i => ?_, fun t k => ?_⟩
  · have h1 := h t ((taken x t).symm i)
    rw [sort_apply, ← taken_apply, Equiv.apply_symm_apply] at h1
    exact h1
  · rw [Equiv.symm_symm, taken_apply]

/-- The precondition, read: the offsets of each row of destinations sort to 0 .. 4095. -/
theorem sort_of_pre {F : FTy → Type} [FloatOps F] (q : FVec F S262144x128 .f32) (f : IVec S256x32x128 32) (o : FVec F S1048576x128 .f32)
    (h : Cert.Pre_ranks.fn q f o = fun _ => 1#1) (t : Fin 256) (k : Fin 4096) :
    Host.sort S256x4096 1 comparator_i32_d1 (offsets f) (ix2 t k) = BitVec.ofNat 32 k.val := by
  have h0 : Host.reduce IntOp.andi (cmpi .eq (Host.sort S256x4096 1 comparator_i32_d1 (offsets f))
      (broadcastInDim S256x4096 ![0, 1] bcast_S1x4096_S256x4096_0_1 (broadcastInDim S1x4096 ![1] bcast_S4096_S1x4096_1 (iotaInDim S4096 32 0))))
      (constantI S_ 1 1#1) reducesTo_S256x4096_S_d0_1 h_S_ ix0 = 1#1 := congrFun h ix0
  haveI : Subsingleton S_.Idx := ⟨fun a b => funext fun d => d.elim0⟩
  have h1 := Host.reduce_andi_all _ _ _ _ _ h0 (ix2 t k)
  have h2 : broadcastInDim S256x4096 ![0, 1] bcast_S1x4096_S256x4096_0_1 (broadcastInDim S1x4096 ![1] bcast_S4096_S1x4096_1 (iotaInDim S4096 32 0)) (ix2 t k)
      = BitVec.ofNat 32 k.val := by
    refine (broadcastInDim_apply _ _ _ _ (ix2 0 k) ?_).trans (broadcastInDim_apply _ _ _ _ (ix1 k) ?_)
    · intro a; match a with | 0 => rfl | 1 => rfl
    · intro a; match a with | 0 => rfl
  have h3 : IntOp.cmpi .eq (Host.sort S256x4096 1 comparator_i32_d1 (offsets f) (ix2 t k)) (BitVec.ofNat 32 k.val) = 1#1 := by
    rw [← h2]; exact h1
  rw [WordCmp.cmpi_eq_eq] at h3
  by_contra hne
  rw [decide_eq_false hne] at h3
  exact absurd h3 (by decide)

/-- What the precondition gives: a permutation of each block, the destinations being it and the sort's positions its inverse. -/
theorem perm_of_pre {F : FTy → Type} [FloatOps F] (q : FVec F S262144x128 .f32) (f : IVec S256x32x128 32) (o : FVec F S1048576x128 .f32)
    (h : Cert.Pre_ranks.fn q f o = fun _ => 1#1) :
    ∃ π : Fin 256 → Equiv.Perm (Fin 4096), (∀ t i, offsets f (ix2 t i) = BitVec.ofNat 32 (π t i).val)
      ∧ (∀ t k, sortedFrom (before (offsets f) t) k = (π t).symm k) ∧ Ranked f (blocks π) := by
  obtain ⟨π, h1, h2⟩ := perm_of_sort (offsets f) (sort_of_pre q f o h)
  refine ⟨π, h1, h2, fun x => ?_⟩
  have x1 : (x 1).val < 32 := (x 1).isLt
  have x2 : (x 2).val < 128 := (x 2).isLt
  have x0 : (x 0).val < 256 := (x 0).isLt
  have hi : (x 1).val * 128 + (x 2).val < 4096 := by omega
  have he : x = entry (x 0) ⟨(x 1).val * 128 + (x 2).val, hi⟩ := by
    funext a
    apply Fin.ext
    match a with
    | 0 => rfl
    | 1 => show (x 1).val = ((x 1).val * 128 + (x 2).val) / 128; omega
    | 2 => show (x 2).val = ((x 1).val * 128 + (x 2).val) % 128; omega
  have h3 := (offsets_apply f (x 0) ⟨(x 1).val * 128 + (x 2).val, hi⟩).symm.trans (h1 (x 0) ⟨(x 1).val * 128 + (x 2).val, hi⟩)
  rw [← he] at h3
  have h4 : f x = BitVec.ofNat 32 (π (x 0) ⟨(x 1).val * 128 + (x 2).val, hi⟩).val + BitVec.ofNat 32 ((x 0).val * 4096) := by
    rw [← h3, BitVec.sub_add_cancel]
  have hp := (π (x 0) ⟨(x 1).val * 128 + (x 2).val, hi⟩).isLt
  have hn : (Fin.ofNat 1048576 ((x 0).val * 4096 + (x 1).val * 128 + (x 2).val)).val = (x 0).val * 4096 + ((x 1).val * 128 + (x 2).val) := by
    show ((x 0).val * 4096 + (x 1).val * 128 + (x 2).val) % 1048576 = _
    omega
  have hb : (blocks π (Fin.ofNat 1048576 ((x 0).val * 4096 + (x 1).val * 128 + (x 2).val))).val
      = (x 0).val * 4096 + (π (x 0) ⟨(x 1).val * 128 + (x 2).val, hi⟩).val := by
    show (Fin.ofNat 1048576 ((x 0).val * 4096 + (x 1).val * 128 + (x 2).val)).val / 4096 * 4096
      + (π ⟨(Fin.ofNat 1048576 ((x 0).val * 4096 + (x 1).val * 128 + (x 2).val)).val / 4096, _⟩
          ⟨(Fin.ofNat 1048576 ((x 0).val * 4096 + (x 1).val * 128 + (x 2).val)).val % 4096, _⟩).val = _
    have e1 : (Fin.ofNat 1048576 ((x 0).val * 4096 + (x 1).val * 128 + (x 2).val)).val / 4096 = (x 0).val := by rw [hn]; omega
    have e2 : (Fin.ofNat 1048576 ((x 0).val * 4096 + (x 1).val * 128 + (x 2).val)).val % 4096 = (x 1).val * 128 + (x 2).val := by rw [hn]; omega
    simp only [e1, e2]
    rfl
  rw [hb, h4, BitVec.toNat_add, BitVec.toNat_ofNat, BitVec.toNat_ofNat]
  omega

end Cert.Rows

end
-- ==== Proof.RefValue.lean ====
/-
  THE REFERENCE'S TWO RESULTS: each is rows taken along the blocks, at the destinations for the gather and at the sorted
  positions for the scatter; under the precondition they are the gathered and the scattered rows.
-/
module

public import proofs.«01_k».proof.Proof.Destinations
public import proofs.«01_k».proof.Proof.Gen.ReferenceIdeal.Run

@[expose] public section

noncomputable section

namespace Cert.ReferenceIdeal.Rows

open Idealize.ShloMosaic Idealize.ShloMosaic.ValueIdx
open Cert.ReferenceIdeal Cert.ReferenceIdeal.Gen Cert.Rows

variable {F : FTy → Type} [FloatOps F]

/-- The start indices of a take along the blocks: the given ones, a negative one counted from the block's end. -/
def starts (X : IVec S256x4096 32) : IVec S256x4096x1 32 :=
  select (cmpi .slt (broadcastInDim S256x4096x1 ![0, 1] bcast_S256x4096_S256x4096x1_0_1 X) (broadcastInDim S256x4096x1 ![] bcast_S_S256x4096x1 (constantI S_ 32 0#32)))
    (addi (broadcastInDim S256x4096x1 ![0, 1] bcast_S256x4096_S256x4096x1_0_1 X) (broadcastInDim S256x4096x1 ![] bcast_S_S256x4096x1 (constantI S_ 32 4096#32)))
    (broadcastInDim S256x4096x1 ![0, 1] bcast_S256x4096_S256x4096x1_0_1 X)

/-- The rows of each block taken at the given indices; not a number where an index is out of range. -/
def takeAlong (x : FVec F S256x4096x128 .f32) (X : IVec S256x4096 32) : FVec F S256x4096x128 .f32 :=
  select (broadcastInDim S256x4096x128 ![0, 1] bcast_S256x4096_S256x4096x128_0_1
      (Host.reduce IntOp.andi (andi (cmpi .sge (starts X) (broadcastInDim S256x4096x1 ![] bcast_S_S256x4096x1 (constantI S_ 32 0#32)))
        (cmpi .sle (starts X) (broadcastInDim S256x4096x1 ![0, 1, 2] bcast_S1x1x1_S256x4096x1_0_1_2 (broadcastInDim S1x1x1 ![2] bcast_S1_S1x1x1_2 (constantI S1 32 4095#32)))))
        (constantI S_ 1 1#1) reducesTo_S256x4096x1_S256x4096_d2 h_S_))
    (Host.gather gather_S256x4096x128_S256x4096x1_S256x4096x128_2_1_0_0_1_2_11128 x (starts X))
    (broadcastInDim S256x4096x128 ![] bcast_S_S256x4096x128 (constant S_ .f32 0x7FC00000#32))

theorem starts_apply (X : IVec S256x4096 32) (t : Fin 256) (k : Fin 4096) (e : Fin 1) (r : Fin 4096)
    (h : X (ix2 t k) = BitVec.ofNat 32 r.val) : starts X (ix3 t k e) = BitVec.ofNat 32 r.val := by
  have h1 : broadcastInDim S256x4096x1 ![0, 1] bcast_S256x4096_S256x4096x1_0_1 X (ix3 t k e) = BitVec.ofNat 32 r.val := by
    refine (broadcastInDim_apply _ _ _ _ (ix2 t k) ?_).trans h
    intro a; match a with | 0 => rfl | 1 => rfl
  have hr := r.isLt
  show Scalar.select (IntOp.cmpi .slt (broadcastInDim S256x4096x1 ![0, 1] bcast_S256x4096_S256x4096x1_0_1 X (ix3 t k e)) (BitVec.ofNat 32 0)) _
    (broadcastInDim S256x4096x1 ![0, 1] bcast_S256x4096_S256x4096x1_0_1 X (ix3 t k e)) = _
  rw [h1, WordCmp.cmpi_slt_ofNat (by omega) (by omega), decide_eq_false (by omega)]
  rfl

/-- The mask of the indices in range is 1 throughout when every index is. -/
theorem mask_apply (X : IVec S256x4096 32) (r : Fin 256 → Fin 4096 → Fin 4096) (h : ∀ t k, X (ix2 t k) = BitVec.ofNat 32 (r t k).val)
    (j : S256x4096.Idx) :
    Host.reduce IntOp.andi (andi (cmpi .sge (starts X) (broadcastInDim S256x4096x1 ![] bcast_S_S256x4096x1 (constantI S_ 32 0#32)))
        (cmpi .sle (starts X) (broadcastInDim S256x4096x1 ![0, 1, 2] bcast_S1x1x1_S256x4096x1_0_1_2 (broadcastInDim S1x1x1 ![2] bcast_S1_S1x1x1_2 (constantI S1 32 4095#32)))))
        (constantI S_ 1 1#1) reducesTo_S256x4096x1_S256x4096_d2 h_S_ j = 1#1 := by
  refine Host.reduce_andi_one _ _ _ _ _ rfl fun i => ?_
  have hr := (r (i 0) (i 1)).isLt
  show IntOp.andi (IntOp.cmpi .sge (starts X i) (BitVec.ofNat 32 0)) (IntOp.cmpi .sle (starts X i) (BitVec.ofNat 32 4095)) = 1#1
  have hs : starts X i = BitVec.ofNat 32 (r (i 0) (i 1)).val := by
    rw [eq_ix3 i]
    exact starts_apply X _ _ _ _ (h _ _)
  rw [hs, WordCmp.cmpi_sge_ofNat (by omega) (by omega), WordCmp.cmpi_sle_ofNat (by omega) (by omega), decide_eq_true (by omega), decide_eq_true (by omega)]
  rfl

theorem gather_apply {α : Type} (x : S256x4096x128.Idx → α) (I : IVec S256x4096x1 32) (t : Fin 256) (k : Fin 4096) (c : Fin 128) (r : Fin 4096)
    (h : I (ix3 t k 0) = BitVec.ofNat 32 r.val) :
    Host.gather gather_S256x4096x128_S256x4096x1_S256x4096x128_2_1_0_0_1_2_11128 x I (ix3 t k c) = x (ix3 t r c) := by
  have hr := r.isLt
  refine congrArg x (funext fun a => Fin.ext ?_)
  match a with
  | 0 =>
    show GatherDims.start _ _ _ _ + GatherDims.batchCoord _ _ _ + GatherDims.offCoord _ _ _ = t.val
    rw [GatherDims.start_batching _ _ _ _ (by decide), GatherDims.offCoord_eq_zero _ _ _ (by decide)]
    show 0 + t.val + 0 = t.val
    omega
  | 1 =>
    show GatherDims.start _ _ _ _ + GatherDims.batchCoord _ _ _ + GatherDims.offCoord _ _ _ = r.val
    rw [GatherDims.batchCoord_eq_zero _ _ _ (by decide), GatherDims.offCoord_eq_zero _ _ _ (by decide)]
    have hi : GatherDims.start gather_S256x4096x128_S256x4096x1_S256x4096x128_2_1_0_0_1_2_11128 (ix3 t k c) I 1 = min (I (ix3 t k 0)).toInt.toNat (4096 - 1) := by
      unfold GatherDims.start
      rw [dif_pos (by decide)]
      refine congrArg (fun q => min (I q).toInt.toNat (4096 - 1)) (funext fun b => ?_)
      match b with
      | 0 => rfl
      | 1 => rfl
      | 2 => rfl
    have hn : (BitVec.ofNat 32 r.val).toNat = r.val := by rw [BitVec.toNat_ofNat]; omega
    rw [hi, h, WordCmp.toInt_eq_toNat_of_lt_half (by rw [hn]; omega), hn]
    omega
  | 2 =>
    show GatherDims.start _ _ _ _ + GatherDims.batchCoord _ _ _ + GatherDims.offCoord _ _ _ = c.val
    rw [GatherDims.batchCoord_eq_zero _ _ _ (by decide)]
    have hs : GatherDims.start gather_S256x4096x128_S256x4096x1_S256x4096x128_2_1_0_0_1_2_11128 (ix3 t k c) I 2 = 0 := by
      unfold GatherDims.start
      rw [dif_neg (by decide)]
    rw [hs]
    show 0 + 0 + c.val = c.val
    omega

theorem takeAlong_apply (x : FVec F S256x4096x128 .f32) (X : IVec S256x4096 32) (r : Fin 256 → Fin 4096 → Fin 4096)
    (h : ∀ t k, X (ix2 t k) = BitVec.ofNat 32 (r t k).val) (t : Fin 256) (k : Fin 4096) (c : Fin 128) :
    takeAlong x X (ix3 t k c) = x (ix3 t (r t k) c) := by
  have hm : ∀ M : IVec S256x4096 1, (∀ j, M j = 1#1) → broadcastInDim S256x4096x128 ![0, 1] bcast_S256x4096_S256x4096x128_0_1 M (ix3 t k c) = 1#1 :=
    fun M hM => hM _
  unfold takeAlong
  show Scalar.select _ _ _ = _
  rw [hm _ (mask_apply X r h)]
  exact gather_apply x (starts X) t k c (r t k) (starts_apply X t k 0 _ (h t k))

/-! ## The two results -/

theorem sort2_apply (X : IVec S256x4096 32) (t : Fin 256) (k : Fin 4096) :
    (Host.sort2 S256x4096 1 comparator_i32_i32_d1 X (iotaInDim S256x4096 32 1)).2 (ix2 t k)
      = BitVec.ofNat 32 (sortedFrom (before X t) k).val := by
  have h : ∀ k', (ix2 t k : S256x4096.Idx).along 1 k' = ix2 t k' := along_ix2 t k
  show iotaInDim S256x4096 32 1 ((ix2 t k : S256x4096.Idx).along 1 (sortedFrom (fun p q => comparator_i32_i32_d1
    (X ((ix2 t k : S256x4096.Idx).along 1 p), iotaInDim S256x4096 32 1 ((ix2 t k : S256x4096.Idx).along 1 p))
    (X ((ix2 t k : S256x4096.Idx).along 1 q), iotaInDim S256x4096 32 1 ((ix2 t k : S256x4096.Idx).along 1 q)) == 1#1) k)) = _
  simp only [h]
  rfl

/-- Row `n`, lane `c` of a result is block `n / 4096`, row `n % 4096` of the blocks. -/
theorem rows_apply {α : Type} (y : S256x4096x128.Idx → α) (i : S1048576x128.Idx) :
    shapeCast S1048576x128 y shapeCasts_S256x4096x128_S1048576x128 i
      = y (ix3 ⟨(i 0).val / 4096, by have : (i 0).val < 1048576 := (i 0).isLt; omega⟩ ⟨(i 0).val % 4096, by omega⟩ (i 1)) := by
  refine shapeCast_apply _ _ _ _ ?_
  rw [Shape.rowMajor_val_three, Shape.rowMajor_val_two]
  show ((i 0).val / 4096 * 4096 + (i 0).val % 4096) * 128 + (i 1).val = (i 0).val * 128 + (i 1).val
  omega

theorem gathered_eq (o : FVec F S1048576x128 .f32) (X : IVec S256x4096 32) (π : Fin 256 → Equiv.Perm (Fin 4096))
    (h : ∀ t i, X (ix2 t i) = BitVec.ofNat 32 (π t i).val) :
    shapeCast S1048576x128 (takeAlong (shapeCast S256x4096x128 o shapeCasts_S1048576x128_S256x4096x128) X) shapeCasts_S256x4096x128_S1048576x128
      = gathered (blocks π) o := by
  funext i
  refine (rows_apply _ i).trans ((takeAlong_apply _ _ (fun t k => π t k) h _ _ _).trans ?_)
  refine shapeCast_apply _ _ _ _ ?_
  rw [Shape.rowMajor_val_three, Shape.rowMajor_val_two]
  rfl

theorem scattered_eq (q : FVec F S262144x128 .f32) (X : IVec S256x4096 32) (π : Fin 256 → Equiv.Perm (Fin 4096))
    (h : ∀ t k, X (ix2 t k) = BitVec.ofNat 32 ((π t).symm k).val) :
    shapeCast S1048576x128 (takeAlong (shapeCast S256x4096x128 (broadcastInDim S4x64x4096x128 ![0, 1, 2, 3] bcast_S1x64x4096x128_S4x64x4096x128_0_1_2_3
        (shapeCast S1x64x4096x128 q shapeCasts_S262144x128_S1x64x4096x128)) shapeCasts_S4x64x4096x128_S256x4096x128) X) shapeCasts_S256x4096x128_S1048576x128
      = scattered (blocks π) q := by
  funext i
  have hi : (i 0).val < 1048576 := (i 0).isLt
  refine (rows_apply _ i).trans ((takeAlong_apply _ _ (fun t k => (π t).symm k) h _ _ _).trans ?_)
  have h1 : ((blocks π).symm (i 0)).val = (i 0).val / 4096 * 4096
      + ((π ⟨(i 0).val / 4096, by omega⟩).symm ⟨(i 0).val % 4096, by omega⟩).val := rfl
  generalize (π ⟨(i 0).val / 4096, by omega⟩).symm ⟨(i 0).val % 4096, by omega⟩ = p at h1 ⊢
  have hp := p.isLt
  refine (shapeCast_apply _ _ _ (ix4 ⟨(i 0).val / 4096 / 64, by omega⟩ ⟨(i 0).val / 4096 % 64, by omega⟩ p (i 1)) ?_).trans
    ((broadcastInDim_apply _ _ _ _ (ix4 0 ⟨(i 0).val / 4096 % 64, by omega⟩ p (i 1)) ?_).trans (shapeCast_apply _ _ _ _ ?_))
  · rw [Shape.rowMajor_val_three, Shape.rowMajor_val_four]
    show (((i 0).val / 4096 / 64 * 64 + (i 0).val / 4096 % 64) * 4096 + p.val) * 128 + (i 1).val = ((i 0).val / 4096 * 4096 + p.val) * 128 + (i 1).val
    omega
  · intro a
    match a with
    | 0 => rfl
    | 1 => rfl
    | 2 => rfl
    | 3 => rfl
  · refine (Shape.rowMajor_val_two _).trans (Eq.trans ?_ (Shape.rowMajor_val_four _).symm)
    show (((blocks π).symm (i 0)).val / 4096 % 64 * 4096 + ((blocks π).symm (i 0)).val % 4096) * 128 + (i 1).val
      = ((0 * 64 + (i 0).val / 4096 % 64) * 4096 + p.val) * 128 + (i 1).val
    rw [h1]
    omega

/-- Both results of the reference under the precondition, at the permutation the destinations are. -/
theorem results (m : (ℓ : Loc nD τ sig) → Buf (Elt F) ℓ) (c : Dev nD) (π : Fin 256 → Equiv.Perm (Fin 4096))
    (h1 : ∀ t i, offsets (m ((c.tc : Thread nD τ).loc main_arg1)) (ix2 t i) = BitVec.ofNat 32 (π t i).val)
    (h2 : ∀ t k, sortedFrom (before (offsets (m ((c.tc : Thread nD τ).loc main_arg1))) t) k = (π t).symm k) :
    Value.res_out0 m c = scattered (blocks π) (m ((c.tc : Thread nD τ).loc main_arg0))
      ∧ Value.res_out1 m c = gathered (blocks π) (m ((c.tc : Thread nD τ).loc main_arg2)) :=
  ⟨scattered_eq (m ((c.tc : Thread nD τ).loc main_arg0)) (Host.sort2 S256x4096 1 comparator_i32_i32_d1 (offsets (m ((c.tc : Thread nD τ).loc main_arg1))) (iotaInDim S256x4096 32 1)).2 π
      fun t k => (sort2_apply _ t k).trans (by rw [h2]),
    gathered_eq (m ((c.tc : Thread nD τ).loc main_arg2)) (offsets (m ((c.tc : Thread nD τ).loc main_arg1))) π h1⟩

end Cert.ReferenceIdeal.Rows

end
-- ==== Proof.CombineValue.lean ====
/-
  The combination over the hashing rounds and the feed-forward layers: over the reals the tiles of 512 rows that the kernel writes
  are those rows of the reference's products.

  Both sides weigh the four rounds by the same softmax (`mixed`); what differs is that the kernel multiplies 512 rows at a time,
  of a matrix whose rows are the batch's and the sequence's positions together, and the reference all rows at once.
-/
module

public import proofs.«01_k».proof.Proof.Gen.CombineIdeal.Value
public import proofs.«01_k».proof.Proof.Gen.CombineReferenceIdeal.Run
public import Idealize.ShloMosaic.Lib.Pointwise

@[expose] public section

noncomputable section

namespace Cert.CombineIdeal.Rows

open Cert.CombineIdeal Cert.CombineIdeal.Gen Cert.CombineIdeal.Value Idealize.ShloMosaic Idealize.ShloMosaic.TcCoe Idealize.SL.Sem

/-- The heads' outputs weighed by the softmax of their log-sums over the four rounds and added up, position by position. -/
abbrev mixed (x : FVec Ideal S1048576x128 .f32) : FVec Ideal S4x4096x16x64 .f32 :=
  transpose S4x4096x16x64 [0, 2, 1, 3] (Host.reduceAdd (mulf (extractStridedSlice S4x4x16x4096x64 ![0, 0, 0, 0, 0] (shapeCast _ x shapeCasts_S1048576x128_S4x4x16x4096x128) slices_S4x4x16x4096x128_S4x4x16x4096x64_0_0_0_0_0) (broadcastInDim S4x4x16x4096x64 ![0, 1, 2, 3, 4] bcast_S4x4x16x4096x1_S4x4x16x4096x64_0_1_2_3_4 (broadcastInDim S4x4x16x4096x1 ![0, 1, 2, 3] bcast_S4x4x16x4096_S4x4x16x4096x1_0_1_2_3 (Host.divf (Host.exp (subf (shapeCast _ (extractStridedSlice S4x4x16x4096x1 ![0, 0, 0, 0, 64] (shapeCast _ x shapeCasts_S1048576x128_S4x4x16x4096x128) slices_S4x4x16x4096x128_S4x4x16x4096x1_0_0_0_0_64) shapeCasts_S4x4x16x4096x1_S4x4x16x4096) (broadcastInDim S4x4x16x4096 ![0, 1, 2, 3] bcast_S1x4x16x4096_S4x4x16x4096_0_1_2_3 (broadcastInDim S1x4x16x4096 ![1, 2, 3] bcast_S4x16x4096_S1x4x16x4096_1_2_3 (maximumf (broadcastInDim S4x16x4096 ![] bcast_S_S4x16x4096 (constant S_ .f32 0xFF800000#32)) (Host.reduce FloatOps.maximumf (shapeCast _ (extractStridedSlice S4x4x16x4096x1 ![0, 0, 0, 0, 64] (shapeCast _ x shapeCasts_S1048576x128_S4x4x16x4096x128) slices_S4x4x16x4096x128_S4x4x16x4096x1_0_0_0_0_64) shapeCasts_S4x4x16x4096x1_S4x4x16x4096) (constant S_ .f32 0xFF800000#32) reducesTo_S4x4x16x4096_S4x16x4096_d0 h_S_)))))) (broadcastInDim S4x4x16x4096 ![0, 1, 2, 3] bcast_S1x4x16x4096_S4x4x16x4096_0_1_2_3 (broadcastInDim S1x4x16x4096 ![1, 2, 3] bcast_S4x16x4096_S1x4x16x4096_1_2_3 (Host.reduceAdd (Host.exp (subf (shapeCast _ (extractStridedSlice S4x4x16x4096x1 ![0, 0, 0, 0, 64] (shapeCast _ x shapeCasts_S1048576x128_S4x4x16x4096x128) slices_S4x4x16x4096x128_S4x4x16x4096x1_0_0_0_0_64) shapeCasts_S4x4x16x4096x1_S4x4x16x4096) (broadcastInDim S4x4x16x4096 ![0, 1, 2, 3] bcast_S1x4x16x4096_S4x4x16x4096_0_1_2_3 (broadcastInDim S1x4x16x4096 ![1, 2, 3] bcast_S4x16x4096_S1x4x16x4096_1_2_3 (maximumf (broadcastInDim S4x16x4096 ![] bcast_S_S4x16x4096 (constant S_ .f32 0xFF800000#32)) (Host.reduce FloatOps.maximumf (shapeCast _ (extractStridedSlice S4x4x16x4096x1 ![0, 0, 0, 0, 64] (shapeCast _ x shapeCasts_S1048576x128_S4x4x16x4096x128) slices_S4x4x16x4096x128_S4x4x16x4096x1_0_0_0_0_64) shapeCasts_S4x4x16x4096x1_S4x4x16x4096) (constant S_ .f32 0xFF800000#32) reducesTo_S4x4x16x4096_S4x16x4096_d0 h_S_)))))) (constant S_ .f32 0x00000000#32) reducesTo_S4x4x16x4096_S4x16x4096_d0 h_S_))))))) (constant S_ .f32 0x00000000#32) reducesTo_S4x4x16x4096x64_S4x16x4096x64_d0 h_S_) transposes_S4x16x4096x64_S4x4096x16x64_0_2_1_3

/-- One entry of the layers' result: row `a` through the output projection, the two layers and their biases. -/
def entry (a : Fin 1024 → EReal) (wo : FVec Ideal S1024x1024 .f32) (w1 : FVec Ideal S1024x4096 .f32) (b1 : Fin 4096 → EReal)
    (w2 : FVec Ideal S4096x1024 .f32) (b2 : Fin 1024 → EReal) (j : Fin 1024) : EReal :=
  (∑ k : Fin 4096, max ((∑ l : Fin 1024, (∑ n : Fin 1024, a n * wo (ix2 n l)) * w1 (ix2 l k)) + b1 k) 0 * w2 (ix2 k j)) + b2 j

theorem entry_congr {a a' : Fin 1024 → EReal} (wo : FVec Ideal S1024x1024 .f32) (w1 : FVec Ideal S1024x4096 .f32) {b1 b1' : Fin 4096 → EReal}
    (w2 : FVec Ideal S4096x1024 .f32) {b2 b2' : Fin 1024 → EReal} (j : Fin 1024) (h : a = a') (h1 : b1 = b1') (h2 : b2 = b2') :
    entry a wo w1 b1 w2 b2 j = entry a' wo w1 b1' w2 b2' j := by rw [h, h1, h2]

/-- The kernel's tile at an entry. -/
theorem tile_apply (x : FVec Ideal S512x1024 .f32) (wo : FVec Ideal S1024x1024 .f32) (w1 : FVec Ideal S1024x4096 .f32)
    (b1 : FVec Ideal S1x4096 .f32) (w2 : FVec Ideal S4096x1024 .f32) (b2 : FVec Ideal S1x1024 .f32) (r : Fin 512) (j : Fin 1024) :
    k0_pay1 (F := Ideal) x wo w1 b1 w2 b2 (ix2 r j) = entry (fun n => x (ix2 r n)) wo w1 (fun k => b1 (ix2 0 k)) w2 (fun k => b2 (ix2 0 k)) j := by
  pointwise [k0_pay1, entry]

/-- The reference's products at an entry, over the rows `X` of the batch's positions. -/
theorem whole_apply (X : FVec Ideal Cert.CombineReferenceIdeal.S4x4096x1024 .f32) (wo : FVec Ideal S1024x1024 .f32) (w1 : FVec Ideal S1024x4096 .f32)
    (b1 : FVec Ideal Cert.CombineReferenceIdeal.S4096 .f32) (w2 : FVec Ideal S4096x1024 .f32) (b2 : FVec Ideal Cert.CombineReferenceIdeal.S1024 .f32)
    (b : Fin 4) (s : Fin 4096) (j : Fin 1024) :
    addf (Host.dotGeneral Cert.CombineReferenceIdeal.dot_S4x4096x4096_S4096x1024_S4x4096x1024_2_0_01_1_n_n none (maximumf (addf (Host.dotGeneral Cert.CombineReferenceIdeal.dot_S4x4096x1024_S1024x4096_S4x4096x4096_2_0_01_1_n_n none (Host.dotGeneral Cert.CombineReferenceIdeal.dot_S4x4096x1024_S1024x1024_S4x4096x1024_2_0_01_1_n_n none X wo) w1) (broadcastInDim Cert.CombineReferenceIdeal.S4x4096x4096 ![0, 1, 2] Cert.CombineReferenceIdeal.Gen.bcast_S1x1x4096_S4x4096x4096_0_1_2 (broadcastInDim Cert.CombineReferenceIdeal.S1x1x4096 ![2] Cert.CombineReferenceIdeal.Gen.bcast_S4096_S1x1x4096_2 b1))) (broadcastInDim Cert.CombineReferenceIdeal.S4x4096x4096 ![] Cert.CombineReferenceIdeal.Gen.bcast_S_S4x4096x4096 (constant Cert.CombineReferenceIdeal.S_ .f32 0x00000000#32))) w2) (broadcastInDim Cert.CombineReferenceIdeal.S4x4096x1024 ![0, 1, 2] Cert.CombineReferenceIdeal.Gen.bcast_S1x1x1024_S4x4096x1024_0_1_2 (broadcastInDim Cert.CombineReferenceIdeal.S1x1x1024 ![2] Cert.CombineReferenceIdeal.Gen.bcast_S1024_S1x1x1024_2 b2)) (ix3 b s j)
      = entry (fun n => X (ix3 b s n)) wo w1 (fun k => b1 (ix1 k)) w2 (fun k => b2 (ix1 k)) j := by
  pointwise [entry]

variable (m : (ℓ : Loc nD τ sig) → Buf (Elt Ideal) ℓ)

/-- The rows of the first matrix, as the region finds them. -/
theorem V_rows (c : Dev nD) : V m c main_v20 = shapeCast _ (mixed (m ((c : Thread nD τ).loc main_arg0))) shapeCasts_S4x4096x16x64_S16384x1024 := by
  simp only [V, hostOps0]; after_results_simp <;> rfl

/-- The first bias as a row. -/
theorem V_bias1 (c : Dev nD) : V m c main_v21 = shapeCast _ (m ((c : Thread nD τ).loc main_arg3)) shapeCasts_S4096_S1x4096 := by
  simp only [V, hostOps0]; after_results_simp <;> rfl

/-- The second bias as a row. -/
theorem V_bias2 (c : Dev nD) : V m c main_v22 = shapeCast _ (m ((c : Thread nD τ).loc main_arg5)) shapeCasts_S1024_S1x1024 := by
  simp only [V, hostOps0]; after_results_simp <;> rfl

/-- The reference's result, of the arguments. -/
def G (x : FVec Ideal S1048576x128 .f32) (wo : FVec Ideal S1024x1024 .f32) (w1 : FVec Ideal S1024x4096 .f32)
    (b1 : FVec Ideal S4096 .f32) (w2 : FVec Ideal S4096x1024 .f32) (b2 : FVec Ideal S1024 .f32) : FVec Ideal S16384x1024 .f32 :=
  fun i => entry (fun n => shapeCast S16384x1024 (mixed x) shapeCasts_S4x4096x16x64_S16384x1024 (ix2 (i 0) n)) wo w1 (fun k => b1 (ix1 k)) w2 (fun k => b2 (ix1 k)) (i 1)

theorem hz : (![0, 0] : Fin 2 → Nat) = fun _ => 0 := funext fun a => by fin_cases a <;> rfl

/-- The windows' places: the rows and the result go with the point, the rest stand still. -/
theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

theorem row_lt (t : Fin cfg0.N) (r : Fin 512) : t.val * 512 + r.val < 16384 := by
  have := t.isLt; have := N_0; have : cfg0.N = 32 := N_0; omega

theorem emb0 (t : Fin cfg0.N) (j : S512x1024.Idx) : ((cfg0.win 0).blk t).view.emb j = ix2 ⟨t.val * 512 + (j 0).val, row_lt t (j 0)⟩ (j 1) := by
  obtain ⟨e0, e1⟩ := idx0 t
  funext a; apply Fin.ext
  match a with
  | ⟨0, _⟩ => show win0_0.index t (0 : Fin 2) * 512 + 1 * (j 0).val = t.val * 512 + (j 0).val; omega
  | ⟨1, _⟩ => show win0_0.index t (1 : Fin 2) * 1024 + 1 * (j 1).val = (j 1).val; omega

theorem emb6 (t : Fin cfg0.N) (j : S512x1024.Idx) : ((cfg0.win 6).blk t).view.emb j = ix2 ⟨t.val * 512 + (j 0).val, row_lt t (j 0)⟩ (j 1) := by
  obtain ⟨e0, e1⟩ := idx6 t
  funext a; apply Fin.ext
  match a with
  | ⟨0, _⟩ => show win0_6.index t (0 : Fin 2) * 512 + 1 * (j 0).val = t.val * 512 + (j 0).val; omega
  | ⟨1, _⟩ => show win0_6.index t (1 : Fin 2) * 1024 + 1 * (j 1).val = (j 1).val; omega

theorem emb1 (t : Fin cfg0.N) (j : S1024x1024.Idx) : ((cfg0.win 1).blk t).view.emb j = j := by
  obtain ⟨e0, e1⟩ := idx1 t
  funext a; apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega

theorem emb2 (t : Fin cfg0.N) (j : S1024x4096.Idx) : ((cfg0.win 2).blk t).view.emb j = j := by
  obtain ⟨e0, e1⟩ := idx2 t
  funext a; apply Fin.ext
  match a with
  | ⟨0, _⟩ => show win0_2.index t (0 : Fin 2) * 1024 + 1 * (j 0).val = (j 0).val; omega
  | ⟨1, _⟩ => show win0_2.index t (1 : Fin 2) * 4096 + 1 * (j 1).val = (j 1).val; omega

theorem emb3 (t : Fin cfg0.N) (j : S1x4096.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 4096 + 1 * (j 1).val = (j 1).val; omega

theorem emb4 (t : Fin cfg0.N) (j : S4096x1024.Idx) : ((cfg0.win 4).blk t).view.emb j = j := by
  obtain ⟨e0, e1⟩ := idx4 t
  funext a; apply Fin.ext
  match a with
  | ⟨0, _⟩ => show win0_4.index t (0 : Fin 2) * 4096 + 1 * (j 0).val = (j 0).val; omega
  | ⟨1, _⟩ => show win0_4.index t (1 : Fin 2) * 1024 + 1 * (j 1).val = (j 1).val; omega

theorem emb5 (t : Fin cfg0.N) (j : S1x1024.Idx) : ((cfg0.win 5).blk t).view.emb j = j := by
  obtain ⟨e0, e1⟩ := idx5 t
  funext a; apply Fin.ext
  match a with
  | ⟨0, _⟩ => show win0_5.index t (0 : Fin 2) * 1 + 1 * (j 0).val = (j 0).val; omega
  | ⟨1, _⟩ => show win0_5.index t (1 : Fin 2) * 1024 + 1 * (j 1).val = (j 1).val; omega

theorem iblk0_apply (c : Dev nD) (t : Fin cfg0.N) (j : S512x1024.Idx) :
    iblk m c 0 t j = V m c main_v20 (ix2 ⟨t.val * 512 + (j 0).val, row_lt t (j 0)⟩ (j 1)) := by
  show V m c main_v20 (((cfg0.win 0).blk t).view.emb j) = _; rw [emb0]; rfl
theorem iblk1_eq (c : Dev nD) (t : Fin cfg0.N) : iblk m c 1 t = V m c main_arg1 := by
  funext j; show V m c main_arg1 (((cfg0.win 1).blk t).view.emb j) = _; rw [emb1]
theorem iblk2_eq (c : Dev nD) (t : Fin cfg0.N) : iblk m c 2 t = V m c main_arg2 := by
  funext j; show V m c main_arg2 (((cfg0.win 2).blk t).view.emb j) = _; rw [emb2]
theorem iblk3_eq (c : Dev nD) (t : Fin cfg0.N) : iblk m c 3 t = V m c main_v21 := by
  funext j; show V m c main_v21 (((cfg0.win 3).blk t).view.emb j) = _; rw [emb3]
theorem iblk4_eq (c : Dev nD) (t : Fin cfg0.N) : iblk m c 4 t = V m c main_arg4 := by
  funext j; show V m c main_arg4 (((cfg0.win 4).blk t).view.emb j) = _; rw [emb4]
theorem iblk5_eq (c : Dev nD) (t : Fin cfg0.N) : iblk m c 5 t = V m c main_v22 := by
  funext j; show V m c main_v22 (((cfg0.win 5).blk t).view.emb j) = _; rw [emb5]

/-- The result as one function of what the launch finds. -/
abbrev GV (c : Dev nD) : FVec Ideal S16384x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- A point's loads and its one store take whole buffers. -/
theorem out_eq {F : FTy → Type} [FloatOps F] (x0 : Vec F S512x1024 .f32) (x1 : Vec F S1024x1024 .f32) (x2 : Vec F S1024x4096 .f32)
    (x3 : Vec F S1x4096 .f32) (x4 : Vec F S4096x1024 .f32) (x5 : Vec F S1x1024 .f32) : out0_6 x0 x1 x2 x3 x4 x5 = k0_pay1 x0 x1 x2 x3 x4 x5 := by
  unfold out0_6
  rw [View.canon_unit_zero hz,
    show View.ld x0 r0_0 = x0 from View.ld_unit_zero hz _ x0, show View.ld x1 r0_1 = x1 from View.ld_unit_zero hz _ x1,
    show View.ld x2 r0_2 = x2 from View.ld_unit_zero hz _ x2, show View.ld x3 r0_3 = x3 from View.ld_unit_zero hz _ x3,
    show View.ld x4 r0_4 = x4 from View.ld_unit_zero hz _ x4, show View.ld x5 r0_5 = x5 from View.ld_unit_zero hz _ x5]

/-- The biases as rows, at an entry. -/
theorem bias1_apply (b : FVec Ideal S4096 .f32) (k : Fin 4096) : shapeCast S1x4096 b shapeCasts_S4096_S1x4096 (ix2 0 k) = b (ix1 k) := by
  pointwise
theorem bias2_apply (b : FVec Ideal S1024 .f32) (k : Fin 1024) : shapeCast S1x1024 b shapeCasts_S1024_S1x1024 (ix2 0 k) = b (ix1 k) := by
  pointwise

/-- What a point writes back is its 512 rows of it. -/
theorem flushed_eq (c : Dev nD) (t : Fin cfg0.N) :
    (dats m 0 c).flushed 6 t = ((cfg0.win 6).blk t).view.read (Elt Ideal) (GV m c) := by
  rw [flushed6, iblk1_eq, iblk2_eq, iblk3_eq, iblk4_eq, iblk5_eq, V_main_arg1, V_main_arg2, V_main_arg4, V_bias1, V_bias2]
  rw [out_eq]
  funext j
  show k0_pay1 (F := Ideal) (iblk m c 0 t) (m ((c : Thread nD τ).loc main_arg1)) (m ((c : Thread nD τ).loc main_arg2)) (shapeCast _ (m ((c : Thread nD τ).loc main_arg3)) shapeCasts_S4096_S1x4096) (m ((c : Thread nD τ).loc main_arg4)) (shapeCast _ (m ((c : Thread nD τ).loc main_arg5)) shapeCasts_S1024_S1x1024) j
    = GV m c (((cfg0.win 6).blk t).view.emb j)
  rw [emb6]
  obtain ⟨r, l, rfl⟩ : ∃ (r : Fin 512) (l : Fin 1024), j = ix2 r l := ⟨j 0, j 1, by funext a; match a with | ⟨0, _⟩ => rfl | ⟨1, _⟩ => rfl⟩
  refine (tile_apply _ _ _ _ _ _ r l).trans ?_
  exact entry_congr _ _ _ l (funext fun n => (iblk0_apply m c t (ix2 r n)).trans (congrFun (V_rows m c) _))
    (funext fun k => bias1_apply _ k) (funext fun k => bias2_apply _ k)

theorem mem_of_eq {α : Type} {s : Finset α} {a b : α} (e : a = b) (h : b ∈ s) : a ∈ s := e ▸ h

/-- Every row is some point's. -/
theorem covered (i : S16384x1024.Idx) : ∃ t : Fin cfg0.N, (cfg0.win 6).flush t = true ∧ i ∈ ((cfg0.win 6).blk t).view.set := by
  have hi : (i 0).val < 16384 := (i 0).isLt
  have hN : cfg0.N = 32 := N_0
  refine ⟨⟨(i 0).val / 512, by omega⟩, flush0_6 _, ?_⟩
  have h := ((cfg0.win 6).blk (⟨(i 0).val / 512, by omega⟩ : Fin cfg0.N)).view.emb_mem_set (ix2 (n0 := 512) (n1 := 1024) ⟨(i 0).val % 512, Nat.mod_lt _ (by decide)⟩ (i 1))
  rw [emb6] at h
  have e : i = ix2 (n0 := 16384) (n1 := 1024) ⟨(i 0).val / 512 * 512 + (i 0).val % 512, by omega⟩ (i 1) := by
    funext a
    match a with
    | ⟨0, _⟩ => exact Fin.ext (show (i 0).val = (i 0).val / 512 * 512 + (i 0).val % 512 by omega)
    | ⟨1, _⟩ => rfl
  exact mem_of_eq e h

/-- The result array after the run. -/
theorem final (c : Dev nD) : (dats m 0 c).arrAt 6 cfg0.N = GV m c :=
  (dats m 0 c).arrAt_eq_of_cover 6 (GV m c) (fun t _ => flushed_eq m c t) covered

/-- The reference's term is the same function. -/
theorem reference_eq (x : FVec Ideal S1048576x128 .f32) (wo : FVec Ideal S1024x1024 .f32) (w1 : FVec Ideal S1024x4096 .f32)
    (b1 : FVec Ideal S4096 .f32) (w2 : FVec Ideal S4096x1024 .f32) (b2 : FVec Ideal S1024 .f32) :
    shapeCast _ (addf (Host.dotGeneral Cert.CombineReferenceIdeal.dot_S4x4096x4096_S4096x1024_S4x4096x1024_2_0_01_1_n_n none (maximumf (addf (Host.dotGeneral Cert.CombineReferenceIdeal.dot_S4x4096x1024_S1024x4096_S4x4096x4096_2_0_01_1_n_n none (Host.dotGeneral Cert.CombineReferenceIdeal.dot_S4x4096x1024_S1024x1024_S4x4096x1024_2_0_01_1_n_n none (shapeCast _ (mixed x) Cert.CombineReferenceIdeal.Gen.shapeCasts_S4x4096x16x64_S4x4096x1024) wo) w1) (broadcastInDim Cert.CombineReferenceIdeal.S4x4096x4096 ![0, 1, 2] Cert.CombineReferenceIdeal.Gen.bcast_S1x1x4096_S4x4096x4096_0_1_2 (broadcastInDim Cert.CombineReferenceIdeal.S1x1x4096 ![2] Cert.CombineReferenceIdeal.Gen.bcast_S4096_S1x1x4096_2 b1))) (broadcastInDim Cert.CombineReferenceIdeal.S4x4096x4096 ![] Cert.CombineReferenceIdeal.Gen.bcast_S_S4x4096x4096 (constant Cert.CombineReferenceIdeal.S_ .f32 0x00000000#32))) w2) (broadcastInDim Cert.CombineReferenceIdeal.S4x4096x1024 ![0, 1, 2] Cert.CombineReferenceIdeal.Gen.bcast_S1x1x1024_S4x4096x1024_0_1_2 (broadcastInDim Cert.CombineReferenceIdeal.S1x1x1024 ![2] Cert.CombineReferenceIdeal.Gen.bcast_S1024_S1x1x1024_2 b2))) Cert.CombineReferenceIdeal.Gen.shapeCasts_S4x4096x1024_S16384x1024
      = G x wo w1 b1 w2 b2 := by
  funext i
  obtain ⟨r, j, rfl⟩ : ∃ (r : Fin 16384) (j : Fin 1024), i = ix2 r j := ⟨i 0, i 1, by funext a; match a with | ⟨0, _⟩ => rfl | ⟨1, _⟩ => rfl⟩
  have hr := r.isLt
  refine (shapeCast_apply _ _ _ (ix3 ⟨r.val / 4096, by omega⟩ ⟨r.val % 4096, Nat.mod_lt _ (by decide)⟩ j) ?_).trans ((whole_apply _ wo w1 b1 w2 b2 _ _ j).trans ?_)
  · rw [Shape.rowMajor_val_three, Shape.rowMajor_val_two]
    show (r.val / 4096 * 4096 + r.val % 4096) * 1024 + j.val = r.val * 1024 + j.val
    omega
  · unfold G
    refine congrArg (entry · wo w1 _ w2 _ j) (funext fun n => ?_)
    have e : shapeCast S16384x1024 (mixed x) shapeCasts_S4x4096x16x64_S16384x1024
        = shapeCast S16384x1024 (shapeCast Cert.CombineReferenceIdeal.S4x4096x1024 (mixed x) Cert.CombineReferenceIdeal.Gen.shapeCasts_S4x4096x16x64_S4x4096x1024) Cert.CombineReferenceIdeal.Gen.shapeCasts_S4x4096x1024_S16384x1024 :=
      (shapeCast_comp _ _ _).symm
    refine ((congrFun e (ix2 r n)).trans (shapeCast_apply _ _ _ (ix3 ⟨r.val / 4096, by omega⟩ ⟨r.val % 4096, Nat.mod_lt _ (by decide)⟩ n) ?_)).symm
    rw [Shape.rowMajor_val_three, Shape.rowMajor_val_two]
    show (r.val / 4096 * 4096 + r.val % 4096) * 1024 + n.val = r.val * 1024 + n.val
    omega

/-- The kernel's run: its result is the function `GV` of the arguments, which it leaves. -/
theorem run_main (ρ : Dev nD → PrngReg) : θ_run defs (onTc (τ := τ) (main (F := Ideal))) ⟨m, fun _ => 0, ρ⟩ fun r => ∀ c : Dev nD,
      r.2.mem ((c : Thread nD τ).loc main_v23) = GV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.CombineIdeal.Rows

end
-- ==== Proof.AttentionTile.lean ====
/-
  One tile of the attention at an entry, over the reals.
-/
module

public import proofs.«01_k».proof.Proof.Gen.AttentionIdeal.Value
public import Idealize.ShloMosaic.Lib.Pointwise

@[expose] public section

noncomputable section

namespace Cert.AttentionIdeal.Tile

open Cert.AttentionIdeal Cert.AttentionIdeal.Gen Cert.AttentionIdeal.Value Idealize.ShloMosaic Idealize.ShloMosaic.TcCoe Idealize.SL.Sem

/-- The two constants of the score, as the reals they denote. -/
abbrev eps : EReal := Ideal.ofBits .f32 0x358637BD#32
abbrev scale : EReal := Ideal.ofBits .f32 0x3E000000#32

/-- The score of a query row against a key row: the product with the key row over its length and `eps`, scaled. -/
def score (q k : Fin 64 → EReal) : EReal :=
  (∑ d : Fin 64, q d * Ideal.div (k d) (Ideal.sqrt (∑ e : Fin 64, k e * k e) + eps)) * scale

/-- A row of the window of keys: the 64 rows of the block before, then the block's own 512. -/
theorem window_apply (x : FVec Ideal S1x1x512x128 .f32) (y : FVec Ideal S1x1x64x128 .f32) (k : Fin 576) (d : Fin 128) :
    k0_pay3 (F := Ideal) x y (ix2 k d) = if h : k.val < 64 then y (ix4 0 0 ⟨k.val, h⟩ d) else x (ix4 0 0 ⟨k.val - 64, by omega⟩ d) := by
  pointwise [k0_pay3, k0_pay2]

theorem values_apply (x : FVec Ideal S1x1x512x128 .f32) (y : FVec Ideal S1x1x64x128 .f32) (k : Fin 576) (d : Fin 64) :
    k0_pay4 (F := Ideal) x y (ix2 k d) = k0_pay3 (F := Ideal) x y (ix2 k ⟨64 + d.val, by omega⟩) := by
  pointwise [k0_pay4]

theorem score_apply (x : FVec Ideal S1x1x512x128 .f32) (y : FVec Ideal S1x1x64x128 .f32) (r : Fin 512) (k : Fin 576) :
    k0_pay5 (F := Ideal) x y (ix2 r k) = score (fun d => x (ix4 0 0 r ⟨d.val, by omega⟩)) (fun d => k0_pay3 (F := Ideal) x y (ix2 k ⟨d.val, by omega⟩)) := by
  pointwise [k0_pay5, k0_pay2, score]

/-- The number of a row's chunk of 64, as the program computes it. -/
def chunk (n : BitVec 32) : BitVec 32 :=
  Scalar.select
    (IntOp.andi
      (IntOp.cmpi CmpIPredicate.ne
        (IntOp.subi (BitVec.setWidth 32 (IntOp.cmpi CmpIPredicate.sgt n 0#32)) (BitVec.setWidth 32 (IntOp.cmpi CmpIPredicate.slt n 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector n 64#32) 0#32))
    (IntOp.subi (IntOp.divsi ArithUnit.vector n 64#32) 1#32)
    (IntOp.divsi ArithUnit.vector n 64#32)

theorem chunk_eq : ∀ n : Fin 576, chunk (BitVec.ofNat 32 n.val) = BitVec.ofNat 32 (n.val / 64) := by decide +kernel

theorem ofNat_inj {a b : Nat} (ha : a < 1024) (hb : b < 1024) : BitVec.ofNat 32 a = BitVec.ofNat 32 b ↔ a = b := by
  constructor
  · intro h
    have := congrArg BitVec.toNat h
    simp only [BitVec.toNat_ofNat] at this
    omega
  · rintro rfl; rfl

theorem eq_bit {a b : Nat} (ha : a < 1024) (hb : b < 1024) : IntOp.cmpi .eq (BitVec.ofNat 32 a) (BitVec.ofNat 32 b) = BitVec.ofBool (decide (a = b)) := by
  simp only [IntOp.cmpi]
  congr 1
  rw [Bool.eq_iff_iff]; simp only [beq_iff_eq, decide_eq_true_eq]; exact ofNat_inj ha hb

theorem ne_bit {a b : Nat} (ha : a < 1024) (hb : b < 1024) : IntOp.cmpi .ne (BitVec.ofNat 32 a) (BitVec.ofNat 32 b) = BitVec.ofBool (decide (a ≠ b)) := by
  simp only [IntOp.cmpi]
  congr 1
  rw [Bool.eq_iff_iff]; simp only [bne_iff_ne, decide_eq_true_eq]; exact not_congr (ofNat_inj ha hb)

theorem bits : ∀ p q s : Bool, (IntOp.ori (BitVec.ofBool p) (IntOp.andi (BitVec.ofBool q) (BitVec.ofBool s)) = 1) ↔ (p = true ∨ (q = true ∧ s = true)) := by decide

/-- The masked scores: a row does not see itself, nor a row outside its chunk and the chunk before. -/
theorem masked_apply (v : FVec Ideal S512x576 .f32) (r : Fin 512) (k : Fin 576) :
    k0_pay10 (F := Ideal) v (iota .tc S512x576 32 [0] iota_S512x576_d0_w32) (iota .tc S512x576 32 [1] iota_S512x576_d1_w32) k0_pay6 k0_pay7 k0_pay8 k0_pay9 (ix2 r k)
      = if (k.val = r.val + 64 ∨ (k.val / 64 ≠ r.val / 64 ∧ k.val / 64 ≠ r.val / 64 + 1)) then ⊥ else v (ix2 r k) := by
  have hr := r.isLt
  have hk := k.isLt
  have h : k0_pay10 (F := Ideal) v (iota .tc S512x576 32 [0] iota_S512x576_d0_w32) (iota .tc S512x576 32 [1] iota_S512x576_d1_w32) k0_pay6 k0_pay7 k0_pay8 k0_pay9 (ix2 r k)
      = Scalar.select (IntOp.ori (IntOp.cmpi CmpIPredicate.eq (BitVec.ofNat 32 k.val) (IntOp.addi (BitVec.ofNat 32 r.val) 64#32))
          (IntOp.andi (IntOp.cmpi .ne (chunk (BitVec.ofNat 32 k.val)) (chunk (BitVec.ofNat 32 r.val)))
            (IntOp.cmpi .ne (chunk (BitVec.ofNat 32 k.val)) (IntOp.addi (chunk (BitVec.ofNat 32 r.val)) 1#32))))
        (Named.named (F := Ideal) κ "mask" (φ := .f32) 0xC7C35000#32) (v (ix2 r k)) := by
    pointwise [k0_pay10, k0_pay6, k0_pay7, k0_pay8, k0_pay9, chunk]
  have e1 : IntOp.addi (BitVec.ofNat 32 r.val) 64#32 = BitVec.ofNat 32 (r.val + 64) := by simp only [IntOp.addi, BitVec.ofNat_add]
  have e2 : IntOp.addi (BitVec.ofNat 32 (r.val / 64)) 1#32 = BitVec.ofNat 32 (r.val / 64 + 1) := by simp only [IntOp.addi, BitVec.ofNat_add]
  have hm : Named.named (F := Ideal) κ "mask" (φ := .f32) 0xC7C35000#32 = ⊥ := IdealRules.named_const.ideal_named_scalar _ _ _ _ rfl
  rw [h, chunk_eq k, chunk_eq ⟨r.val, by omega⟩, hm, e1, e2, eq_bit (by omega) (by omega), ne_bit (by omega) (by omega), ne_bit (by omega) (by omega)]
  unfold Scalar.select
  refine if_congr ((bits _ _ _).trans ?_) rfl rfl
  simp only [decide_eq_true_eq]

/-- The block's window of values, and the scores of row `r`. -/
abbrev win (x : FVec Ideal S1x1x512x128 .f32) (y : FVec Ideal S1x1x64x128 .f32) (k : Fin 576) (d : Fin 128) : EReal := k0_pay3 (F := Ideal) x y (ix2 k d)

abbrev masked (x : FVec Ideal S1x1x512x128 .f32) (y : FVec Ideal S1x1x64x128 .f32) : FVec Ideal S512x576 .f32 :=
  k0_pay10 (F := Ideal) (k0_pay5 (F := Ideal) x y) (iota .tc S512x576 32 [0] iota_S512x576_d0_w32) (iota .tc S512x576 32 [1] iota_S512x576_d1_w32) k0_pay6 k0_pay7 k0_pay8 k0_pay9

theorem max_apply (v : FVec Ideal S512x576 .f32) (a b : IVec S512x576 32) (c : IVec S512x576 32) (d : IVec S512x576 1) (e f : IVec S512x576 32) (r : Fin 512) :
    k0_pay11 (F := Ideal) v a b c d e f (ix2 r 0) = Finset.univ.fold max ⊥ fun k : Fin 576 => k0_pay10 (F := Ideal) v a b c d e f (ix2 r k) := by
  have h : Ideal.ofBits FTy.f32 0xFF800000#32 = ⊥ := by simp [Ideal.ofBits, Ideal.ieee]
  pointwise [k0_pay11]
  rw [h]

theorem exp_apply (v : FVec Ideal S512x576 .f32) (a b : IVec S512x576 32) (c : IVec S512x576 32) (d : IVec S512x576 1) (e f : IVec S512x576 32) (r : Fin 512) (k : Fin 576) :
    k0_pay12 (F := Ideal) v a b c d e f (ix2 r k) = Ideal.exp (k0_pay10 (F := Ideal) v a b c d e f (ix2 r k) - k0_pay11 (F := Ideal) v a b c d e f (ix2 r 0)) := by
  pointwise [k0_pay12]

theorem sum_apply (v : FVec Ideal S512x576 .f32) (a b : IVec S512x576 32) (c : IVec S512x576 32) (d : IVec S512x576 1) (e f : IVec S512x576 32) (r : Fin 512) :
    k0_pay13 (F := Ideal) v a b c d e f (ix2 r 0) = ∑ k : Fin 576, k0_pay12 (F := Ideal) v a b c d e f (ix2 r k) := by
  pointwise [k0_pay13]

/-- The row written: 64 averages of values, the logarithm of the sum, zeros. -/
theorem row_apply (V : FVec Ideal S576x64 .f32) (M : FVec Ideal S512x1 .f32) (P : FVec Ideal S512x576 .f32) (s : FVec Ideal S512x1 .f32) (r : Fin 512) (j : Fin 128) :
    k0_pay1 (F := Ideal) V M P s (ix4 0 0 r j)
      = if h : j.val < 64 then Ideal.div (∑ k : Fin 576, P (ix2 r k) * V (ix2 k ⟨j.val, h⟩)) (s (ix2 r 0))
        else if j.val < 65 then M (ix2 r 0) + Ideal.log (s (ix2 r 0)) else 0 := by
  pointwise [k0_pay1]
  split
  · rfl
  · by_cases h : j.val < 65
    · rw [dif_pos (show j.val - 64 < 1 by omega), if_pos h]
      have e : (⟨j.val - 64, by omega⟩ : Fin 1) = 0 := Subsingleton.elim _ _
      rw [e]
    · rw [dif_neg (show ¬ j.val - 64 < 1 by omega), if_neg h]

end Cert.AttentionIdeal.Tile

end
-- ==== Proof.AttentionReference.lean ====
/-
  The attention's reference at an entry: chunks of 64 rows, each row's scores against its chunk's keys and the chunk before's, the
  softmax with the row itself left out, the weighted values.
-/
module

public import proofs.«01_k».proof.Proof.Gen.AttentionReferenceIdeal.Run
public import Idealize.ShloMosaic.Lib.Pointwise

@[expose] public section

noncomputable section

namespace Cert.AttentionReferenceIdeal.Entries

open Cert.AttentionReferenceIdeal Cert.AttentionReferenceIdeal.Gen Cert.AttentionReferenceIdeal.Value Idealize.ShloMosaic Idealize.ShloMosaic.TcCoe Idealize.SL.Sem

/-- The rows by chunks, and their two halves. -/
def rows (x : FVec Ideal S1048576x128 .f32) : FVec Ideal S256x64x64x128 .f32 := shapeCast _ x shapeCasts_S1048576x128_S256x64x64x128
def queries (x : FVec Ideal S1048576x128 .f32) : FVec Ideal S256x64x64x64 .f32 := extractStridedSlice S256x64x64x64 ![0, 0, 0, 0] (rows x) slices_S256x64x64x128_S256x64x64x64_0_0_0_0
def values (x : FVec Ideal S1048576x128 .f32) : FVec Ideal S256x64x64x64 .f32 := extractStridedSlice S256x64x64x64 ![0, 0, 0, 64] (rows x) slices_S256x64x64x128_S256x64x64x64_0_0_0_64

/-- The keys: queries over their length. -/
def keys (q : FVec Ideal S256x64x64x64 .f32) : FVec Ideal S256x64x64x64 .f32 :=
  Host.divf q (broadcastInDim S256x64x64x64 ![0, 1, 2, 3] bcast_S256x64x64x1_S256x64x64x64_0_1_2_3 (addf (Host.sqrt (broadcastInDim S256x64x64x1 ![0, 1, 2] bcast_S256x64x64_S256x64x64x1_0_1_2 (Host.reduceAdd (mulf q q) (constant S_ .f32 0x00000000#32) reducesTo_S256x64x64x64_S256x64x64_d3 h_S_))) (broadcastInDim S256x64x64x1 ![] bcast_S_S256x64x64x1 (constant S_ .f32 0x358637BD#32))))

/-- A chunk's rows and after them the rows of the chunk before. -/
def withPrevious (k : FVec Ideal S256x64x64x64 .f32) : FVec Ideal S256x64x128x64 .f32 :=
  concatenate S256x64x128x64 2 [⟨S256x64x64x64, k⟩, ⟨S256x64x64x64, concatenate S256x64x64x64 1 [⟨S256x1x64x64, extractStridedSlice S256x1x64x64 ![0, 63, 0, 0] k slices_S256x64x64x64_S256x1x64x64_0_63_0_0⟩, ⟨S256x63x64x64, extractStridedSlice S256x63x64x64 ![0, 0, 0, 0] k slices_S256x64x64x64_S256x63x64x64_0_0_0_0⟩] concatenates_S256x1x64x64_S256x63x64x64_S256x64x64x64_d1⟩] concatenates_S256x64x64x64_S256x64x64x64_S256x64x128x64_d2

/-- Where a row meets itself. -/
def own : IVec S64x128 1 :=
  concatenate S64x128 1 [⟨S64x64, cmpi .eq (addi (iotaInDim S64x64 32 0) (broadcastInDim S64x64 ![] bcast_S_S64x64 (constantI S_ 32 0#32))) (iotaInDim S64x64 32 1)⟩, ⟨S64x64, broadcastInDim S64x64 ![] bcast_S_S64x64 (constantI S_ 1 0#1)⟩] concatenates_S64x64_S64x64_S64x128_d1

/-- The scores. -/
def scores (q : FVec Ideal S256x64x64x64 .f32) (k : FVec Ideal S256x64x128x64 .f32) : FVec Ideal S256x64x64x128 .f32 :=
  select (broadcastInDim S256x64x64x128 ![2, 3] bcast_S64x128_S256x64x64x128_2_3 own) (broadcastInDim S256x64x64x128 ![] bcast_S_S256x64x64x128 (constant S_ .f32 0xFF800000#32))
    (mulf (Host.dotGeneral dot_S256x64x64x64_S256x64x128x64_S256x64x64x128_3_3_2_2_01_01 none q k) (broadcastInDim S256x64x64x128 ![] bcast_S_S256x64x64x128 (constant S_ .f32 0x3E000000#32)))

/-- The greatest score. -/
def greatest (d : FVec Ideal S256x64x64x128 .f32) : FVec Ideal S256x64x64x1 .f32 :=
  broadcastInDim S256x64x64x1 ![0, 1, 2] bcast_S256x64x64_S256x64x64x1_0_1_2 (Host.reduce FloatOps.maximumf d (constant S_ .f32 0xFF800000#32) reducesTo_S256x64x64x128_S256x64x64_d3 h_S_)

/-- The logarithm of the sum of the scores' exponentials. -/
def logsum (d : FVec Ideal S256x64x64x128 .f32) (g : FVec Ideal S256x64x64x1 .f32) : FVec Ideal S256x64x64x1 .f32 :=
  addf (Host.log (broadcastInDim S256x64x64x1 ![0, 1, 2] bcast_S256x64x64_S256x64x64x1_0_1_2 (Host.reduceAdd (Host.exp (subf d (broadcastInDim S256x64x64x128 ![0, 1, 2, 3] bcast_S256x64x64x1_S256x64x64x128_0_1_2_3 g))) (constant S_ .f32 0x00000000#32) reducesTo_S256x64x64x128_S256x64x64_d3 h_S_))) g

/-- The weighted values. -/
def average (d : FVec Ideal S256x64x64x128 .f32) (l : FVec Ideal S256x64x64x1 .f32) (v : FVec Ideal S256x64x128x64 .f32) : FVec Ideal S256x64x64x64 .f32 :=
  Host.dotGeneral dot_S256x64x64x128_S256x64x128x64_S256x64x64x64_3_2_2_3_01_01 none (Host.exp (subf d (broadcastInDim S256x64x64x128 ![0, 1, 2, 3] bcast_S256x64x64x1_S256x64x64x128_0_1_2_3 l))) v

/-- The rows of the result. -/
def joined (o : FVec Ideal S256x64x64x64 .f32) (l : FVec Ideal S256x64x64x1 .f32) : FVec Ideal S1048576x128 .f32 :=
  concatenate S1048576x128 1 [⟨S1048576x64, shapeCast S1048576x64 o shapeCasts_S256x64x64x64_S1048576x64⟩, ⟨S1048576x1, shapeCast S1048576x1 l shapeCasts_S256x64x64x1_S1048576x1⟩, ⟨S1048576x63, broadcastInDim S1048576x63 ![] bcast_S_S1048576x63 (constant S_ .f32 0x00000000#32)⟩] concatenates_S1048576x64_S1048576x1_S1048576x63_S1048576x128_d1

def dots (x : FVec Ideal S1048576x128 .f32) : FVec Ideal S256x64x64x128 .f32 := scores (queries x) (withPrevious (keys (queries x)))
def lse (x : FVec Ideal S1048576x128 .f32) : FVec Ideal S256x64x64x1 .f32 := logsum (dots x) (greatest (dots x))
def result (x : FVec Ideal S1048576x128 .f32) : FVec Ideal S256x8x512x128 .f32 :=
  shapeCast _ (joined (average (dots x) (lse x) (withPrevious (values x))) (lse x)) shapeCasts_S1048576x128_S256x8x512x128

theorem res_eq (m : (ℓ : Loc nD τ sig) → Buf (Elt Ideal) ℓ) (c : Dev nD) :
    res_main_v40 (F := Ideal) m c = result (m ((c.tc : Thread nD τ).loc main_arg0)) := rfl

theorem rows_apply (x : FVec Ideal S1048576x128 .f32) (t : Fin 256) (c : Fin 64) (r : Fin 64) (d : Fin 128) :
    rows x (ix4 t c r d) = x (ix2 ⟨t.val * 4096 + c.val * 64 + r.val, by omega⟩ d) := by
  pointwise [rows]

theorem result_apply (x : FVec Ideal S1048576x128 .f32) (t : Fin 256) (b : Fin 8) (r : Fin 512) (d : Fin 128) :
    result x (ix4 t b r d) = joined (average (dots x) (lse x) (withPrevious (values x))) (lse x) (ix2 ⟨t.val * 4096 + b.val * 512 + r.val, by omega⟩ d) := by
  pointwise [result]

theorem queries_apply (x : FVec Ideal S1048576x128 .f32) (t : Fin 256) (c : Fin 64) (r : Fin 64) (d : Fin 64) :
    queries x (ix4 t c r d) = rows x (ix4 t c r ⟨d.val, by omega⟩) := by
  pointwise [queries]

theorem values_apply (x : FVec Ideal S1048576x128 .f32) (t : Fin 256) (c : Fin 64) (r : Fin 64) (d : Fin 64) :
    values x (ix4 t c r d) = rows x (ix4 t c r ⟨64 + d.val, by omega⟩) := by
  pointwise [values]

theorem keys_apply (q : FVec Ideal S256x64x64x64 .f32) (t : Fin 256) (c : Fin 64) (r : Fin 64) (d : Fin 64) :
    keys q (ix4 t c r d) = Ideal.div (q (ix4 t c r d)) (Ideal.sqrt (∑ e : Fin 64, q (ix4 t c r e) * q (ix4 t c r e)) + Ideal.ofBits .f32 0x358637BD#32) := by
  pointwise [keys]

theorem withPrevious_apply (k : FVec Ideal S256x64x64x64 .f32) (t : Fin 256) (c : Fin 64) (r : Fin 128) (d : Fin 64) :
    withPrevious k (ix4 t c r d) = if h : r.val < 64 then k (ix4 t c ⟨r.val, h⟩ d) else k (ix4 t ⟨(c.val + 63) % 64, by omega⟩ ⟨r.val - 64, by omega⟩ d) := by
  pointwise [withPrevious]
  split
  · rfl
  · split
    · exact congrArg (fun c' => k (ix4 t c' _ d)) (Fin.ext (by show 63 + c.val = (c.val + 63) % 64; omega))
    · exact congrArg (fun c' => k (ix4 t c' _ d)) (Fin.ext (by show c.val - 1 = (c.val + 63) % 64; omega))

theorem own_apply : ∀ (r : Fin 64) (k : Fin 128), own (ix2 r k) = BitVec.ofBool (decide (r.val = k.val)) := by
  have h : ∀ (r : Fin 64) (k : Fin 128), (if k.val < 64 then IntOp.cmpi CmpIPredicate.eq (IntOp.addi (BitVec.ofNat 32 r.val) 0#32) (BitVec.ofNat 32 k.val) else 0#1) = BitVec.ofBool (decide (r.val = k.val)) := by
    decide +kernel
  intro r k
  refine Eq.trans ?_ (h r k)
  pointwise [own]
  split <;> rfl

theorem scores_apply (q : FVec Ideal S256x64x64x64 .f32) (k : FVec Ideal S256x64x128x64 .f32) (t : Fin 256) (c : Fin 64) (r : Fin 64) (j : Fin 128) :
    scores q k (ix4 t c r j) = if r.val = j.val then ⊥ else (∑ d : Fin 64, q (ix4 t c r d) * k (ix4 t c j d)) * Ideal.ofBits .f32 0x3E000000#32 := by
  have h : Ideal.ofBits FTy.f32 0xFF800000#32 = ⊥ := by simp [Ideal.ofBits, Ideal.ieee]
  pointwise [scores]
  rw [own_apply, h]
  unfold Scalar.select
  by_cases e : r.val = j.val
  · rw [if_pos e, decide_eq_true e]; rfl
  · rw [if_neg e, decide_eq_false e]; rfl

theorem greatest_apply (d : FVec Ideal S256x64x64x128 .f32) (t : Fin 256) (c : Fin 64) (r : Fin 64) :
    greatest d (ix4 t c r 0) = Finset.univ.fold max ⊥ fun j : Fin 128 => d (ix4 t c r j) := by
  have h : Ideal.ofBits FTy.f32 0xFF800000#32 = ⊥ := by simp [Ideal.ofBits, Ideal.ieee]
  pointwise [greatest]
  rw [h]

theorem logsum_apply (d : FVec Ideal S256x64x64x128 .f32) (g : FVec Ideal S256x64x64x1 .f32) (t : Fin 256) (c : Fin 64) (r : Fin 64) :
    logsum d g (ix4 t c r 0) = Ideal.log (∑ j : Fin 128, Ideal.exp (d (ix4 t c r j) - g (ix4 t c r 0))) + g (ix4 t c r 0) := by
  pointwise [logsum]

theorem average_apply (d : FVec Ideal S256x64x64x128 .f32) (l : FVec Ideal S256x64x64x1 .f32) (v : FVec Ideal S256x64x128x64 .f32) (t : Fin 256) (c : Fin 64) (r : Fin 64) (j : Fin 64) :
    average d l v (ix4 t c r j) = ∑ k : Fin 128, Ideal.exp (d (ix4 t c r k) - l (ix4 t c r 0)) * v (ix4 t c k j) := by
  pointwise [average]

theorem joined_apply (o : FVec Ideal S256x64x64x64 .f32) (l : FVec Ideal S256x64x64x1 .f32) (i : Fin 1048576) (j : Fin 128) :
    joined o l (ix2 i j) = if h : j.val < 64 then o (ix4 ⟨i.val / 4096, by omega⟩ ⟨i.val / 64 % 64, by omega⟩ ⟨i.val % 64, by omega⟩ ⟨j.val, h⟩)
      else if j.val < 65 then l (ix4 ⟨i.val / 4096, by omega⟩ ⟨i.val / 64 % 64, by omega⟩ ⟨i.val % 64, by omega⟩ 0) else 0 := by
  pointwise [joined]
  split
  · rfl
  · exact dite_eq_ite.trans (if_congr (by omega) rfl rfl)

end Cert.AttentionReferenceIdeal.Entries

end
-- ==== Proof.Softmax.lean ====
/-
  Softmax over the reals with some of the scores left out (−∞): over more keys of which the further ones are left out it is the
  softmax over the keys that are in, and it does not matter whether the exponentials are divided by their sum before or after the
  weighted average, nor whether the sum's logarithm is taken off in the exponent.
-/
module

public import Idealize.ShloMosaic.PureOps.Ideal

@[expose] public section

noncomputable section

namespace Cert.Softmax

open Idealize.ShloMosaic

variable {α β : Type} [Fintype α] [Fintype β]

/-- The greatest score. -/
abbrev top (D : α → EReal) : EReal := Finset.univ.fold max ⊥ D

/-- The sum of the exponentials, the greatest score taken off. -/
abbrev total (D : α → EReal) : EReal := ∑ k, Ideal.exp (D k - top D)

theorem top_eq_sup (D : α → EReal) : top D = Finset.univ.sup D := rfl

theorem exp_bot_sub (M : EReal) : Ideal.exp (⊥ - M) = 0 := by rw [EReal.bot_sub]; rfl

/-- Keys that are left out change nothing. -/
theorem top_reindex (D : α → EReal) (e : β → α) (h : ∀ a, (∀ b, e b ≠ a) → D a = ⊥) : top D = top fun b => D (e b) := by
  rw [top_eq_sup, top_eq_sup]
  apply le_antisymm
  · refine Finset.sup_le fun a _ => ?_
    by_cases ha : ∃ b, e b = a
    · obtain ⟨b, rfl⟩ := ha
      exact Finset.le_sup (f := fun b => D (e b)) (Finset.mem_univ b)
    · rw [h a fun b hb => ha ⟨b, hb⟩]; exact bot_le
  · exact Finset.sup_le fun b _ => Finset.le_sup (f := D) (Finset.mem_univ (e b))

theorem sum_reindex (f : α → EReal) (e : β → α) (he : Function.Injective e) (h : ∀ a, (∀ b, e b ≠ a) → f a = 0) : ∑ a, f a = ∑ b, f (e b) := by
  classical
  refine Eq.trans ?_ (Finset.sum_map Finset.univ ⟨e, he⟩ f)
  refine (Finset.sum_subset (Finset.subset_univ _) fun a _ ha => h a fun b hb => ha ?_).symm
  exact Finset.mem_map.mpr ⟨b, Finset.mem_univ b, hb⟩

theorem total_reindex (D : α → EReal) (e : β → α) (he : Function.Injective e) (h : ∀ a, (∀ b, e b ≠ a) → D a = ⊥) :
    total D = total fun b => D (e b) := by
  unfold total
  rw [top_reindex D e h]
  exact sum_reindex _ e he fun a ha => by rw [h a ha, exp_bot_sub]

theorem average_reindex (D V : α → EReal) (e : β → α) (he : Function.Injective e) (h : ∀ a, (∀ b, e b ≠ a) → D a = ⊥) :
    ∑ a, Ideal.exp (D a - top D) * V a = ∑ b, Ideal.exp (D (e b) - top fun b => D (e b)) * V (e b) := by
  rw [top_reindex D e h]
  exact sum_reindex _ e he fun a ha => by rw [h a ha, exp_bot_sub, zero_mul]

/-- With real scores, some left out but not all, the greatest is real and the sum a positive real. -/
theorem top_real (D : β → EReal) (hD : ∀ b, D b = ⊥ ∨ ∃ r : ℝ, D b = r) (h1 : ∃ b, ∃ r : ℝ, D b = r) : ∃ μ : ℝ, top D = μ := by
  obtain ⟨b, r, hb⟩ := h1
  obtain ⟨b', _, hs⟩ := Finset.exists_mem_eq_sup Finset.univ ⟨b, Finset.mem_univ b⟩ D
  rw [top_eq_sup, hs]
  rcases hD b' with h | h
  · exfalso
    have : D b ≤ ⊥ := h ▸ hs ▸ Finset.le_sup (f := D) (Finset.mem_univ b)
    rw [hb] at this
    exact EReal.coe_ne_bot r (le_bot_iff.mp this)
  · exact h

/-- The weight of a key, as a real. -/
def weight (D : β → EReal) (μ : ℝ) (b : β) : ℝ := if D b = ⊥ then 0 else Real.exp ((D b).toReal - μ)

theorem exp_eq_weight (D : β → EReal) (hD : ∀ b, D b = ⊥ ∨ ∃ r : ℝ, D b = r) (μ : ℝ) (b : β) : Ideal.exp (D b - μ) = (weight D μ b : ℝ) := by
  unfold weight
  rcases hD b with h | ⟨r, h⟩
  · rw [if_pos h, h, exp_bot_sub]; rfl
  · rw [if_neg (by rw [h]; exact EReal.coe_ne_bot r), h, EReal.toReal_coe, ← EReal.coe_sub, Ideal.exp_coe]

theorem weight_nonneg (D : β → EReal) (μ : ℝ) (b : β) : 0 ≤ weight D μ b := by
  unfold weight; split
  · exact le_refl 0
  · exact (Real.exp_pos _).le

theorem coe_sum (f : β → ℝ) : ((∑ b, f b : ℝ) : EReal) = ∑ b, (f b : EReal) := by
  classical
  induction (Finset.univ : Finset β) using Finset.induction_on with
  | empty => rfl
  | insert a s ha ih => rw [Finset.sum_insert ha, Finset.sum_insert ha, EReal.coe_add, ih]

theorem total_real (D : β → EReal) (hD : ∀ b, D b = ⊥ ∨ ∃ r : ℝ, D b = r) (h1 : ∃ b, ∃ r : ℝ, D b = r) {μ : ℝ} (hμ : top D = μ) :
    total D = ((∑ b, weight D μ b : ℝ) : EReal) ∧ 0 < ∑ b, weight D μ b := by
  constructor
  · unfold total
    rw [hμ, coe_sum]
    exact Finset.sum_congr rfl fun b _ => exp_eq_weight D hD μ b
  · obtain ⟨b, r, hb⟩ := h1
    refine Finset.sum_pos' (fun b _ => weight_nonneg D μ b) ⟨b, Finset.mem_univ b, ?_⟩
    unfold weight
    rw [if_neg (by rw [hb]; exact EReal.coe_ne_bot r)]
    exact Real.exp_pos _

/-- Taking the sum's logarithm off in the exponent divides by the sum. -/
theorem exp_sub_log (D : β → EReal) (hD : ∀ b, D b = ⊥ ∨ ∃ r : ℝ, D b = r) {μ S : ℝ} (hS : 0 < S) (b : β) :
    Ideal.exp (D b - ((Real.log S + μ : ℝ) : EReal)) = ((weight D μ b / S : ℝ) : EReal) := by
  rw [exp_eq_weight D hD]
  congr 1
  unfold weight
  split
  · rw [zero_div]
  · rw [show (D b).toReal - (Real.log S + μ) = ((D b).toReal - μ) - Real.log S by rw [sub_sub, add_comm], Real.exp_sub, Real.exp_log hS]

/-- A nonnegative real multiplies a sum term by term. -/
theorem mul_sum {r : ℝ} (hr : 0 ≤ r) (f : β → EReal) : (r : EReal) * ∑ b, f b = ∑ b, (r : EReal) * f b := by
  classical
  induction (Finset.univ : Finset β) using Finset.induction_on with
  | empty => exact mul_zero _
  | insert a s ha ih =>
    rw [Finset.sum_insert ha, Finset.sum_insert ha, EReal.left_distrib_of_nonneg_of_ne_top (EReal.coe_nonneg.mpr hr) (EReal.coe_ne_top r), ih]

/-- The average over the sum is the sum of the normalised weights' products. -/
theorem average_eq (D V : β → EReal) (hD : ∀ b, D b = ⊥ ∨ ∃ r : ℝ, D b = r) (h1 : ∃ b, ∃ r : ℝ, D b = r) {μ : ℝ} (hμ : top D = μ) :
    Ideal.div (∑ b, Ideal.exp (D b - top D) * V b) (total D)
      = ∑ b, Ideal.exp (D b - ((Real.log (∑ b, weight D μ b) + μ : ℝ) : EReal)) * V b := by
  obtain ⟨ht, hpos⟩ := total_real D hD h1 hμ
  rw [ht, Ideal.div_coe hpos.ne', hμ, mul_comm, mul_sum (one_div_pos.mpr hpos).le]
  refine Finset.sum_congr rfl fun b _ => ?_
  rw [exp_sub_log D hD hpos, exp_eq_weight D hD, ← mul_assoc, ← EReal.coe_mul]
  congr 2
  rw [one_div, mul_comm, div_eq_mul_inv]

end Cert.Softmax

end
-- ==== Proof.AttentionRows.lean ====
/-
  The attention of one row, over the reals: what the kernel computes from its block's window of 576 rows, most of them masked, is
  what the reference computes from the 128 rows of the row's chunk and of the chunk before.
-/
module

public import proofs.«01_k».proof.Proof.AttentionTile
public import proofs.«01_k».proof.Proof.AttentionReference
public import proofs.«01_k».proof.Proof.Softmax

@[expose] public section

noncomputable section

namespace Cert.AttentionIdeal.Tile

open Cert.AttentionIdeal Cert.AttentionIdeal.Gen Cert.AttentionIdeal.Value Cert.Softmax Idealize.ShloMosaic Idealize.ShloMosaic.TcCoe Idealize.SL.Sem
open Cert.AttentionReferenceIdeal.Entries

/-! ## Scores of real rows are real -/

theorem eps_real : ∃ ε : ℝ, 0 < ε ∧ eps = ε := by
  refine ⟨_, ?_, (by simp [Ideal.ofBits, Ideal.ieee, -EReal.coe_mul]; rfl)⟩
  positivity

theorem scale_real : ∃ σ : ℝ, scale = σ := ⟨_, (by simp [Ideal.ofBits, Ideal.ieee, -EReal.coe_mul]; rfl)⟩

theorem score_real (q k : Fin 64 → EReal) (hq : ∀ d, ∃ r : ℝ, q d = r) (hk : ∀ d, ∃ r : ℝ, k d = r) : ∃ r : ℝ, score q k = r := by
  obtain ⟨ε, hε, he⟩ := eps_real
  obtain ⟨σ, hσ⟩ := scale_real
  choose a ha using hq
  choose b hb using hk
  have hs : ∑ e : Fin 64, k e * k e = ((∑ e : Fin 64, b e * b e : ℝ) : EReal) := by
    rw [coe_sum]; exact Finset.sum_congr rfl fun e _ => by rw [hb, EReal.coe_mul]
  have h0 : ¬ (∑ e : Fin 64, b e * b e) < 0 := not_lt.mpr (Finset.sum_nonneg fun e _ => mul_self_nonneg _)
  have hp : Real.sqrt (∑ e : Fin 64, b e * b e) + ε ≠ 0 := (add_pos_of_nonneg_of_pos (Real.sqrt_nonneg _) hε).ne'
  refine ⟨(∑ d : Fin 64, a d * (b d * (1 / (Real.sqrt (∑ e : Fin 64, b e * b e) + ε)))) * σ, ?_⟩
  unfold score
  rw [hs, he, hσ, Ideal.sqrt_coe, if_neg h0, ← EReal.coe_add, EReal.coe_mul, coe_sum]
  refine congrArg (· * (σ : EReal)) (Finset.sum_congr rfl fun d _ => ?_)
  rw [Ideal.div_coe hp, ha, hb, EReal.coe_mul, EReal.coe_mul]

/-! ## The rows a row meets -/

/-- The query half of row `n`. -/
abbrev half (A : FVec Ideal Cert.AttentionReferenceIdeal.S1048576x128 .f32) (n : Fin 1048576) (d : Fin 64) : EReal := A (ix2 n ⟨d.val, by omega⟩)

/-- The value half of row `n`. -/
abbrev other (A : FVec Ideal Cert.AttentionReferenceIdeal.S1048576x128 .f32) (n : Fin 1048576) (d : Fin 64) : EReal := A (ix2 n ⟨64 + d.val, by omega⟩)

/-- Row `r` of block `(t, b)`. -/
abbrev rowOf (t : Fin 256) (b : Fin 8) (r : Fin 512) : Fin 1048576 := ⟨t.val * 4096 + b.val * 512 + r.val, by omega⟩

/-- Row `r` of the last 64 rows of the block before (the last block before the first). -/
abbrev rowBefore (t : Fin 256) (b : Fin 8) (r : Fin 64) : Fin 1048576 := ⟨t.val * 4096 + (b.val + 7) % 8 * 512 + 448 + r.val, by omega⟩

/-- Row `k` of the block's window: 64 rows of the block before (the last block before the first), then the block's own. -/
def windowRow (t : Fin 256) (b : Fin 8) (k : Fin 576) : Fin 1048576 :=
  ⟨if k.val < 64 then t.val * 4096 + (b.val + 7) % 8 * 512 + 448 + k.val else t.val * 4096 + b.val * 512 + (k.val - 64), by split <;> omega⟩

/-- Key `j` of row `r`, as a row of the block's window: the row's chunk, then the chunk before. -/
def key (r : Fin 512) (j : Fin 128) : Fin 576 :=
  ⟨if j.val < 64 then (r.val / 64 + 1) * 64 + j.val else r.val / 64 * 64 + (j.val - 64), by split <;> omega⟩

/-- Key `j` of row `r`, as a row of the whole: the row's chunk, then the chunk before. -/
def keyRow (t : Fin 256) (b : Fin 8) (r : Fin 512) (j : Fin 128) : Fin 1048576 :=
  ⟨if j.val < 64 then t.val * 4096 + (b.val * 8 + r.val / 64) * 64 + j.val else t.val * 4096 + (b.val * 8 + r.val / 64 + 63) % 64 * 64 + (j.val - 64), by split <;> omega⟩

theorem key_injective (r : Fin 512) : Function.Injective (key r) := by
  intro i j h
  have h := congrArg Fin.val h
  simp only [key] at h
  apply Fin.ext
  split at h <;> split at h <;> omega

theorem windowRow_key (t : Fin 256) (b : Fin 8) (r : Fin 512) (j : Fin 128) : windowRow t b (key r j) = keyRow t b r j := by
  apply Fin.ext
  simp only [windowRow, key, keyRow]
  split <;> split <;> omega

/-- The keys a row does not meet. -/
abbrev hidden (r : Fin 512) (k : Fin 576) : Prop := k.val = r.val + 64 ∨ (k.val / 64 ≠ r.val / 64 ∧ k.val / 64 ≠ r.val / 64 + 1)

theorem hidden_key (r : Fin 512) (j : Fin 128) : hidden r (key r j) ↔ r.val % 64 = j.val := by
  unfold hidden key
  dsimp only
  split <;> omega

theorem hidden_of_not_key (r : Fin 512) (k : Fin 576) (h : ∀ j, key r j ≠ k) : hidden r k := by
  by_contra hn
  unfold hidden at hn
  by_cases hk : k.val / 64 = r.val / 64 + 1
  · exact h ⟨k.val % 64, by omega⟩ (Fin.ext (by simp only [key]; split <;> omega))
  · exact h ⟨k.val % 64 + 64, by omega⟩ (Fin.ext (by simp only [key]; split <;> omega))

/-- The scores of row `r` over the window. -/
def windowScores (A : FVec Ideal Cert.AttentionReferenceIdeal.S1048576x128 .f32) (t : Fin 256) (b : Fin 8) (r : Fin 512) (k : Fin 576) : EReal :=
  if hidden r k then ⊥ else score (half A (rowOf t b r)) (half A (windowRow t b k))

/-- The scores of row `r` over its keys. -/
def keyScores (A : FVec Ideal Cert.AttentionReferenceIdeal.S1048576x128 .f32) (t : Fin 256) (b : Fin 8) (r : Fin 512) (j : Fin 128) : EReal :=
  if r.val % 64 = j.val then ⊥ else score (half A (rowOf t b r)) (half A (keyRow t b r j))

theorem windowScores_key (A : FVec Ideal Cert.AttentionReferenceIdeal.S1048576x128 .f32) (t : Fin 256) (b : Fin 8) (r : Fin 512) :
    (fun j => windowScores A t b r (key r j)) = keyScores A t b r := by
  funext j
  unfold windowScores keyScores
  rw [windowRow_key]
  exact if_congr (hidden_key r j) rfl rfl

/-! ## The kernel's tile -/

section Tile
variable (A : FVec Ideal Cert.AttentionReferenceIdeal.S1048576x128 .f32) (t : Fin 256) (b : Fin 8)
  (x : FVec Ideal S1x1x512x128 .f32) (y : FVec Ideal S1x1x64x128 .f32)
  (hx : ∀ (r : Fin 512) (d : Fin 128), x (ix4 0 0 r d) = A (ix2 (rowOf t b r) d))
  (hy : ∀ (r : Fin 64) (d : Fin 128), y (ix4 0 0 r d) = A (ix2 (rowBefore t b r) d))

include hx hy

theorem win_eq (k : Fin 576) (d : Fin 128) : k0_pay3 (F := Ideal) x y (ix2 k d) = A (ix2 (windowRow t b k) d) := by
  rw [window_apply]
  by_cases h : k.val < 64
  · rw [dif_pos h, hy]
    exact congrArg (fun n => A (ix2 n d)) (Fin.ext (if_pos h).symm)
  · rw [dif_neg h, hx]
    exact congrArg (fun n => A (ix2 n d)) (Fin.ext (if_neg h).symm)

theorem masked_eq (r : Fin 512) (k : Fin 576) : masked x y (ix2 r k) = windowScores A t b r k := by
  rw [masked, masked_apply, score_apply]
  unfold windowScores
  refine if_congr Iff.rfl rfl ?_
  congr 1
  · funext d; exact hx r _
  · funext d; exact win_eq A t b x y hx hy k _

/-- The kernel's tile at an entry. -/
theorem tile_eq (r : Fin 512) (j : Fin 128) :
    k0_pay1 (F := Ideal) (k0_pay4 (F := Ideal) x y)
      (k0_pay11 (F := Ideal) (k0_pay5 (F := Ideal) x y) (iota .tc S512x576 32 [0] iota_S512x576_d0_w32) (iota .tc S512x576 32 [1] iota_S512x576_d1_w32) k0_pay6 k0_pay7 k0_pay8 k0_pay9)
      (k0_pay12 (F := Ideal) (k0_pay5 (F := Ideal) x y) (iota .tc S512x576 32 [0] iota_S512x576_d0_w32) (iota .tc S512x576 32 [1] iota_S512x576_d1_w32) k0_pay6 k0_pay7 k0_pay8 k0_pay9)
      (k0_pay13 (F := Ideal) (k0_pay5 (F := Ideal) x y) (iota .tc S512x576 32 [0] iota_S512x576_d0_w32) (iota .tc S512x576 32 [1] iota_S512x576_d1_w32) k0_pay6 k0_pay7 k0_pay8 k0_pay9)
      (ix4 0 0 r j)
      = if h : j.val < 64 then
          Ideal.div (∑ k, Ideal.exp (windowScores A t b r k - top (windowScores A t b r)) * other A (windowRow t b k) ⟨j.val, h⟩) (total (windowScores A t b r))
        else if j.val < 65 then top (windowScores A t b r) + Ideal.log (total (windowScores A t b r)) else 0 := by
  have hM := max_apply (k0_pay5 (F := Ideal) x y) (iota .tc S512x576 32 [0] iota_S512x576_d0_w32) (iota .tc S512x576 32 [1] iota_S512x576_d1_w32) k0_pay6 k0_pay7 k0_pay8 k0_pay9 r
  have hM' := hM.trans (congrArg (fun f => Finset.univ.fold max ⊥ f) (funext fun k => masked_eq A t b x y hx hy r k))
  have hP : ∀ k, k0_pay12 (F := Ideal) (k0_pay5 (F := Ideal) x y) (iota .tc S512x576 32 [0] iota_S512x576_d0_w32) (iota .tc S512x576 32 [1] iota_S512x576_d1_w32) k0_pay6 k0_pay7 k0_pay8 k0_pay9 (ix2 r k)
      = Ideal.exp (windowScores A t b r k - top (windowScores A t b r)) := fun k =>
    (exp_apply _ _ _ _ _ _ _ r k).trans (congrArg Ideal.exp (congr (congrArg _ (masked_eq A t b x y hx hy r k)) hM'))
  have hS := (sum_apply (k0_pay5 (F := Ideal) x y) (iota .tc S512x576 32 [0] iota_S512x576_d0_w32) (iota .tc S512x576 32 [1] iota_S512x576_d1_w32) k0_pay6 k0_pay7 k0_pay8 k0_pay9 r).trans
    (Finset.sum_congr rfl fun k _ => hP k)
  rw [row_apply, hM', hS]
  by_cases h : j.val < 64
  · rw [dif_pos h, dif_pos h]
    refine congrArg (Ideal.div · _) (Finset.sum_congr rfl fun k _ => ?_)
    rw [hP, values_apply, win_eq A t b x y hx hy]
  · rw [dif_neg h, dif_neg h]

end Tile

/-! ## The reference's entries -/

/-- A row of the whole as a chunk's row. -/
theorem half_eq (A : FVec Ideal Cert.AttentionReferenceIdeal.S1048576x128 .f32) (t : Fin 256) (c r : Fin 64) (d : Fin 64) :
    queries A (ix4 t c r d) = half A ⟨t.val * 4096 + c.val * 64 + r.val, by omega⟩ d := by
  rw [queries_apply, rows_apply]

/-- The chunk of row `r` of block `b`. -/
abbrev chunkOf (b : Fin 8) (r : Fin 512) : Fin 64 := ⟨b.val * 8 + r.val / 64, by omega⟩
abbrev within (r : Fin 512) : Fin 64 := ⟨r.val % 64, by omega⟩

theorem query_eq (A : FVec Ideal Cert.AttentionReferenceIdeal.S1048576x128 .f32) (t : Fin 256) (b : Fin 8) (r : Fin 512) (d : Fin 64) :
    queries A (ix4 t (chunkOf b r) (within r) d) = half A (rowOf t b r) d := by
  rw [half_eq]
  exact congrArg (fun n => half A n d) (Fin.ext (by show t.val * 4096 + (b.val * 8 + r.val / 64) * 64 + r.val % 64 = t.val * 4096 + b.val * 512 + r.val; omega))

theorem previous_key (f : FVec Ideal Cert.AttentionReferenceIdeal.S256x64x64x64 .f32) (g : Fin 1048576 → Fin 64 → EReal)
    (hf : ∀ (t : Fin 256) (c r d : Fin 64), f (ix4 t c r d) = g ⟨t.val * 4096 + c.val * 64 + r.val, by omega⟩ d)
    (t : Fin 256) (b : Fin 8) (r : Fin 512) (j : Fin 128) (d : Fin 64) :
    withPrevious f (ix4 t (chunkOf b r) j d) = g (keyRow t b r j) d := by
  rw [withPrevious_apply]
  by_cases h : j.val < 64
  · rw [dif_pos h, hf]
    exact congrArg (fun n => g n d) (Fin.ext (if_pos h).symm)
  · rw [dif_neg h, hf]
    exact congrArg (fun n => g n d) (Fin.ext (if_neg h).symm)

theorem dots_eq (A : FVec Ideal Cert.AttentionReferenceIdeal.S1048576x128 .f32) (t : Fin 256) (b : Fin 8) (r : Fin 512) (j : Fin 128) :
    dots A (ix4 t (chunkOf b r) (within r) j) = keyScores A t b r j := by
  unfold dots
  rw [scores_apply]
  unfold keyScores score
  refine if_congr Iff.rfl rfl (congrArg (· * scale) (Finset.sum_congr rfl fun d _ => ?_))
  rw [query_eq]
  refine congrArg (half A (rowOf t b r) d * ·) ?_
  refine previous_key (keys (queries A)) (fun n d => Ideal.div (half A n d) (Ideal.sqrt (∑ e : Fin 64, half A n e * half A n e) + eps)) (fun t c r d => ?_) t b r j d
  rw [keys_apply]
  simp only [half_eq]

theorem lse_eq (A : FVec Ideal Cert.AttentionReferenceIdeal.S1048576x128 .f32) (t : Fin 256) (b : Fin 8) (r : Fin 512) :
    lse A (ix4 t (chunkOf b r) (within r) 0) = Ideal.log (total (keyScores A t b r)) + top (keyScores A t b r) := by
  have hg : greatest (dots A) (ix4 t (chunkOf b r) (within r) 0) = top (keyScores A t b r) :=
    (greatest_apply _ _ _ _).trans (congrArg (fun f => Finset.univ.fold max ⊥ f) (funext fun j => dots_eq A t b r j))
  unfold lse
  rw [logsum_apply, hg]
  refine congrArg (Ideal.log · + _) (Finset.sum_congr rfl fun j _ => ?_)
  rw [dots_eq]

/-- The reference's result at an entry. -/
theorem reference_eq (A : FVec Ideal Cert.AttentionReferenceIdeal.S1048576x128 .f32) (t : Fin 256) (b : Fin 8) (r : Fin 512) (j : Fin 128) :
    result A (ix4 t b r j)
      = if h : j.val < 64 then
          ∑ k, Ideal.exp (keyScores A t b r k - (Ideal.log (total (keyScores A t b r)) + top (keyScores A t b r))) * other A (keyRow t b r k) ⟨j.val, h⟩
        else if j.val < 65 then Ideal.log (total (keyScores A t b r)) + top (keyScores A t b r) else 0 := by
  have ht : (⟨(t.val * 4096 + b.val * 512 + r.val) / 4096, by omega⟩ : Fin 256) = t := Fin.ext (by show (t.val * 4096 + b.val * 512 + r.val) / 4096 = t.val; omega)
  have hc : (⟨(t.val * 4096 + b.val * 512 + r.val) / 64 % 64, by omega⟩ : Fin 64) = chunkOf b r :=
    Fin.ext (by show (t.val * 4096 + b.val * 512 + r.val) / 64 % 64 = b.val * 8 + r.val / 64; omega)
  have hw : (⟨(t.val * 4096 + b.val * 512 + r.val) % 64, by omega⟩ : Fin 64) = within r :=
    Fin.ext (by show (t.val * 4096 + b.val * 512 + r.val) % 64 = r.val % 64; omega)
  rw [result_apply, joined_apply]
  dsimp only
  rw [ht, hc, hw, lse_eq]
  by_cases h : j.val < 64
  · rw [dif_pos h, dif_pos h, average_apply]
    refine Finset.sum_congr rfl fun k _ => ?_
    rw [dots_eq, lse_eq]
    refine congrArg (Ideal.exp (keyScores A t b r k - (Ideal.log (total (keyScores A t b r)) + top (keyScores A t b r))) * ·) ?_
    exact previous_key (values A) (other A) (fun t c r d => by rw [Cert.AttentionReferenceIdeal.Entries.values_apply, rows_apply]) t b r k ⟨j.val, h⟩
  · rw [dif_neg h, dif_neg h]

/-! ## The two agree where the query halves are real -/

section Agree
variable (A : FVec Ideal Cert.AttentionReferenceIdeal.S1048576x128 .f32) (hA : ∀ n d, ∃ r : ℝ, half A n d = r)
include hA

theorem keyScores_real (t : Fin 256) (b : Fin 8) (r : Fin 512) (j : Fin 128) : keyScores A t b r j = ⊥ ∨ ∃ s : ℝ, keyScores A t b r j = s := by
  unfold keyScores
  split
  · exact Or.inl rfl
  · exact Or.inr (score_real _ _ (hA _) (hA _))

theorem keyScores_some (t : Fin 256) (b : Fin 8) (r : Fin 512) : ∃ j, ∃ s : ℝ, keyScores A t b r j = s := by
  refine ⟨127, ?_⟩
  have h : keyScores A t b r 127 = score (half A (rowOf t b r)) (half A (keyRow t b r 127)) := if_neg (show ¬ r.val % 64 = 127 by omega)
  rw [h]
  exact score_real _ _ (hA _) (hA _)

theorem entry_eq (t : Fin 256) (b : Fin 8) (r : Fin 512) (j : Fin 128) :
    (if h : j.val < 64 then
        Ideal.div (∑ k, Ideal.exp (windowScores A t b r k - top (windowScores A t b r)) * other A (windowRow t b k) ⟨j.val, h⟩) (total (windowScores A t b r))
      else if j.val < 65 then top (windowScores A t b r) + Ideal.log (total (windowScores A t b r)) else 0)
      = result A (ix4 t b r j) := by
  have hid : ∀ k, (∀ j, key r j ≠ k) → windowScores A t b r k = ⊥ := fun k hk => if_pos (hidden_of_not_key r k hk)
  have hT : top (windowScores A t b r) = top (keyScores A t b r) :=
    (top_reindex _ (key r) hid).trans (congrArg top (windowScores_key A t b r))
  have hS : total (windowScores A t b r) = total (keyScores A t b r) :=
    (total_reindex _ (key r) (key_injective r) hid).trans (congrArg total (windowScores_key A t b r))
  have hr := keyScores_real A hA t b r
  have h1 := keyScores_some A hA t b r
  obtain ⟨μ, hμ⟩ := top_real _ hr h1
  obtain ⟨hs, hpos⟩ := total_real _ hr h1 hμ
  have hl : Ideal.log (total (keyScores A t b r)) + top (keyScores A t b r) = ((Real.log (∑ k, weight (keyScores A t b r) μ k) + μ : ℝ) : EReal) := by
    rw [hs, hμ, Ideal.log_coe, if_neg (not_le.mpr hpos), EReal.coe_add]
  rw [reference_eq, hS, hl]
  by_cases h : j.val < 64
  · rw [dif_pos h, dif_pos h, average_reindex _ _ (key r) (key_injective r) hid]
    refine Eq.trans ?_ (average_eq (keyScores A t b r) (fun k => other A (keyRow t b r k) ⟨j.val, h⟩) hr h1 hμ)
    refine congrArg (Ideal.div · _) (Finset.sum_congr rfl fun k _ => ?_)
    rw [windowRow_key, windowScores_key]
    rw [show windowScores A t b r (key r k) = keyScores A t b r k from congrFun (windowScores_key A t b r) k]
  · rw [dif_neg h, dif_neg h, hT, ← hl, add_comm]

end Agree

end Cert.AttentionIdeal.Tile

end
-- ==== Proof.AttentionValue.lean ====
/-
  The attention's launch, over the reals: its blocks of 512 rows tile the result, each is the reference's rows, so the run's result
  is the reference's.
-/
module

public import proofs.«01_k».proof.Proof.AttentionRows
public import proofs.«01_k».proof.Proof.Gen.Pre_finite
public import Idealize.ShloMosaic.Lib.ReduceAll

@[expose] public section

noncomputable section

namespace Cert.AttentionIdeal.Tile

open Cert.AttentionIdeal Cert.AttentionIdeal.Gen Cert.AttentionIdeal.Value Idealize.ShloMosaic Idealize.ShloMosaic.TcCoe Idealize.SL.Sem

/-- What the precondition says: the query halves are real. -/
theorem real_of_finite (A : FVec Ideal Cert.AttentionReferenceIdeal.S1048576x128 .f32) (h : Cert.Pre_finite.fn (F := Ideal) A = fun _ => 1#1)
    (n : Fin 1048576) (d : Fin 64) : ∃ r : ℝ, half A n d = r := by
  have h0 := congrFun h (fun a => a.elim0)
  dsimp only [Cert.Pre_finite.fn] at h0
  haveI : Subsingleton Cert.Pre_finite.S_.Idx := ⟨fun a b => funext fun i => i.elim0⟩
  have h1 := Host.reduce_andi_all _ _ _ _ _ h0 (ix2 n d)
  have h2 : BitVec.ofBool (decide (max (half A n d) (-half A n d) < Ideal.ofBits .f32 0x7F800000#32)) = 1#1 := by
    refine Eq.trans ?_ h1
    pointwise
    rfl
  have h3 : Ideal.ofBits FTy.f32 0x7F800000#32 = ⊤ := by simp [Ideal.ofBits, Ideal.ieee]
  rw [h3] at h2
  by_cases hl : max (half A n d) (-half A n d) < ⊤
  · have hb : half A n d ≠ ⊥ := fun e => by rw [e] at hl; simp at hl
    have ht : half A n d ≠ ⊤ := fun e => by rw [e] at hl; simp at hl
    exact ⟨_, (EReal.coe_toReal ht hb).symm⟩
  · rw [decide_eq_false hl] at h2; exact absurd h2 (by decide)

variable (m : (ℓ : Loc nD τ sig) → Buf (Elt Ideal) ℓ)

/-- The array both input windows read. -/
theorem V_rows (c : Dev nD) : V m c main_v0 = shapeCast _ (m ((c : Thread nD τ).loc main_arg0)) shapeCasts_S1048576x128_S256x8x512x128 := by
  simp only [V, hostOps0]; after_results_simp <;> rfl

theorem blocks_apply (A : FVec Ideal Cert.AttentionReferenceIdeal.S1048576x128 .f32) (t : Fin 256) (b : Fin 8) (r : Fin 512) (d : Fin 128) :
    shapeCast S256x8x512x128 A shapeCasts_S1048576x128_S256x8x512x128 (ix4 t b r d) = A (ix2 (rowOf t b r) d) := by
  pointwise

theorem hz : (![0, 0, 0, 0] : Fin 4 → Nat) = fun _ => 0 := funext fun a => by fin_cases a <;> rfl

/-- The windows' places: the block at the point, the block before it (the last before the first), the block at the point. -/
theorem idx0 : ∀ t : Fin cfg0.N, win0_0.index t (0 : Fin 4) = t.val / 8 ∧ win0_0.index t (1 : Fin 4) = t.val % 8 ∧ win0_0.index t (2 : Fin 4) = 0 ∧ win0_0.index t (3 : Fin 4) = 0 := (by decide +kernel : ∀ t : Fin grid0.N, _)
theorem idx1 : ∀ t : Fin cfg0.N, win0_1.index t (0 : Fin 4) = t.val / 8 ∧ win0_1.index t (1 : Fin 4) = (t.val % 8 + 7) % 8 ∧ win0_1.index t (2 : Fin 4) = 0 ∧ win0_1.index t (3 : Fin 4) = 0 := (by decide +kernel : ∀ t : Fin grid0.N, _)
theorem idx2 : ∀ t : Fin cfg0.N, win0_2.index t (0 : Fin 4) = t.val / 8 ∧ win0_2.index t (1 : Fin 4) = t.val % 8 ∧ win0_2.index t (2 : Fin 4) = 0 ∧ win0_2.index t (3 : Fin 4) = 0 := (by decide +kernel : ∀ t : Fin grid0.N, _)

/-- A point's coordinates. -/
def outer (t : Fin cfg0.N) : Fin 256 := ⟨t.val / 8, by have := t.isLt; have : cfg0.N = 2048 := N_0; omega⟩
def inner (t : Fin cfg0.N) : Fin 8 := ⟨t.val % 8, by omega⟩

theorem emb0 (t : Fin cfg0.N) (r : Fin 512) (d : Fin 128) : ((cfg0.win 0).blk t).view.emb (ix4 (n0 := 1) (n1 := 1) 0 0 r d) = ix4 (outer t) (inner t) r d := by
  obtain ⟨e0, e1, e2, e3⟩ := idx0 t
  funext a; apply Fin.ext
  match a with
  | ⟨0, _⟩ => show win0_0.index t (0 : Fin 4) * 1 + 1 * 0 = t.val / 8; omega
  | ⟨1, _⟩ => show win0_0.index t (1 : Fin 4) * 1 + 1 * 0 = t.val % 8; omega
  | ⟨2, _⟩ => show win0_0.index t (2 : Fin 4) * 512 + 1 * r.val = r.val; omega
  | ⟨3, _⟩ => show win0_0.index t (3 : Fin 4) * 128 + 1 * d.val = d.val; omega

theorem emb1 (t : Fin cfg0.N) (r : Fin 512) (d : Fin 128) :
    ((cfg0.win 1).blk t).view.emb (ix4 (n0 := 1) (n1 := 1) 0 0 r d) = ix4 (outer t) ⟨((inner t).val + 7) % 8, by omega⟩ r d := by
  obtain ⟨e0, e1, e2, e3⟩ := idx1 t
  funext a; apply Fin.ext
  match a with
  | ⟨0, _⟩ => show win0_1.index t (0 : Fin 4) * 1 + 1 * 0 = t.val / 8; omega
  | ⟨1, _⟩ => show win0_1.index t (1 : Fin 4) * 1 + 1 * 0 = (t.val % 8 + 7) % 8; omega
  | ⟨2, _⟩ => show win0_1.index t (2 : Fin 4) * 512 + 1 * r.val = r.val; omega
  | ⟨3, _⟩ => show win0_1.index t (3 : Fin 4) * 128 + 1 * d.val = d.val; omega

theorem emb2 (t : Fin cfg0.N) (r : Fin 512) (d : Fin 128) : ((cfg0.win 2).blk t).view.emb (ix4 (n0 := 1) (n1 := 1) 0 0 r d) = ix4 (outer t) (inner t) r d := by
  obtain ⟨e0, e1, e2, e3⟩ := idx2 t
  funext a; apply Fin.ext
  match a with
  | ⟨0, _⟩ => show win0_2.index t (0 : Fin 4) * 1 + 1 * 0 = t.val / 8; omega
  | ⟨1, _⟩ => show win0_2.index t (1 : Fin 4) * 1 + 1 * 0 = t.val % 8; omega
  | ⟨2, _⟩ => show win0_2.index t (2 : Fin 4) * 512 + 1 * r.val = r.val; omega
  | ⟨3, _⟩ => show win0_2.index t (3 : Fin 4) * 128 + 1 * d.val = d.val; omega

/-- The rows the launch is given. -/
abbrev given (c : Dev nD) : FVec Ideal Cert.AttentionReferenceIdeal.S1048576x128 .f32 := m ((c : Thread nD τ).loc main_arg0)

theorem iblk0_apply (c : Dev nD) (t : Fin cfg0.N) (r : Fin 512) (d : Fin 128) :
    iblk m c 0 t (ix4 (n0 := 1) (n1 := 1) 0 0 r d) = given m c (ix2 (rowOf (outer t) (inner t) r) d) := by
  show V m c main_v0 (((cfg0.win 0).blk t).view.emb (ix4 (n0 := 1) (n1 := 1) 0 0 r d)) = _
  rw [emb0]
  exact (congrFun (V_rows m c) _).trans (blocks_apply _ _ _ _ _)

theorem iblk1_apply (c : Dev nD) (t : Fin cfg0.N) (r : Fin 512) (d : Fin 128) :
    iblk m c 1 t (ix4 (n0 := 1) (n1 := 1) 0 0 r d) = given m c (ix2 (rowOf (outer t) ⟨((inner t).val + 7) % 8, by omega⟩ r) d) := by
  show V m c main_v0 (((cfg0.win 1).blk t).view.emb (ix4 (n0 := 1) (n1 := 1) 0 0 r d)) = _
  rw [emb1]
  exact (congrFun (V_rows m c) _).trans (blocks_apply _ _ _ _ _)

/-- The load of the block before takes its last 64 rows. -/
theorem tail_apply (x : FVec Ideal S1x1x512x128 .f32) (r : Fin 64) (d : Fin 128) :
    View.ld (Val := Elt Ideal) (e' := .f32) x r0_1 (ix4 (n0 := 1) (n1 := 1) 0 0 r d) = x (ix4 0 0 ⟨448 + r.val, by omega⟩ d) := by
  show x (r0_1.emb (ix4 (n0 := 1) (n1 := 1) 0 0 r d)) = _
  refine congrArg x ?_
  funext a; apply Fin.ext
  match a with
  | ⟨0, _⟩ => rfl
  | ⟨1, _⟩ => rfl
  | ⟨2, _⟩ => show 448 + 1 * r.val = 448 + r.val; omega
  | ⟨3, _⟩ => show 0 + 1 * d.val = d.val; omega

theorem before_apply (c : Dev nD) (t : Fin cfg0.N) (r : Fin 64) (d : Fin 128) :
    View.ld (Val := Elt Ideal) (e' := .f32) (iblk m c 1 t) r0_1 (ix4 (n0 := 1) (n1 := 1) 0 0 r d)
      = given m c (ix2 (rowBefore (outer t) (inner t) r) d) := by
  refine (tail_apply _ r d).trans ((iblk1_apply m c t _ d).trans ?_)
  exact congrArg (fun n => given m c (ix2 n d)) (Fin.ext (by
    show (outer t).val * 4096 + ((inner t).val + 7) % 8 * 512 + (448 + r.val) = (outer t).val * 4096 + ((inner t).val + 7) % 8 * 512 + 448 + r.val; omega))

/-- A point's first load and its one store take whole buffers. -/
theorem out_eq {F : FTy → Type} [FloatOps F] [Named F] (x0 x1 : Vec F S1x1x512x128 .f32) :
    out0_2 x0 x1 = k0_pay1 (k0_pay4 x0 (View.ld x1 r0_1))
      (k0_pay11 (k0_pay5 x0 (View.ld x1 r0_1)) (iota .tc S512x576 32 [0] iota_S512x576_d0_w32) (iota .tc S512x576 32 [1] iota_S512x576_d1_w32) k0_pay6 k0_pay7 k0_pay8 k0_pay9)
      (k0_pay12 (k0_pay5 x0 (View.ld x1 r0_1)) (iota .tc S512x576 32 [0] iota_S512x576_d0_w32) (iota .tc S512x576 32 [1] iota_S512x576_d1_w32) k0_pay6 k0_pay7 k0_pay8 k0_pay9)
      (k0_pay13 (k0_pay5 x0 (View.ld x1 r0_1)) (iota .tc S512x576 32 [0] iota_S512x576_d0_w32) (iota .tc S512x576 32 [1] iota_S512x576_d1_w32) k0_pay6 k0_pay7 k0_pay8 k0_pay9) := by
  unfold out0_2 k0_pay14 k0_pay15 k0_pay16 k0_pay17 k0_pay18 k0_pay19 k0_pay20
  rw [View.canon_unit_zero hz, show View.ld x0 r0_0 = x0 from View.ld_unit_zero hz _ x0]

/-- What a point writes back is its 512 rows of the reference's result. -/
theorem flushed_eq (c : Dev nD) (hA : ∀ n d, ∃ r : ℝ, half (given m c) n d = r) (t : Fin cfg0.N) :
    (dats m 0 c).flushed 2 t = ((cfg0.win 2).blk t).view.read (Elt Ideal) (Cert.AttentionReferenceIdeal.Entries.result (given m c)) := by
  rw [flushed2, out_eq]
  funext j
  obtain ⟨r, d, rfl⟩ : ∃ (r : Fin 512) (d : Fin 128), j = ix4 0 0 r d := ⟨j 2, j 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩
  refine (tile_eq (given m c) (outer t) (inner t) (iblk m c 0 t) (View.ld (iblk m c 1 t) r0_1) (fun r d => iblk0_apply m c t r d)
    (fun r d => before_apply m c t r d) r d).trans ?_
  · refine (entry_eq (given m c) hA (outer t) (inner t) r d).trans ?_
    show _ = Cert.AttentionReferenceIdeal.Entries.result (given m c) (((cfg0.win 2).blk t).view.emb (ix4 (n0 := 1) (n1 := 1) 0 0 r d))
    rw [emb2]

theorem mem_of_eq {α : Type} {s : Finset α} {a b : α} (e : a = b) (h : b ∈ s) : a ∈ s := e ▸ h

/-- Every entry is some point's. -/
theorem covered (i : S256x8x512x128.Idx) : ∃ t : Fin cfg0.N, (cfg0.win 2).flush t = true ∧ i ∈ ((cfg0.win 2).blk t).view.set := by
  have h0 : (i 0).val < 256 := (i 0).isLt
  have h1 : (i 1).val < 8 := (i 1).isLt
  have hN : cfg0.N = 2048 := N_0
  refine ⟨⟨(i 0).val * 8 + (i 1).val, by omega⟩, flush0_2 _, ?_⟩
  have h := ((cfg0.win 2).blk (⟨(i 0).val * 8 + (i 1).val, by omega⟩ : Fin cfg0.N)).view.emb_mem_set (ix4 (n0 := 1) (n1 := 1) (n2 := 512) (n3 := 128) 0 0 (i 2) (i 3))
  refine mem_of_eq (Eq.trans ?_ (emb2 (⟨(i 0).val * 8 + (i 1).val, by omega⟩ : Fin cfg0.N) (i 2) (i 3)).symm) h
  funext a
  match a with
  | ⟨0, _⟩ => exact Fin.ext (show (i 0).val = ((i 0).val * 8 + (i 1).val) / 8 by omega)
  | ⟨1, _⟩ => exact Fin.ext (show (i 1).val = ((i 0).val * 8 + (i 1).val) % 8 by omega)
  | ⟨2, _⟩ => rfl
  | ⟨3, _⟩ => rfl

/-- The kernel's run: its result is the reference's, and it leaves its argument. -/
theorem run_main (hA : ∀ c n d, ∃ r : ℝ, half (given m c) n d = r) (ρ : Dev nD → PrngReg) :
    θ_run defs (onTc (τ := τ) (main (F := Ideal))) ⟨m, fun _ => 0, ρ⟩ fun r => ∀ c : Dev nD,
      r.2.mem ((c : Thread nD τ).loc main_v1) = Cert.AttentionReferenceIdeal.Entries.result (given m c)
      ∧ r.2.mem ((c : Thread nD τ).loc main_arg0) = m ((c : Thread nD τ).loc main_arg0) :=
  (θ_run defs _ _).mono (fun r h c => ⟨(h c).1.trans ((dats m 0 c).arrAt_eq_of_cover 2 _ (fun t _ => flushed_eq m c (hA c) t) covered), (h c).2⟩) (run_blocks m ρ)

end Cert.AttentionIdeal.Tile

end
-- ==== Proof.HashingReference.lean ====
/-
  The hashing's reference, run: its operations in order, and its two results as its arguments' — the queries beside the values, and
  each row's place when the rows of its round are sorted by bucket and, in a bucket, by position.
-/
module

public import proofs.«01_k».proof.Proof.Gen.HashingReferenceIdeal
public import Idealize.ShloMosaic.Lib.StableHlo.Run

@[expose] public section

noncomputable section

namespace Cert.HashingReferenceIdeal.Entries

open Cert.HashingReferenceIdeal Cert.HashingReferenceIdeal.Gen Idealize.ShloMosaic Idealize.ShloMosaic.TcCoe Idealize.SL.Sem Idealize.ShloMosaic.StableHlo

variable {F : FTy → Type} [FloatOps F]

/-- Rows through a matrix, by heads. -/
def heads (A : FVec F S4x4096x1024 .f32) (W : FVec F S1024x1024 .f32) : FVec F S4x16x4096x64 .f32 :=
  transpose S4x16x4096x64 [0, 2, 1, 3] (shapeCast S4x4096x16x64 (Host.dotGeneral dot_S4x4096x1024_S1024x1024_S4x4096x1024_2_0_01_1_n_n none A W) shapeCasts_S4x4096x1024_S4x4096x16x64) transposes_S4x4096x16x64_S4x16x4096x64_0_2_1_3

/-- The queries over their length. -/
def keys (q : FVec F S4x16x4096x64 .f32) : FVec F S4x16x4096x64 .f32 :=
  Host.divf q (broadcastInDim S4x16x4096x64 ![0, 1, 2, 3] bcast_S4x16x4096x1_S4x16x4096x64_0_1_2_3 (addf (Host.sqrt (broadcastInDim S4x16x4096x1 ![0, 1, 2] bcast_S4x16x4096_S4x16x4096x1_0_1_2 (Host.reduceAdd (mulf q q) (constant S_ .f32 0x00000000#32) reducesTo_S4x16x4096x64_S4x16x4096_d3 h_S_))) (broadcastInDim S4x16x4096x1 ![] bcast_S_S4x16x4096x1 (constant S_ .f32 0x358637BD#32))))

/-- The projections, and after them their negatives. -/
def bothSigns (d : FVec F S4x16x4096x4x32 .f32) : FVec F S4x16x4096x4x64 .f32 :=
  concatenate S4x16x4096x4x64 4 [⟨S4x16x4096x4x32, d⟩, ⟨S4x16x4096x4x32, Host.negf d⟩] concatenates_S4x16x4096x4x32_S4x16x4096x4x32_S4x16x4096x4x64_d4

/-- Where the greatest of each 64 stands. -/
def greatest (s : FVec F S4x16x4096x4x64 .f32) : IVec S4x16x4096x4 32 :=
  fun j => (Host.argReduce reducer_argmax_f32_i32 s (iotaInDim S4x16x4096x4x64 32 4) (constant S_ .f32 0xFF800000#32) (constantI S_ 32 0#32) reducesTo_S4x16x4096x4x64_S4x16x4096x4_d4 h_S_ j).2

/-- The buckets of the queries, by rounds. -/
def buckets (q : FVec F S4x16x4096x64 .f32) (R : FVec F S64x4x32 .f32) : IVec S4x4x16x4096 32 :=
  transpose S4x4x16x4096 [3, 0, 1, 2] (greatest (bothSigns (Host.dotGeneral dot_S4x16x4096x64_S64x4x32_S4x16x4096x4x32_3_0_012_12_n_n none (keys q) R))) transposes_S4x16x4096x4_S4x4x16x4096_3_0_1_2

/-- Each row's number: its bucket times 4096, and its position. -/
def numbers (b : IVec S4x4x16x4096 32) : IVec S256x4096 32 :=
  shapeCast S256x4096 (addi (muli b (broadcastInDim S4x4x16x4096 ![] bcast_S_S4x4x16x4096 (constantI S_ 32 4096#32))) (broadcastInDim S4x4x16x4096 ![0, 1, 2, 3] bcast_S1x1x1x4096_S4x4x16x4096_0_1_2_3 (broadcastInDim S1x1x1x4096 ![3] bcast_S4096_S1x1x1x4096_3 (iotaInDim S4096 32 0)))) shapeCasts_S4x4x16x4096_S256x4096

/-- The positions that sort each row. -/
def sorting (x : IVec S256x4096 32) : IVec S256x4096 32 :=
  (Host.sort2 S256x4096 1 comparator_i32_i32_d1 x (iotaInDim S256x4096 32 1)).2

/-- Each entry and its row's base. -/
def based (x : IVec S256x4096 32) : IVec S256x4096 32 :=
  addi x (broadcastInDim S256x4096 ![0, 1] bcast_S256x1_S256x4096_0_1 (broadcastInDim S256x1 ![0] bcast_S256_S256x1_0 (muli (iotaInDim S256 32 0) (broadcastInDim S256 ![] bcast_S_S256 (constantI S_ 32 4096#32)))))

/-- The two results. -/
def joined (q v : FVec F S4x16x4096x64 .f32) : FVec F S262144x128 .f32 :=
  shapeCast S262144x128 (concatenate S4x16x4096x128 3 [⟨S4x16x4096x64, q⟩, ⟨S4x16x4096x64, v⟩] concatenates_S4x16x4096x64_S4x16x4096x64_S4x16x4096x128_d3) shapeCasts_S4x16x4096x128_S262144x128
def places (b : IVec S4x4x16x4096 32) : IVec S4x64x4096x1 32 :=
  shapeCast S4x64x4096x1 (based (sorting (sorting (numbers b)))) shapeCasts_S256x4096_S4x64x4096x1

/-! ## The run -/

/-- The operations in order, a called function's in its call's place. -/
abbrev ops : List (HloOp τ sig (Elt F)) :=
  [ binary main_arg0 main_arg1 main_v0 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    reshape main_v0 main_v1 (rfl : (.f32 : EltTy) = .f32) shapeCasts_S4x4096x1024_S4x4096x16x64,
    unary main_v1 main_v2 ((transpose S4x16x4096x64 [0, 2, 1, 3] · transposes_S4x4096x16x64_S4x16x4096x64_0_2_1_3) : (⟨S4x4096x16x64, .f32⟩ : BufTy).Contents (Elt F) → (⟨S4x16x4096x64, .f32⟩ : BufTy).Contents (Elt F)),
    binary main_arg0 main_arg2 main_v3 ((fun l r => Host.dotGeneral dot_S4x4096x1024_S1024x1024_S4x4096x1024_2_0_01_1_n_n none l r) : (⟨S4x4096x1024, .f32⟩ : BufTy).Contents (Elt F) → (⟨S1024x1024, .f32⟩ : BufTy).Contents (Elt F) → (⟨S4x4096x1024, .f32⟩ : BufTy).Contents (Elt F)),
    reshape main_v3 main_v4 (rfl : (.f32 : EltTy) = .f32) shapeCasts_S4x4096x1024_S4x4096x16x64,
    unary main_v4 main_v5 ((transpose S4x16x4096x64 [0, 2, 1, 3] · transposes_S4x4096x16x64_S4x16x4096x64_0_2_1_3) : (⟨S4x4096x16x64, .f32⟩ : BufTy).Contents (Elt F) → (⟨S4x16x4096x64, .f32⟩ : BufTy).Contents (Elt F)),
    TRef.binary (TRef.of (T := ⟨S4x16x4096x64, .f32⟩) main_v2) (TRef.of (T := ⟨S4x16x4096x64, .f32⟩) main_v2) (TRef.of (T := ⟨S4x16x4096x64, .f32⟩) main_call0_v0) mulf,
    TRef.nullary (TRef.of (T := ⟨S_, .f32⟩) main_call0_cst) (constant S_ .f32 0x00000000#32),
    TRef.binary (TRef.of (T := ⟨S4x16x4096x64, .f32⟩) main_call0_v0) (TRef.of (T := ⟨S_, .f32⟩) main_call0_cst) (TRef.of (T := ⟨S4x16x4096, .f32⟩) main_call0_v1) (fun x v => Host.reduceAdd x v reducesTo_S4x16x4096x64_S4x16x4096_d3 h_S_),
    TRef.unary (TRef.of (T := ⟨S4x16x4096, .f32⟩) main_call0_v1) (TRef.of (T := ⟨S4x16x4096x1, .f32⟩) main_call0_v2) (broadcastInDim S4x16x4096x1 ![0, 1, 2] bcast_S4x16x4096_S4x16x4096x1_0_1_2),
    TRef.unary (TRef.of (T := ⟨S4x16x4096x1, .f32⟩) main_call0_v2) (TRef.of (T := ⟨S4x16x4096x1, .f32⟩) main_v6) Host.sqrt,
    nullary main_cst (constant S_ .f32 0x358637BD#32),
    unary main_cst main_v7 (broadcastInDim S4x16x4096x1 ![] bcast_S_S4x16x4096x1 : (⟨S_, .f32⟩ : BufTy).Contents (Elt F) → (⟨S4x16x4096x1, .f32⟩ : BufTy).Contents (Elt F)),
    binary main_v6 main_v7 main_v8 (addf : (⟨S4x16x4096x1, .f32⟩ : BufTy).Contents (Elt F) → (⟨S4x16x4096x1, .f32⟩ : BufTy).Contents (Elt F) → (⟨S4x16x4096x1, .f32⟩ : BufTy).Contents (Elt F)),
    unary main_v8 main_v9 (broadcastInDim S4x16x4096x64 ![0, 1, 2, 3] bcast_S4x16x4096x1_S4x16x4096x64_0_1_2_3 : (⟨S4x16x4096x1, .f32⟩ : BufTy).Contents (Elt F) → (⟨S4x16x4096x64, .f32⟩ : BufTy).Contents (Elt F)),
    binary main_v2 main_v9 main_v10 (Host.divf : (⟨S4x16x4096x64, .f32⟩ : BufTy).Contents (Elt F) → (⟨S4x16x4096x64, .f32⟩ : BufTy).Contents (Elt F) → (⟨S4x16x4096x64, .f32⟩ : BufTy).Contents (Elt F)),
    binary main_v10 main_arg3 main_v11 ((fun l r => Host.dotGeneral dot_S4x16x4096x64_S64x4x32_S4x16x4096x4x32_3_0_012_12_n_n none l r) : (⟨S4x16x4096x64, .f32⟩ : BufTy).Contents (Elt F) → (⟨S64x4x32, .f32⟩ : BufTy).Contents (Elt F) → (⟨S4x16x4096x4x32, .f32⟩ : BufTy).Contents (Elt F)),
    unary main_v11 main_v12 (Host.negf : (⟨S4x16x4096x4x32, .f32⟩ : BufTy).Contents (Elt F) → (⟨S4x16x4096x4x32, .f32⟩ : BufTy).Contents (Elt F)),
    binary main_v11 main_v12 main_v13 ((fun a b => concatenate S4x16x4096x4x64 4 [⟨S4x16x4096x4x32, a⟩, ⟨S4x16x4096x4x32, b⟩] concatenates_S4x16x4096x4x32_S4x16x4096x4x32_S4x16x4096x4x64_d4) : (⟨S4x16x4096x4x32, .f32⟩ : BufTy).Contents (Elt F) → (⟨S4x16x4096x4x32, .f32⟩ : BufTy).Contents (Elt F) → (⟨S4x16x4096x4x64, .f32⟩ : BufTy).Contents (Elt F)),
    TRef.nullary (TRef.of (T := ⟨S4x16x4096x4x64, .i32⟩) main_call1_v0) (iotaInDim S4x16x4096x4x64 32 4),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S4x16x4096x4x64, .f32⟩) main_v13) (TRef.of (T := ⟨S4x16x4096x4x64, .i32⟩) main_call1_v0) (TRef.of (T := ⟨S_, .f32⟩) main_call1_cst) (TRef.of (T := ⟨S_, .i32⟩) main_call1_c) (TRef.of (T := ⟨S4x16x4096x4, .f32⟩) main_call1_v1_0) (fun x y u v j => (Host.argReduce reducer_argmax_f32_i32 x y u v reducesTo_S4x16x4096x4x64_S4x16x4096x4_d4 h_S_ j).1),
    TRef.quaternary (TRef.of (T := ⟨S4x16x4096x4x64, .f32⟩) main_v13) (TRef.of (T := ⟨S4x16x4096x4x64, .i32⟩) main_call1_v0) (TRef.of (T := ⟨S_, .f32⟩) main_call1_cst) (TRef.of (T := ⟨S_, .i32⟩) main_call1_c) (TRef.of (T := ⟨S4x16x4096x4, .i32⟩) main_v14) (fun x y u v j => (Host.argReduce reducer_argmax_f32_i32 x y u v reducesTo_S4x16x4096x4x64_S4x16x4096x4_d4 h_S_ j).2),
    nullary main_v15 (iotaInDim S4096 32 0),
    unary main_v14 main_v16 ((transpose S4x4x16x4096 [3, 0, 1, 2] · transposes_S4x16x4096x4_S4x4x16x4096_3_0_1_2) : (⟨S4x16x4096x4, .i32⟩ : BufTy).Contents (Elt F) → (⟨S4x4x16x4096, .i32⟩ : BufTy).Contents (Elt F)),
    nullary main_c (constantI S_ 32 4096#32),
    unary main_c main_v17 (broadcastInDim S4x4x16x4096 ![] bcast_S_S4x4x16x4096 : (⟨S_, .i32⟩ : BufTy).Contents (Elt F) → (⟨S4x4x16x4096, .i32⟩ : BufTy).Contents (Elt F)),
    binary main_v16 main_v17 main_v18 (muli : (⟨S4x4x16x4096, .i32⟩ : BufTy).Contents (Elt F) → (⟨S4x4x16x4096, .i32⟩ : BufTy).Contents (Elt F) → (⟨S4x4x16x4096, .i32⟩ : BufTy).Contents (Elt F)),
    unary main_v15 main_v19 (broadcastInDim S1x1x1x4096 ![3] bcast_S4096_S1x1x1x4096_3 : (⟨S4096, .i32⟩ : BufTy).Contents (Elt F) → (⟨S1x1x1x4096, .i32⟩ : BufTy).Contents (Elt F)),
    unary main_v19 main_v20 (broadcastInDim S4x4x16x4096 ![0, 1, 2, 3] bcast_S1x1x1x4096_S4x4x16x4096_0_1_2_3 : (⟨S1x1x1x4096, .i32⟩ : BufTy).Contents (Elt F) → (⟨S4x4x16x4096, .i32⟩ : BufTy).Contents (Elt F)),
    binary main_v18 main_v20 main_v21 (addi : (⟨S4x4x16x4096, .i32⟩ : BufTy).Contents (Elt F) → (⟨S4x4x16x4096, .i32⟩ : BufTy).Contents (Elt F) → (⟨S4x4x16x4096, .i32⟩ : BufTy).Contents (Elt F)),
    reshape main_v21 main_v22 (rfl : (.i32 : EltTy) = .i32) shapeCasts_S4x4x16x4096_S256x4096,
    TRef.nullary (TRef.of (T := ⟨S256x4096, .i32⟩) main_call2_v0) (iotaInDim S256x4096 32 1),
    TRef.binary (TRef.of (T := ⟨S256x4096, .i32⟩) main_v22) (TRef.of (T := ⟨S256x4096, .i32⟩) main_call2_v0) (TRef.of (T := ⟨S256x4096, .i32⟩) main_call2_v1_0) (fun x y => (Host.sort2 S256x4096 1 comparator_i32_i32_d1 x y).1),
    TRef.binary (TRef.of (T := ⟨S256x4096, .i32⟩) main_v22) (TRef.of (T := ⟨S256x4096, .i32⟩) main_call2_v0) (TRef.of (T := ⟨S256x4096, .i32⟩) main_v23) (fun x y => (Host.sort2 S256x4096 1 comparator_i32_i32_d1 x y).2),
    TRef.nullary (TRef.of (T := ⟨S256x4096, .i32⟩) main_call3_v0) (iotaInDim S256x4096 32 1),
    TRef.binary (TRef.of (T := ⟨S256x4096, .i32⟩) main_v23) (TRef.of (T := ⟨S256x4096, .i32⟩) main_call3_v0) (TRef.of (T := ⟨S256x4096, .i32⟩) main_call3_v1_0) (fun x y => (Host.sort2 S256x4096 1 comparator_i32_i32_d1 x y).1),
    TRef.binary (TRef.of (T := ⟨S256x4096, .i32⟩) main_v23) (TRef.of (T := ⟨S256x4096, .i32⟩) main_call3_v0) (TRef.of (T := ⟨S256x4096, .i32⟩) main_v24) (fun x y => (Host.sort2 S256x4096 1 comparator_i32_i32_d1 x y).2),
    nullary main_v25 (iotaInDim S256 32 0),
    nullary main_c_0 (constantI S_ 32 4096#32),
    unary main_c_0 main_v26 (broadcastInDim S256 ![] bcast_S_S256 : (⟨S_, .i32⟩ : BufTy).Contents (Elt F) → (⟨S256, .i32⟩ : BufTy).Contents (Elt F)),
    binary main_v25 main_v26 main_v27 (muli : (⟨S256, .i32⟩ : BufTy).Contents (Elt F) → (⟨S256, .i32⟩ : BufTy).Contents (Elt F) → (⟨S256, .i32⟩ : BufTy).Contents (Elt F)),
    unary main_v27 main_v28 (broadcastInDim S256x1 ![0] bcast_S256_S256x1_0 : (⟨S256, .i32⟩ : BufTy).Contents (Elt F) → (⟨S256x1, .i32⟩ : BufTy).Contents (Elt F)),
    unary main_v28 main_v29 (broadcastInDim S256x4096 ![0, 1] bcast_S256x1_S256x4096_0_1 : (⟨S256x1, .i32⟩ : BufTy).Contents (Elt F) → (⟨S256x4096, .i32⟩ : BufTy).Contents (Elt F)),
    binary main_v24 main_v29 main_v30 (addi : (⟨S256x4096, .i32⟩ : BufTy).Contents (Elt F) → (⟨S256x4096, .i32⟩ : BufTy).Contents (Elt F) → (⟨S256x4096, .i32⟩ : BufTy).Contents (Elt F)),
    binary main_v2 main_v5 main_v31 ((fun a b => concatenate S4x16x4096x128 3 [⟨S4x16x4096x64, a⟩, ⟨S4x16x4096x64, b⟩] concatenates_S4x16x4096x64_S4x16x4096x64_S4x16x4096x128_d3) : (⟨S4x16x4096x64, .f32⟩ : BufTy).Contents (Elt F) → (⟨S4x16x4096x64, .f32⟩ : BufTy).Contents (Elt F) → (⟨S4x16x4096x128, .f32⟩ : BufTy).Contents (Elt F)),
    reshape main_v31 main_v32 (rfl : (.f32 : EltTy) = .f32) shapeCasts_S4x16x4096x128_S262144x128,
    reshape main_v30 main_v33 (rfl : (.i32 : EltTy) = .i32) shapeCasts_S256x4096_S4x64x4096x1 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., reshape_bufs_sub .., unary_bufs_sub .., binary_bufs_sub .., reshape_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., nullary_bufs_sub .., nullary_bufs_sub .., nullary_bufs_sub .., quaternary_bufs_sub .., quaternary_bufs_sub .., nullary_bufs_sub .., unary_bufs_sub .., nullary_bufs_sub .., unary_bufs_sub .., binary_bufs_sub .., unary_bufs_sub .., unary_bufs_sub .., binary_bufs_sub .., reshape_bufs_sub .., nullary_bufs_sub .., binary_bufs_sub .., binary_bufs_sub .., nullary_bufs_sub .., binary_bufs_sub .., binary_bufs_sub .., nullary_bufs_sub .., nullary_bufs_sub .., unary_bufs_sub .., binary_bufs_sub .., unary_bufs_sub .., unary_bufs_sub .., binary_bufs_sub .., binary_bufs_sub .., reshape_bufs_sub .., reshape_bufs_sub ..⟩

variable (m : (ℓ : Loc nD τ sig) → Buf (Elt F) ℓ) (c : Dev nD)

/-- The queries and the values by heads, and the buckets, of a memory's arguments. -/
def queriesOf : FVec F S4x16x4096x64 .f32 := heads (m ((c.tc : Thread nD τ).loc main_arg0)) (m ((c.tc : Thread nD τ).loc main_arg1))
def valuesOf : FVec F S4x16x4096x64 .f32 := heads (m ((c.tc : Thread nD τ).loc main_arg0)) (m ((c.tc : Thread nD τ).loc main_arg2))
def bucketsOf : IVec S4x4x16x4096 32 := buckets (queriesOf m c) (m ((c.tc : Thread nD τ).loc main_arg3))

set_option maxRecDepth 8192 in
set_option maxHeartbeats 25200000 in
theorem run (ρ : Dev nD → PrngReg) :
    θ_run defs (onTc (τ := τ) (main (F := F))) ⟨m, fun _ => 0, ρ⟩ fun r => ∀ c : Dev nD,
      r.2.mem ((c.tc : Thread nD τ).loc main_v32) = joined (queriesOf m c) (valuesOf m c)
      ∧ r.2.mem ((c.tc : Thread nD τ).loc main_v33) = places (bucketsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v32).trans (by simp only [ops, TRef.binary, TRef.nullary, TRef.quaternary, TRef.unary, TRef.toBuf, TRef.ofBuf, cast_eq]; after_results_simp <;> rfl),
      (h c main_v33).trans (by simp only [ops, TRef.binary, TRef.nullary, TRef.quaternary, TRef.unary, TRef.toBuf, TRef.ofBuf, cast_eq]; after_results_simp <;> rfl),
      (h c main_arg0).trans (by simp only [ops, TRef.binary, TRef.nullary, TRef.quaternary, TRef.unary, TRef.toBuf, TRef.ofBuf, cast_eq]; after_results_simp <;> rfl),
      (h c main_arg1).trans (by simp only [ops, TRef.binary, TRef.nullary, TRef.quaternary, TRef.unary, TRef.toBuf, TRef.ofBuf, cast_eq]; after_results_simp <;> rfl),
      (h c main_arg2).trans (by simp only [ops, TRef.binary, TRef.nullary, TRef.quaternary, TRef.unary, TRef.toBuf, TRef.ofBuf, cast_eq]; after_results_simp <;> rfl),
      (h c main_arg3).trans (by simp only [ops, TRef.binary, TRef.nullary, TRef.quaternary, TRef.unary, TRef.toBuf, TRef.ofBuf, cast_eq]; after_results_simp <;> rfl)⟩)
    (run_seq scopedRefs_eq scopedSems_eq defs main (fun _ => ops) main_eq (fun _ => ops_sub) m ρ)

end Cert.HashingReferenceIdeal.Entries

end
-- ==== Proof.Ranks.lean ====
/-
  RANKS BY COUNTING: a row's place among 4096, by bucket and, in a bucket, by position, is the number of rows in smaller buckets and
  of earlier rows in its own; sorting the numbers and then the positions gives the places.
-/
module

public import Idealize.ShloMosaic.Lib.SortPrefix
public import Idealize.ShloMosaic.Lib.SortFacts

@[expose] public section

namespace Cert.Ranks

open Idealize.ShloMosaic

/-! ## Sorting by distinct numbers -/

theorem strict_of_numbers {n : Nat} (B : Fin n → Fin n → Bool) (κ : Fin n → Nat) (hκ : Function.Injective κ)
    (hB : ∀ a b, B a b = decide (κ a < κ b)) : StrictTotalBefore B where
  irrefl a := by rw [hB]; simp
  trans a b c h h' := by rw [hB] at h h' ⊢; simp only [decide_eq_true_eq] at h h' ⊢; omega
  total a b h := by
    have : κ a ≠ κ b := fun e => h (hκ e)
    rw [hB, hB]; simp only [decide_eq_true_eq]; omega

/-- A permutation that respects the numbers says where each sorted position comes from. -/
theorem sortedFrom_eq_symm {n : Nat} (B : Fin n → Fin n → Bool) (κ : Fin n → Nat) (hκ : Function.Injective κ)
    (hB : ∀ a b, B a b = decide (κ a < κ b)) (ρ : Equiv.Perm (Fin n)) (hρ : ∀ a b, κ a < κ b → ρ a < ρ b) (k : Fin n) :
    sortedFrom B k = ρ.symm k := by
  refine (strict_of_numbers B κ hκ hB).sortedFrom_eq_of_prefix (le_refl n) (fun i => ρ.symm i) ρ.symm.injective (fun i j hij => ?_)
    (fun i p hp => absurd (ρ.symm_apply_apply p) (hp (ρ p))) k
  rw [hB]
  refine decide_eq_false fun h => ?_
  have := hρ _ _ h
  rw [Equiv.apply_symm_apply, Equiv.apply_symm_apply] at this
  exact absurd this (not_lt.mpr (le_of_lt hij))

/-! ## Places -/

/-- A sum with nothing past `n`. -/
theorem sum_first {n N : Nat} (h : n ≤ N) (f : Nat → Nat) :
    (∑ q ∈ Finset.range N, if q < n then f q else 0) = ∑ q ∈ Finset.range n, f q := by
  obtain ⟨d, rfl⟩ : ∃ d, N = n + d := ⟨N - n, by omega⟩
  rw [Finset.sum_range_add, Finset.sum_eq_zero (s := Finset.range d) (fun x _ => if_neg (by omega)), Nat.add_zero]
  exact Finset.sum_congr rfl fun q hq => if_pos (Finset.mem_range.mp hq)

variable (b : Nat → Nat)

/-- A row's number. -/
def number (p : Nat) : Nat := b p * 4096 + p

/-- How many of the first `n` rows are in bucket `l`; how many of all are in a smaller bucket. -/
def hot (p l : Nat) : Nat := if b p = l then 1 else 0
def upto (n l : Nat) : Nat := ∑ q ∈ Finset.range n, hot b q l
def less (l : Nat) : Nat := ∑ q ∈ Finset.range 4096, if b q < l then 1 else 0

theorem number_injective : Function.Injective fun p : Fin 4096 => number b p.val := by
  intro p q h
  have h' : b p.val * 4096 + p.val = b q.val * 4096 + q.val := h
  exact Fin.ext (by omega)

theorem card_lt (p : Fin 4096) : (Finset.univ.filter fun q : Fin 4096 => number b q.val < number b p.val).card < 4096 := by
  have h : (Finset.univ.filter fun q : Fin 4096 => number b q.val < number b p.val) ⊂ Finset.univ :=
    Finset.filter_ssubset.mpr ⟨p, Finset.mem_univ p, lt_irrefl _⟩
  have := Finset.card_lt_card h
  rwa [Finset.card_univ, Fintype.card_fin] at this

/-- A row's place: how many numbers are smaller. -/
def place (p : Fin 4096) : Fin 4096 := ⟨_, card_lt b p⟩

theorem place_lt (p q : Fin 4096) (h : number b p.val < number b q.val) : place b p < place b q := by
  show (Finset.univ.filter fun x : Fin 4096 => number b x.val < number b p.val).card < (Finset.univ.filter fun x : Fin 4096 => number b x.val < number b q.val).card
  refine Finset.card_lt_card ((Finset.ssubset_iff_of_subset ?_).mpr ⟨p, ?_, ?_⟩)
  · intro x hx
    rw [Finset.mem_filter] at hx ⊢
    exact ⟨hx.1, lt_trans hx.2 h⟩
  · rw [Finset.mem_filter]; exact ⟨Finset.mem_univ p, h⟩
  · rw [Finset.mem_filter]; exact fun hx => lt_irrefl _ hx.2

theorem place_injective : Function.Injective (place b) := by
  intro p q h
  by_contra hne
  rcases lt_or_gt_of_ne (fun e => hne (number_injective b e) : number b p.val ≠ number b q.val) with hl | hl
  · exact absurd (place_lt b p q hl) (by rw [h]; exact lt_irrefl _)
  · exact absurd (place_lt b q p hl) (by rw [h]; exact lt_irrefl _)

/-- The places as a permutation. -/
noncomputable def placing : Equiv.Perm (Fin 4096) := Equiv.ofBijective (place b) (Finite.injective_iff_bijective.mp (place_injective b))

theorem placing_apply (p : Fin 4096) : placing b p = place b p := Equiv.ofBijective_apply ..

/-- Sorting the numbers takes the places backwards. -/
theorem sorted_numbers (B : Fin 4096 → Fin 4096 → Bool) (hB : ∀ p q, B p q = decide (number b p.val < number b q.val)) (k : Fin 4096) :
    sortedFrom B k = (placing b).symm k :=
  sortedFrom_eq_symm B (fun p => number b p.val) (number_injective b) hB (placing b)
    (fun p q h => by rw [placing_apply, placing_apply]; exact place_lt b p q h) k

/-- Sorting those positions gives the places. -/
theorem sorted_positions (B : Fin 4096 → Fin 4096 → Bool)
    (hB : ∀ p q, B p q = decide (((placing b).symm p).val < ((placing b).symm q).val)) (k : Fin 4096) : sortedFrom B k = place b k :=
  (sortedFrom_eq_symm B (fun p => ((placing b).symm p).val) (fun p q h => (placing b).symm.injective (Fin.ext h)) hB (placing b).symm
    (fun _ _ h => h) k).trans (placing_apply b k)

/-- A place by counting buckets. -/
theorem place_eq (p : Fin 4096) : (place b p).val = less b (b p.val) + upto b p.val (b p.val) := by
  have hp := p.isLt
  have h1 : (place b p).val = ∑ q ∈ Finset.range 4096, if number b q < number b p.val then 1 else 0 := by
    show (Finset.univ.filter fun q : Fin 4096 => number b q.val < number b p.val).card = _
    rw [Finset.card_filter, Finset.sum_range]
  have h2 : upto b p.val (b p.val) = ∑ q ∈ Finset.range 4096, if q < p.val ∧ b q = b p.val then 1 else 0 := by
    unfold upto
    rw [← sum_first (le_of_lt hp)]
    refine Finset.sum_congr rfl fun q _ => ?_
    unfold hot
    by_cases hq : q < p.val
    · rw [if_pos hq]; exact if_congr (by omega) rfl rfl
    · rw [if_neg hq, if_neg fun e => hq e.1]
  rw [h1, h2, less, ← Finset.sum_add_distrib]
  refine Finset.sum_congr rfl fun q hq => ?_
  have := Finset.mem_range.mp hq
  unfold number
  split <;> split <;> split <;> omega

theorem upto_zero (l : Nat) : upto b 0 l = 0 := rfl

theorem upto_add (n d l : Nat) : upto b (n + d) l = upto b n l + ∑ k : Fin d, hot b (n + k.val) l := by
  unfold upto
  rw [Finset.sum_range_add, Finset.sum_range (n := d)]

/-- The smaller buckets' rows, from each bucket's. -/
theorem less_eq (l : Fin 64) : (∑ k : Fin 64, upto b 4096 k.val * if k.val < l.val then 1 else 0) = less b l.val := by
  unfold upto less
  simp only [Finset.sum_mul]
  rw [Finset.sum_comm]
  refine Finset.sum_congr rfl fun q _ => ?_
  by_cases h : b q < l.val
  · rw [if_pos h, Finset.sum_eq_single (⟨b q, by omega⟩ : Fin 64)]
    · unfold hot; rw [if_pos rfl, if_pos h, Nat.one_mul]
    · intro k _ hk; unfold hot; rw [if_neg (fun e => hk (Fin.ext e.symm)), Nat.zero_mul]
    · exact fun e => absurd (Finset.mem_univ _) e
  · rw [if_neg h]
    refine Finset.sum_eq_zero fun k _ => ?_
    unfold hot
    split <;> split <;> omega

/-- What a row of the chunk at `s` adds up. -/
theorem chunk_eq (s : Nat) (r : Fin 512) (h : b (s + r.val) < 64) :
    (∑ l : Fin 64, hot b (s + r.val) l.val * ((less b l.val + upto b s l.val) + ∑ k : Fin 512, (if k.val < r.val then 1 else 0) * hot b (s + k.val) l.val))
      = less b (b (s + r.val)) + upto b (s + r.val) (b (s + r.val)) := by
  rw [Finset.sum_eq_single (⟨b (s + r.val), h⟩ : Fin 64)]
  · have h0 : hot b (s + r.val) (b (s + r.val)) = 1 := if_pos rfl
    have h1 : (∑ k : Fin 512, (if k.val < r.val then 1 else 0) * hot b (s + k.val) (b (s + r.val))) = ∑ k : Fin r.val, hot b (s + k.val) (b (s + r.val)) := by
      have hr := r.isLt
      rw [← Finset.sum_range (n := 512) (f := fun k => (if k < r.val then 1 else 0) * hot b (s + k) (b (s + r.val))),
        ← Finset.sum_range (n := r.val) (f := fun k => hot b (s + k) (b (s + r.val)))]
      rw [← sum_first (le_of_lt hr)]
      refine Finset.sum_congr rfl fun q _ => ?_
      split
      · rw [Nat.one_mul]
      · rw [Nat.zero_mul]
    show hot b (s + r.val) (b (s + r.val)) * ((less b (b (s + r.val)) + upto b s (b (s + r.val))) + ∑ k : Fin 512, (if k.val < r.val then 1 else 0) * hot b (s + k.val) (b (s + r.val))) = _
    rw [h0, h1, upto_add, Nat.one_mul, Nat.add_assoc]
  · intro l _ hl
    have : hot b (s + r.val) l.val = 0 := if_neg (fun e => hl (Fin.ext e.symm))
    rw [this, Nat.zero_mul]
  · exact fun e => absurd (Finset.mem_univ _) e

end Cert.Ranks
-- ==== Proof.HashingTile.lean ====
/-
  THE RANKING BODY, over the reals: with the one-hot rows of eight chunks of 512 rows, the counts carried from chunk to chunk and the
  offsets of the buckets, each row's number is its place in the sorted order, and its round's and head's base.
-/
module

public import proofs.«01_k».proof.Proof.Gen.HashingIdeal.Value
public import proofs.«01_k».proof.Proof.Ranks
public import Idealize.ShloMosaic.Lib.Pointwise
public import Idealize.ShloMosaic.Lib.WordCmp

@[expose] public section

noncomputable section

namespace Cert.HashingIdeal.Tile

open Cert.HashingIdeal Cert.HashingIdeal.Gen Cert.HashingIdeal.Value Cert.Ranks Idealize.ShloMosaic Idealize.ShloMosaic.TcCoe Idealize.SL.Sem

/-! ## The payloads, entry by entry -/

/-- A truth value as a float. -/
theorem flag (p : Prop) [Decidable p] : FloatOps.sitofp (F := Ideal) FTy.f32 (BitVec.setWidth 32 (BitVec.ofBool (decide p))) = ((if p then 1 else 0 : Nat) : EReal) := by
  by_cases h : p
  · rw [if_pos h, decide_eq_true h]
    show (((BitVec.setWidth 32 (BitVec.ofBool true)).toInt : ℝ) : EReal) = _
    simp
  · rw [if_neg h, decide_eq_false h]
    show (((BitVec.setWidth 32 (BitVec.ofBool false)).toInt : ℝ) : EReal) = _
    simp

theorem earlier_apply (r k : Fin 512) : k0_pay2 (F := Ideal) (ix2 r k) = ((if k.val < r.val then 1 else 0 : Nat) : EReal) := by
  pointwise [k0_pay2]
  rw [WordCmp.cmpi_sgt_ofNat (by omega) (by omega)]
  exact flag _

theorem smaller_apply (r k : Fin 64) : k0_pay3 (F := Ideal) (ix2 r k) = ((if r.val < k.val then 1 else 0 : Nat) : EReal) := by
  pointwise [k0_pay3]
  rw [WordCmp.cmpi_slt_ofNat (by omega) (by omega)]
  exact flag _

theorem chunk_apply (T : FVec Ideal S512x512 .bf16) (x : FVec Ideal S512x64 .f32) (o : FVec Ideal S1x64 .f32) (b : Ideal .f32) (n : FVec Ideal S1x64 .f32) (r : Fin 512) :
    k0_pay25 T x o b n (k0_pay24 x) (ix4 (n0 := 1) (n1 := 1) (n3 := 1) 0 0 r 0)
      = FloatOps.fptosi (F := Ideal) 32 ((∑ l : Fin 64, x (ix2 r l) * ((o (ix2 0 l) + n (ix2 0 l)) + ∑ k : Fin 512, T (ix2 r k) * x (ix2 k l))) + b) := by
  pointwise [k0_pay25, k0_pay24]

theorem carry_apply (x : FVec Ideal S512x64 .f32) (n : FVec Ideal S1x64 .f32) (l : Fin 64) :
    k0_pay26 x n (ix2 0 l) = n (ix2 0 l) + ∑ k : Fin 512, x (ix2 k l) := by
  pointwise [k0_pay26]

theorem none_apply (l : Fin 64) : k0_pay16 (F := Ideal) (ix2 0 l) = 0 := by
  pointwise [k0_pay16]

theorem offsets_apply (x : FVec Ideal S1x64 .f32) (T : FVec Ideal S64x64 .f32) (l : Fin 64) :
    matmul dot_S1x64_S64x64_S1x64_1_0_0_1_n_n none x T (constant S1x64 .f32 0x00000000#32) (ix2 0 l) = ∑ k : Fin 64, x (ix2 0 k) * T (ix2 k l) := by
  pointwise

/-- The chunks' rows of the buckets, and how a one-hot entry is computed. -/
abbrev rowOf (s : Nat) (h : s + 512 ≤ 4096) (r : Fin 512) : Fin 4096 := ⟨s + r.val, by omega⟩
abbrev matching (x : IVec S1x1x4096x1 32) (p : Fin 4096) (l : Fin 64) : Ideal .f32 :=
  FloatOps.sitofp (F := Ideal) FTy.f32 (BitVec.setWidth 32 (IntOp.cmpi .eq (x (ix4 0 0 p 0)) (BitVec.ofNat 32 l.val)))
abbrev lanes : IVec S512x64 32 := iota .tc S512x64 32 [1] iota_S512x64_d1_w32

theorem s0 : 0 + 512 ≤ 4096 := by omega
theorem s1 : 512 + 512 ≤ 4096 := by omega
theorem s2 : 1024 + 512 ≤ 4096 := by omega
theorem s3 : 1536 + 512 ≤ 4096 := by omega
theorem s4 : 2048 + 512 ≤ 4096 := by omega
theorem s5 : 2560 + 512 ≤ 4096 := by omega
theorem s6 : 3072 + 512 ≤ 4096 := by omega
theorem s7 : 3584 + 512 ≤ 4096 := by omega

variable (x : IVec S1x1x4096x1 32)

theorem matching0 (r : Fin 512) (l : Fin 64) : k0_pay4 (F := Ideal) x (ix2 r l) = matching x (rowOf 0 s0 r) l := by
  unfold matching rowOf
  pointwise [k0_pay4, k0_pay1]
theorem matching1 (r : Fin 512) (l : Fin 64) : k0_pay5 (F := Ideal) x (ix2 r l) = matching x (rowOf 512 s1 r) l := by
  unfold matching rowOf
  pointwise [k0_pay5, k0_pay1]
theorem matching2 (r : Fin 512) (l : Fin 64) : k0_pay6 (F := Ideal) x (ix2 r l) = matching x (rowOf 1024 s2 r) l := by
  unfold matching rowOf
  pointwise [k0_pay6, k0_pay1]
theorem matching3 (r : Fin 512) (l : Fin 64) : k0_pay7 (F := Ideal) x (ix2 r l) = matching x (rowOf 1536 s3 r) l := by
  unfold matching rowOf
  pointwise [k0_pay7, k0_pay1]
theorem matching4 (r : Fin 512) (l : Fin 64) : k0_pay10 (F := Ideal) lanes (k0_pay9 (F := Ideal) x) (ix2 r l) = matching x (rowOf 2048 s4 r) l := by
  unfold matching rowOf
  pointwise [k0_pay10, k0_pay9, k0_pay1]
theorem matching5 (r : Fin 512) (l : Fin 64) : k0_pay11 (F := Ideal) (k0_pay1 (F := Ideal) x) lanes (ix2 r l) = matching x (rowOf 2560 s5 r) l := by
  unfold matching rowOf
  pointwise [k0_pay11, k0_pay1]
theorem matching6 (r : Fin 512) (l : Fin 64) : k0_pay12 (F := Ideal) (k0_pay1 (F := Ideal) x) lanes (ix2 r l) = matching x (rowOf 3072 s6 r) l := by
  unfold matching rowOf
  pointwise [k0_pay12, k0_pay1]
theorem matching7 (r : Fin 512) (l : Fin 64) : k0_pay13 (F := Ideal) (k0_pay1 (F := Ideal) x) lanes (ix2 r l) = matching x (rowOf 3584 s7 r) l := by
  unfold matching rowOf
  pointwise [k0_pay13, k0_pay1]

/-! ## The counts -/

/-- A chunk's one-hot rows; numbers of rows by bucket. -/
def IsHot (b : Nat → Nat) (s : Nat) (v : FVec Ideal S512x64 .f32) : Prop := ∀ (r : Fin 512) (l : Fin 64), v (ix2 r l) = ((hot b (s + r.val) l.val : Nat) : EReal)
def Counts (f : Nat → Nat) (n : FVec Ideal S1x64 .f32) : Prop := ∀ l : Fin 64, n (ix2 0 l) = ((f l.val : Nat) : EReal)

variable {x} {b : Nat → Nat}

theorem matching_eq (hx : ∀ p : Fin 4096, x (ix4 0 0 p 0) = BitVec.ofNat 32 (b p.val)) (hb : ∀ p, p < 4096 → b p < 64) (p : Fin 4096) (l : Fin 64) :
    matching x p l = ((hot b p.val l.val : Nat) : EReal) := by
  have h := hb p.val p.isLt
  unfold matching
  rw [hx, WordCmp.cmpi_eq_ofNat (by omega) (by omega)]
  exact flag _

theorem counts_none : Counts (upto b 0) (k0_pay16 (F := Ideal)) := fun l => (none_apply l).trans (by rw [upto_zero]; simp)

/-- A chunk's rows added. -/
theorem counts_carry {s : Nat} {v : FVec Ideal S512x64 .f32} {n : FVec Ideal S1x64 .f32} (hv : IsHot b s v) (hn : Counts (upto b s) n) :
    Counts (upto b (s + 512)) (k0_pay26 v n) := by
  intro l
  rw [carry_apply, hn l, upto_add, Nat.cast_add, Nat.cast_sum]
  exact congrArg (_ + ·) (Finset.sum_congr rfl fun k _ => hv k l)

/-- The buckets' offsets. -/
theorem counts_less {n : FVec Ideal S1x64 .f32} (hn : Counts (upto b 4096) n) :
    Counts (less b) (matmul dot_S1x64_S64x64_S1x64_1_0_0_1_n_n none n (k0_pay3 (F := Ideal)) (constant S1x64 .f32 0x00000000#32)) := by
  intro l
  rw [offsets_apply, ← less_eq b l, Nat.cast_sum]
  refine Finset.sum_congr rfl fun k _ => ?_
  rw [hn k, smaller_apply, ← EReal.natCast_mul]

/-- A whole number below 2^31 as a word. -/
theorem word_of_nat (N : Nat) (h : N < 2147483648) : FloatOps.fptosi (F := Ideal) (φ := .f32) 32 ((N : Nat) : EReal) = BitVec.ofNat 32 N := by
  show BitVec.ofInt 32 (Ideal.toIntClamped (-(2 ^ (32 - 1) : Nat)) ((2 ^ (32 - 1) : Nat) - 1) ((N : Nat) : EReal)) = _
  rw [← EReal.coe_natCast, Ideal.toIntClamped_coe, if_pos (Nat.cast_nonneg N), Int.floor_natCast, show max (-((2 ^ (32 - 1) : Nat) : Int)) (min (((2 ^ (32 - 1) : Nat) : Int) - 1) (N : Int)) = (N : Int) by omega]
  exact BitVec.ofInt_natCast ..

/-- A chunk's numbers: the places, and the base. -/
theorem chunk_place (hb : ∀ p, p < 4096 → b p < 64) {s : Nat} (hs : s + 512 ≤ 4096) {v : FVec Ideal S512x64 .f32} {o n : FVec Ideal S1x64 .f32} {B : Nat} (hB : B < 1048576)
    (hv : IsHot b s v) (ho : Counts (less b) o) (hn : Counts (upto b s) n) (r : Fin 512) :
    k0_pay25 (k0_pay2 (F := Ideal)) v o ((B : Nat) : EReal) n (k0_pay24 v) (ix4 (n0 := 1) (n1 := 1) (n3 := 1) 0 0 r 0)
      = BitVec.ofNat 32 ((place b (rowOf s hs r)).val + B) := by
  have hp := (place b (rowOf s hs r)).isLt
  rw [chunk_apply]
  refine Eq.trans (congrArg _ ?_) (word_of_nat ((place b (rowOf s hs r)).val + B) (by omega))
  rw [Nat.cast_add]
  refine congrArg (· + ((B : Nat) : EReal)) ?_
  have hc := chunk_eq b s r (hb _ (by omega))
  rw [place_eq b (rowOf s hs r)]
  show _ = ((less b (b (s + r.val)) + upto b (s + r.val) (b (s + r.val)) : Nat) : EReal)
  rw [← hc, Nat.cast_sum]
  refine Finset.sum_congr rfl fun l _ => ?_
  rw [hv r l, ho l, hn l, EReal.natCast_mul, Nat.cast_add, Nat.cast_add, Nat.cast_sum]
  refine congrArg (((hot b (s + r.val) l.val : Nat) : EReal) * ·) (congrArg (((less b l.val : Nat) : EReal) + ((upto b s l.val : Nat) : EReal) + ·) (Finset.sum_congr rfl fun k _ => ?_))
  rw [earlier_apply, hv k l, EReal.natCast_mul]

/-- A point's base: its round's and head's 4096 rows. -/
theorem base_eq (h : Nat) (r : Nat) (hh : h < 64) (hr : r < 4) :
    k0_pay15 (F := Ideal) (BitVec.ofNat 32 h) (BitVec.ofNat 32 r) = (((r * 64 + h) * 4096 : Nat) : EReal) := by
  have e : Scalar.muli (Scalar.addi (Scalar.muli (BitVec.ofNat 32 r) 64#32) (BitVec.ofNat 32 h)) 4096#32 = BitVec.ofNat 32 ((r * 64 + h) * 4096) := by
    show (BitVec.ofNat 32 r * BitVec.ofNat 32 64 + BitVec.ofNat 32 h) * BitVec.ofNat 32 4096 = _
    rw [← BitVec.ofNat_mul, ← BitVec.ofNat_add, ← BitVec.ofNat_mul]
  show (((Scalar.muli (Scalar.addi (Scalar.muli (BitVec.ofNat 32 r) 64#32) (BitVec.ofNat 32 h)) 4096#32).toInt : ℝ) : EReal) = _
  rw [e, WordCmp.toInt_ofNat_of_lt (by omega), Int.cast_natCast]
  exact EReal.coe_natCast

/-! ## The body's result -/

theorem hz : (![0, 0, 0, 0] : Fin 4 → Nat) = fun _ => 0 := funext fun a => by fin_cases a <;> rfl

/-- An index of a chunk's piece is a row's. -/
theorem row_of_piece (y : S1x1x512x1.Idx) : ∃ r : Fin 512, y = ix4 0 0 r 0 := ⟨y 2, by
  funext a
  match a with
  | ⟨0, _⟩ => exact Subsingleton.elim (α := Fin 1) _ _
  | ⟨1, _⟩ => exact Subsingleton.elim (α := Fin 1) _ _
  | ⟨2, _⟩ => rfl
  | ⟨3, _⟩ => exact Subsingleton.elim (α := Fin 1) _ _⟩

/-- What a point leaves: each row's place, and the point's base. -/
theorem out_apply (hx : ∀ p : Fin 4096, x (ix4 0 0 p 0) = BitVec.ofNat 32 (b p.val)) (hb : ∀ p, p < 4096 → b p < 64) (i : grid0.Coords) (p : Fin 4096) :
    out0_1 (F := Ideal) i x (ix4 (n0 := 1) (n1 := 1) (n3 := 1) 0 0 p 0) = BitVec.ofNat 32 ((place b p).val + ((i 1).val * 64 + (i 0).val) * 4096) := by
  have hi0 : (i 0).val < 64 := (i 0).isLt
  have hi1 : (i 1).val < 4 := (i 1).isLt
  have H0 : IsHot b 0 (k0_pay4 (F := Ideal) x) := fun r l => (matching0 x r l).trans (matching_eq hx hb _ l)
  have H1 : IsHot b 512 (k0_pay5 (F := Ideal) x) := fun r l => (matching1 x r l).trans (matching_eq hx hb _ l)
  have H2 : IsHot b 1024 (k0_pay6 (F := Ideal) x) := fun r l => (matching2 x r l).trans (matching_eq hx hb _ l)
  have H3 : IsHot b 1536 (k0_pay7 (F := Ideal) x) := fun r l => (matching3 x r l).trans (matching_eq hx hb _ l)
  have H4 : IsHot b 2048 (k0_pay10 (F := Ideal) lanes (k0_pay9 (F := Ideal) x)) := fun r l => (matching4 x r l).trans (matching_eq hx hb _ l)
  have H5 : IsHot b 2560 (k0_pay11 (F := Ideal) (k0_pay1 (F := Ideal) x) lanes) := fun r l => (matching5 x r l).trans (matching_eq hx hb _ l)
  have H6 : IsHot b 3072 (k0_pay12 (F := Ideal) (k0_pay1 (F := Ideal) x) lanes) := fun r l => (matching6 x r l).trans (matching_eq hx hb _ l)
  have H7 : IsHot b 3584 (k0_pay13 (F := Ideal) (k0_pay1 (F := Ideal) x) lanes) := fun r l => (matching7 x r l).trans (matching_eq hx hb _ l)
  have C0 : Counts (upto b 0) (k0_pay16 (F := Ideal)) := counts_none
  have C1 := counts_carry H0 C0
  have C2 := counts_carry H1 C1
  have C3 := counts_carry H2 C2
  have C4 := counts_carry H3 C3
  have C5 := counts_carry H4 C4
  have C6 := counts_carry H5 C5
  have C7 := counts_carry H6 C6
  have C8 := counts_carry H7 C7
  have O := counts_less C8
  have hB : ((i 1).val * 64 + (i 0).val) * 4096 < 1048576 := by omega
  generalize hBe : ((i 1).val * 64 + (i 0).val) * 4096 = B at hB ⊢
  have E : k0_pay15 (F := Ideal) (BitVec.ofNat 32 (i 0).val) (BitVec.ofNat 32 (i 1).val) = ((B : Nat) : EReal) := hBe ▸ base_eq (i 0).val (i 1).val hi0 hi1
  have P0 := chunk_place hb s0 hB H0 O C0
  have P1 := chunk_place hb s1 hB H1 O C1
  have P2 := chunk_place hb s2 hB H2 O C2
  have P3 := chunk_place hb s3 hB H3 O C3
  have P4 := chunk_place hb s4 hB H4 O C4
  have P5 := chunk_place hb s5 hB H5 O C5
  have P6 := chunk_place hb s6 hB H6 O C6
  have P7 := chunk_place hb s7 hB H7 O C7
  rw [← E] at P0 P1 P2 P3 P4 P5 P6 P7
  have L : View.ld (Val := Elt Ideal) (e' := .i32) x r0_0 = x := View.ld_unit_zero (Val := Elt Ideal) (S := S1x1x4096x1) (e := .i32) hz inb_S1x1x4096x1_S1x1x4096x1_0_0_0_0 x
  unfold out0_1 k0_pay51 k0_pay50 k0_pay49 k0_pay48 k0_pay47 k0_pay46 k0_pay45 k0_pay44 k0_pay43 k0_pay42 k0_pay41 k0_pay40 k0_pay39 k0_pay38 k0_pay37 k0_pay36 k0_pay35
  rw [L]
  refine View.canon_apply_of_pieces (fun y : S1x1x4096x1.Idx => BitVec.ofNat 32 ((place b (y 2)).val + B)) _ ?_ (ix4 (n0 := 1) (n1 := 1) (n3 := 1) 0 0 p 0) (cover0_1 (F := Ideal) _ _ _ _ _ _ _ _ _)
  intro pc hpc y
  simp only [List.mem_cons, List.not_mem_nil, or_false] at hpc
  rcases hpc with rfl | rfl | rfl | rfl | rfl | rfl | rfl | rfl <;> obtain ⟨r, rfl⟩ := row_of_piece y
  · exact (P7 r).trans (congrArg (fun q => BitVec.ofNat 32 ((place b q).val + B)) (Fin.ext (show 3584 + r.val = 3584 + 1 * r.val by omega)))
  · exact (P6 r).trans (congrArg (fun q => BitVec.ofNat 32 ((place b q).val + B)) (Fin.ext (show 3072 + r.val = 3072 + 1 * r.val by omega)))
  · exact (P5 r).trans (congrArg (fun q => BitVec.ofNat 32 ((place b q).val + B)) (Fin.ext (show 2560 + r.val = 2560 + 1 * r.val by omega)))
  · exact (P4 r).trans (congrArg (fun q => BitVec.ofNat 32 ((place b q).val + B)) (Fin.ext (show 2048 + r.val = 2048 + 1 * r.val by omega)))
  · exact (P3 r).trans (congrArg (fun q => BitVec.ofNat 32 ((place b q).val + B)) (Fin.ext (show 1536 + r.val = 1536 + 1 * r.val by omega)))
  · exact (P2 r).trans (congrArg (fun q => BitVec.ofNat 32 ((place b q).val + B)) (Fin.ext (show 1024 + r.val = 1024 + 1 * r.val by omega)))
  · exact (P1 r).trans (congrArg (fun q => BitVec.ofNat 32 ((place b q).val + B)) (Fin.ext (show 512 + r.val = 512 + 1 * r.val by omega)))
  · exact (P0 r).trans (congrArg (fun q => BitVec.ofNat 32 ((place b q).val + B)) (Fin.ext (show 0 + r.val = 0 + 1 * r.val by omega)))

end Cert.HashingIdeal.Tile

end
-- ==== Proof.HashingPlaces.lean ====
/-
  The places the hashing's reference computes by sorting twice: each row's place among the 4096 of its round and head, by bucket and
  position, and the base of those rows; and the buckets are below 64.
-/
module

public import proofs.«01_k».proof.Proof.HashingReference
public import proofs.«01_k».proof.Proof.RefValue
public import proofs.«01_k».proof.Proof.Ranks
public import Idealize.ShloMosaic.PureOps.Ideal.Laws
public import Idealize.ShloMosaic.Lib.WordCmp

@[expose] public section

noncomputable section

namespace Cert.HashingReferenceIdeal.Entries

open Cert.HashingReferenceIdeal Cert.HashingReferenceIdeal.Gen Cert.Ranks Cert.Rows Idealize.ShloMosaic Idealize.ShloMosaic.ValueIdx

/-! ## The buckets -/

theorem reducer_two (a c : Ideal .f32 × BitVec 32) : (reducer_argmax_f32_i32 a c).2 = a.2 ∨ (reducer_argmax_f32_i32 a c).2 = c.2 := by
  unfold reducer_argmax_f32_i32 Scalar.select
  dsimp only
  split
  · exact Or.inl rfl
  · exact Or.inr rfl

theorem fold_lt (L : List (Ideal .f32 × BitVec 32)) : ∀ a : Ideal .f32 × BitVec 32, a.2.toNat < 64 → (∀ p ∈ L, p.2.toNat < 64) → (L.foldl reducer_argmax_f32_i32 a).2.toNat < 64 := by
  induction L with
  | nil => exact fun a h _ => h
  | cons p L ih =>
    intro a h hL
    refine ih _ ?_ fun q hq => hL q (List.mem_cons_of_mem p hq)
    rcases reducer_two a p with e | e
    · rw [e]; exact h
    · rw [e]; exact hL p List.mem_cons_self

/-- A greatest's position is one of the positions. -/
theorem argReduce_lt {s t u : Shape} {axes : List (Fin s.rank)} (x : FVec Ideal s .f32) (y : IVec s 32) (hy : ∀ i, (y i).toNat < 64) (ix : FVec Ideal u .f32) (iy : IVec u 32)
    (hi : ∀ i, (iy i).toNat < 64) (h : s.ReducesTo axes t) (hu : 0 < u.numel) (j : t.Idx) : (Host.argReduce reducer_argmax_f32_i32 x y ix iy h hu j).2.toNat < 64 := by
  rw [Ideal.argReduce_eq_reduce2, Host.reduce2_eq_foldl_fiber]
  refine fold_lt _ _ (hi _) fun p hp => ?_
  unfold Host.argReduceFiber at hp
  rw [List.mem_map] at hp
  obtain ⟨n, _, rfl⟩ := hp
  exact hy _

theorem positions_lt (i : S4x16x4096x4x64.Idx) : (iotaInDim S4x16x4096x4x64 32 4 i).toNat < 64 := by
  have h : (i 4).val < 64 := (i 4).isLt
  show (BitVec.ofNat 32 (i 4).val).toNat < 64
  rw [BitVec.toNat_ofNat]
  omega

theorem zero_lt_64 (i : S_.Idx) : (constantI S_ 32 0#32 i).toNat < 64 := by
  show (0#32).toNat < 64
  decide

theorem greatest_eq {F : FTy → Type} [FloatOps F] (s : FVec F S4x16x4096x4x64 .f32) :
    greatest s = fun j => (Host.argReduce reducer_argmax_f32_i32 s (iotaInDim S4x16x4096x4x64 32 4) (constant S_ .f32 0xFF800000#32) (constantI S_ 32 0#32) reducesTo_S4x16x4096x4x64_S4x16x4096x4_d4 h_S_ j).2 := rfl

theorem greatest_lt (s : FVec Ideal S4x16x4096x4x64 .f32) (j : S4x16x4096x4.Idx) : (greatest s j).toNat < 64 := by
  rw [greatest_eq]
  exact argReduce_lt s (iotaInDim S4x16x4096x4x64 32 4) positions_lt (constant S_ .f32 0xFF800000#32) (constantI S_ 32 0#32) zero_lt_64 reducesTo_S4x16x4096x4x64_S4x16x4096x4_d4 h_S_ j

theorem transposed_lt (g : IVec S4x16x4096x4 32) (hg : ∀ j, (g j).toNat < 64) (i : S4x4x16x4096.Idx) :
    (transpose S4x4x16x4096 [3, 0, 1, 2] g transposes_S4x16x4096x4_S4x4x16x4096_3_0_1_2 i).toNat < 64 := hg _

theorem buckets_eq {F : FTy → Type} [FloatOps F] (q : FVec F S4x16x4096x64 .f32) (R : FVec F S64x4x32 .f32) :
    buckets q R = transpose S4x4x16x4096 [3, 0, 1, 2] (greatest (bothSigns (Host.dotGeneral dot_S4x16x4096x64_S64x4x32_S4x16x4096x4x32_3_0_012_12_n_n none (keys q) R))) transposes_S4x16x4096x4_S4x4x16x4096_3_0_1_2 := rfl

theorem buckets_lt (q : FVec Ideal S4x16x4096x64 .f32) (R : FVec Ideal S64x4x32 .f32) (i : S4x4x16x4096.Idx) : (buckets q R i).toNat < 64 := by
  rw [buckets_eq]
  exact transposed_lt _ (greatest_lt _) i

/-! ## The places -/

/-- The row of a round's and head's numbers, and its buckets. -/
abbrev line (r : Fin 4) (h : Fin 64) : Fin 256 := ⟨r.val * 64 + h.val, by omega⟩
def bucketAt (b : IVec S4x4x16x4096 32) (r : Fin 4) (h : Fin 64) (p : Nat) : Nat :=
  if hp : p < 4096 then (b (ix4 r ⟨h.val / 16, by omega⟩ ⟨h.val % 16, by omega⟩ ⟨p, hp⟩)).toNat else 0

theorem bucketAt_eq (b : IVec S4x4x16x4096 32) (r : Fin 4) (h : Fin 64) (p : Fin 4096) :
    b (ix4 r ⟨h.val / 16, by omega⟩ ⟨h.val % 16, by omega⟩ p) = BitVec.ofNat 32 (bucketAt b r h p.val) := by
  unfold bucketAt
  rw [dif_pos p.isLt]
  simp

theorem numbers_apply (b : IVec S4x4x16x4096 32) (r : Fin 4) (h : Fin 64) (p : Fin 4096) :
    numbers b (ix2 (line r h) p) = BitVec.ofNat 32 (number (bucketAt b r h) p.val) := by
  unfold numbers
  refine (shapeCast_apply _ _ _ (ix4 r ⟨h.val / 16, by omega⟩ ⟨h.val % 16, by omega⟩ p) ?_).trans ?_
  · rw [Shape.rowMajor_val_four, Shape.rowMajor_val_two]
    show ((r.val * 4 + h.val / 16) * 16 + h.val % 16) * 4096 + p.val = (r.val * 64 + h.val) * 4096 + p.val
    omega
  · show b (ix4 r ⟨h.val / 16, by omega⟩ ⟨h.val % 16, by omega⟩ p) * BitVec.ofNat 32 4096 + BitVec.ofNat 32 p.val = _
    rw [bucketAt_eq b r h p, ← BitVec.ofNat_mul, ← BitVec.ofNat_add]
    rfl

theorem based_apply (x : IVec S256x4096 32) (t : Fin 256) (p : Fin 4096) : based x (ix2 t p) = x (ix2 t p) + BitVec.ofNat 32 (t.val * 4096) := by
  show x (ix2 t p) + BitVec.ofNat 32 t.val * BitVec.ofNat 32 4096 = _
  rw [← BitVec.ofNat_mul]

theorem sorting_apply (x : IVec S256x4096 32) (t : Fin 256) (k : Fin 4096) : sorting x (ix2 t k) = BitVec.ofNat 32 (sortedFrom (before x t) k).val :=
  Cert.ReferenceIdeal.Rows.sort2_apply x t k

theorem before_of_words (x : IVec S256x4096 32) (t : Fin 256) (f : Fin 4096 → Nat) (hf : ∀ p, f p < 2147483648) (hx : ∀ p, x (ix2 t p) = BitVec.ofNat 32 (f p)) (p q : Fin 4096) :
    before x t p q = decide (f p < f q) := by
  unfold before
  have hp := hf p
  have hq := hf q
  rw [hx, hx, WordCmp.cmpi_slt_ofNat (by omega) (by omega)]
  by_cases h : f p < f q
  · rw [decide_eq_true h]; rfl
  · rw [decide_eq_false h]; rfl

theorem places_apply (b : IVec S4x4x16x4096 32) (hb : ∀ i, (b i).toNat < 64) (r : Fin 4) (h : Fin 64) (p : Fin 4096) :
    places b (ix4 (n3 := 1) r h p 0) = BitVec.ofNat 32 ((place (bucketAt b r h) p).val + (r.val * 64 + h.val) * 4096) := by
  have hB : ∀ p : Fin 4096, bucketAt b r h p.val < 64 := fun p => by unfold bucketAt; rw [dif_pos p.isLt]; exact hb _
  unfold places
  refine (shapeCast_apply _ _ _ (ix2 (line r h) p) ?_).trans ?_
  · rw [Shape.rowMajor_val_four, Shape.rowMajor_val_two]
    show (r.val * 64 + h.val) * 4096 + p.val = ((r.val * 64 + h.val) * 4096 + p.val) * 1 + 0
    omega
  · have h1 : ∀ k, sorting (numbers b) (ix2 (line r h) k) = BitVec.ofNat 32 ((placing (bucketAt b r h)).symm k).val := fun k => by
      rw [sorting_apply, sorted_numbers (bucketAt b r h) _ (before_of_words _ _ _ (fun p => by have := hB p; have := p.isLt; unfold number; omega) (numbers_apply b r h)) k]
    have h2 : sorting (sorting (numbers b)) (ix2 (line r h) p) = BitVec.ofNat 32 (place (bucketAt b r h) p).val := by
      rw [sorting_apply, sorted_positions (bucketAt b r h) _ (before_of_words _ _ _ (fun p => by have := ((placing (bucketAt b r h)).symm p).isLt; omega) h1) p]
    rw [based_apply, h2, ← BitVec.ofNat_add]

end Cert.HashingReferenceIdeal.Entries

end
-- ==== Proof.HashingValue.lean ====
/-
  The hashing, over the reals: the host's operations are the reference's up to the buckets, the launch's blocks — a round's and a head's
  4096 rows each — tile the places, and each holds the reference's.
-/
module

public import proofs.«01_k».proof.Proof.HashingTile
public import proofs.«01_k».proof.Proof.HashingPlaces
public import Idealize.ShloMosaic.Lib.StableHlo.Run

@[expose] public section

noncomputable section

namespace Cert.HashingIdeal.Tile

open Cert.HashingIdeal Cert.HashingIdeal.Gen Cert.HashingIdeal.Value Cert.Ranks Idealize.ShloMosaic Idealize.ShloMosaic.TcCoe Idealize.SL.Sem
open Cert.HashingReferenceIdeal.Entries (heads buckets joined)

section

variable {F : FTy → Type} [FloatOps F] (m : (ℓ : Loc nD τ sig) → Buf (Elt F) ℓ) (c : Dev nD)

abbrev queries : FVec F S4x16x4096x64 .f32 := heads (m ((c.tc : Thread nD τ).loc main_arg0)) (m ((c.tc : Thread nD τ).loc main_arg1))
abbrev values : FVec F S4x16x4096x64 .f32 := heads (m ((c.tc : Thread nD τ).loc main_arg0)) (m ((c.tc : Thread nD τ).loc main_arg2))

set_option maxRecDepth 8192 in
set_option maxHeartbeats 4000000 in
theorem V_joined : V m c main_v16 = joined (queries m c) (values m c) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.quaternary, StableHlo.TRef.toBuf, StableHlo.TRef.ofBuf, cast_eq]
  after_results_simp <;> rfl

set_option maxRecDepth 8192 in
set_option maxHeartbeats 4000000 in
theorem V_buckets : V m c main_v18 = shapeCast S4x64x4096x1 (buckets (queries m c) (m ((c.tc : Thread nD τ).loc main_arg3))) shapeCasts_S4x4x16x4096_S4x64x4096x1 := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.quaternary, StableHlo.TRef.toBuf, StableHlo.TRef.ofBuf, cast_eq]
  after_results_simp <;> rfl

end

variable (m : (ℓ : Loc nD τ sig) → Buf (Elt Ideal) ℓ)

/-- The buckets the launch is given. -/
abbrev given (c : Dev nD) : IVec S4x4x16x4096 32 := buckets (queries m c) (m ((c.tc : Thread nD τ).loc main_arg3))

/-! ## The blocks -/

/-- The windows' places: a point's round and head. -/
theorem idx0 : ∀ t : Fin cfg0.N, win0_0.index t (0 : Fin 4) = t.val % 4 ∧ win0_0.index t (1 : Fin 4) = t.val / 4 ∧ win0_0.index t (2 : Fin 4) = 0 ∧ win0_0.index t (3 : Fin 4) = 0 := (by decide +kernel : ∀ t : Fin grid0.N, _)
theorem idx1 : ∀ t : Fin cfg0.N, win0_1.index t (0 : Fin 4) = t.val % 4 ∧ win0_1.index t (1 : Fin 4) = t.val / 4 ∧ win0_1.index t (2 : Fin 4) = 0 ∧ win0_1.index t (3 : Fin 4) = 0 := (by decide +kernel : ∀ t : Fin grid0.N, _)
theorem coords_eq : ∀ t : Fin grid0.N, (grid0.coords t 0).val = t.val / 4 ∧ (grid0.coords t 1).val = t.val % 4 := by decide +kernel

def head (t : Fin cfg0.N) : Fin 64 := ⟨t.val / 4, by have := t.isLt; have : cfg0.N = 256 := N_0; omega⟩
def round (t : Fin cfg0.N) : Fin 4 := ⟨t.val % 4, by omega⟩

theorem emb0 (t : Fin cfg0.N) (p : Fin 4096) : ((cfg0.win 0).blk t).view.emb (ix4 (n0 := 1) (n1 := 1) (n3 := 1) 0 0 p 0) = ix4 (round t) (head t) p 0 := by
  obtain ⟨e0, e1, e2, e3⟩ := idx0 t
  funext a; apply Fin.ext
  match a with
  | ⟨0, _⟩ => show win0_0.index t (0 : Fin 4) * 1 + 1 * 0 = t.val % 4; omega
  | ⟨1, _⟩ => show win0_0.index t (1 : Fin 4) * 1 + 1 * 0 = t.val / 4; omega
  | ⟨2, _⟩ => show win0_0.index t (2 : Fin 4) * 4096 + 1 * p.val = p.val; omega
  | ⟨3, _⟩ => show win0_0.index t (3 : Fin 4) * 1 + 1 * 0 = 0; omega

theorem emb1 (t : Fin cfg0.N) (p : Fin 4096) : ((cfg0.win 1).blk t).view.emb (ix4 (n0 := 1) (n1 := 1) (n3 := 1) 0 0 p 0) = ix4 (round t) (head t) p 0 := by
  obtain ⟨e0, e1, e2, e3⟩ := idx1 t
  funext a; apply Fin.ext
  match a with
  | ⟨0, _⟩ => show win0_1.index t (0 : Fin 4) * 1 + 1 * 0 = t.val % 4; omega
  | ⟨1, _⟩ => show win0_1.index t (1 : Fin 4) * 1 + 1 * 0 = t.val / 4; omega
  | ⟨2, _⟩ => show win0_1.index t (2 : Fin 4) * 4096 + 1 * p.val = p.val; omega
  | ⟨3, _⟩ => show win0_1.index t (3 : Fin 4) * 1 + 1 * 0 = 0; omega

theorem shaped_apply (b : IVec S4x4x16x4096 32) (r : Fin 4) (h : Fin 64) (p : Fin 4096) :
    shapeCast S4x64x4096x1 b shapeCasts_S4x4x16x4096_S4x64x4096x1 (ix4 (n3 := 1) r h p 0) = BitVec.ofNat 32 (Cert.HashingReferenceIdeal.Entries.bucketAt b r h p.val) := by
  refine (shapeCast_apply _ _ _ (ix4 r ⟨h.val / 16, by omega⟩ ⟨h.val % 16, by omega⟩ p) ?_).trans (Cert.HashingReferenceIdeal.Entries.bucketAt_eq b r h p)
  rw [Shape.rowMajor_val_four, Shape.rowMajor_val_four]
  show ((r.val * 4 + h.val / 16) * 16 + h.val % 16) * 4096 + p.val = ((r.val * 64 + h.val) * 4096 + p.val) * 1 + 0
  omega

theorem ref0 : Pipeline.arrRef spec0 0 = main_v18 := rfl

theorem read0 {F : FTy → Type} (X : S4x64x4096x1.Idx → BitVec 32) (t : Fin cfg0.N) (p : Fin 4096) :
    ((cfg0.win 0).blk t).view.read (Elt F) X (ix4 (n0 := 1) (n1 := 1) (n3 := 1) 0 0 p 0) = X (ix4 (round t) (head t) p 0) := by
  show X (((cfg0.win 0).blk t).view.emb (ix4 (n0 := 1) (n1 := 1) (n3 := 1) 0 0 p 0)) = _
  rw [emb0]

theorem iblk0_at {F : FTy → Type} [FloatOps F] (m : (ℓ : Loc nD τ sig) → Buf (Elt F) ℓ) (c : Dev nD) (t : Fin cfg0.N) (p : Fin 4096) (b : IVec S4x4x16x4096 32)
    (hb : V m c main_v18 = shapeCast S4x64x4096x1 b shapeCasts_S4x4x16x4096_S4x64x4096x1) :
    iblk m c 0 t (ix4 (n0 := 1) (n1 := 1) (n3 := 1) 0 0 p 0) = BitVec.ofNat 32 (Cert.HashingReferenceIdeal.Entries.bucketAt b (round t) (head t) p.val) := by
  have hV : V m c (Pipeline.arrRef spec0 0) = shapeCast S4x64x4096x1 b shapeCasts_S4x4x16x4096_S4x64x4096x1 := hb
  unfold iblk
  rw [hV]
  exact (read0 _ t p).trans (shaped_apply _ _ _ _)

theorem iblk0_apply (c : Dev nD) (t : Fin cfg0.N) (p : Fin 4096) :
    iblk m c 0 t (ix4 (n0 := 1) (n1 := 1) (n3 := 1) 0 0 p 0) = BitVec.ofNat 32 (Cert.HashingReferenceIdeal.Entries.bucketAt (given m c) (round t) (head t) p.val) :=
  iblk0_at m c t p (given m c) (V_buckets m c)

theorem row_of_block (y : S1x1x4096x1.Idx) : ∃ p : Fin 4096, y = ix4 0 0 p 0 := ⟨y 2, by
  funext a
  match a with
  | ⟨0, _⟩ => exact Subsingleton.elim (α := Fin 1) _ _
  | ⟨1, _⟩ => exact Subsingleton.elim (α := Fin 1) _ _
  | ⟨2, _⟩ => rfl
  | ⟨3, _⟩ => exact Subsingleton.elim (α := Fin 1) _ _⟩

theorem bucket_lt (c : Dev nD) (r : Fin 4) (h : Fin 64) (p : Nat) (hp : p < 4096) : Cert.HashingReferenceIdeal.Entries.bucketAt (given m c) r h p < 64 := by
  unfold Cert.HashingReferenceIdeal.Entries.bucketAt
  rw [dif_pos hp]
  exact Cert.HashingReferenceIdeal.Entries.buckets_lt _ _ _

/-- What a point writes back is its round's and head's places in the reference's result. -/
theorem flushed_eq (c : Dev nD) (t : Fin cfg0.N) :
    (dats m 0 c).flushed 1 t = ((cfg0.win 1).blk t).view.read (Elt Ideal) (Cert.HashingReferenceIdeal.Entries.places (given m c)) := by
  rw [flushed1]
  funext j
  obtain ⟨p, rfl⟩ := row_of_block j
  refine (out_apply (x := iblk m c 0 t) (iblk0_apply m c t) (bucket_lt m c (round t) (head t)) (grid0.coords t) p).trans ?_
  show _ = Cert.HashingReferenceIdeal.Entries.places (given m c) (((cfg0.win 1).blk t).view.emb (ix4 (n0 := 1) (n1 := 1) (n3 := 1) 0 0 p 0))
  rw [emb1]
  refine Eq.trans ?_ (Cert.HashingReferenceIdeal.Entries.places_apply (given m c) (Cert.HashingReferenceIdeal.Entries.buckets_lt _ _) (round t) (head t) p).symm
  rw [(coords_eq t).1, (coords_eq t).2]
  rfl

theorem mem_of_eq {α : Type} {s : Finset α} {a b : α} (e : a = b) (h : b ∈ s) : a ∈ s := e ▸ h

/-- Every entry is some point's. -/
theorem covered (i : S4x64x4096x1.Idx) : ∃ t : Fin cfg0.N, (cfg0.win 1).flush t = true ∧ i ∈ ((cfg0.win 1).blk t).view.set := by
  have h0 : (i 0).val < 4 := (i 0).isLt
  have h1 : (i 1).val < 64 := (i 1).isLt
  have h3 : (i 3).val < 1 := (i 3).isLt
  have hN : cfg0.N = 256 := N_0
  refine ⟨⟨(i 1).val * 4 + (i 0).val, by omega⟩, flush0_1 _, ?_⟩
  have h := ((cfg0.win 1).blk (⟨(i 1).val * 4 + (i 0).val, by omega⟩ : Fin cfg0.N)).view.emb_mem_set (ix4 (n0 := 1) (n1 := 1) (n2 := 4096) (n3 := 1) 0 0 (i 2) 0)
  refine mem_of_eq (Eq.trans ?_ (emb1 (⟨(i 1).val * 4 + (i 0).val, by omega⟩ : Fin cfg0.N) (i 2)).symm) h
  funext a
  match a with
  | ⟨0, _⟩ => exact Fin.ext (show (i 0).val = ((i 1).val * 4 + (i 0).val) % 4 by omega)
  | ⟨1, _⟩ => exact Fin.ext (show (i 1).val = ((i 1).val * 4 + (i 0).val) / 4 by omega)
  | ⟨2, _⟩ => rfl
  | ⟨3, _⟩ => exact Fin.ext (show (i 3).val = 0 by omega)

/-! ## The run -/

/-- The kernel's run: its two results are the reference's, and it leaves its arguments. -/
theorem run_both (ρ : Dev nD → PrngReg) :
    θ_run defs (onTc (τ := τ) (main (F := Ideal))) ⟨m, fun _ => 0, ρ⟩ fun r => ∀ c : Dev nD,
      r.2.mem ((c : Thread nD τ).loc main_v16) = joined (queries m c) (values m c)
      ∧ r.2.mem ((c : Thread nD τ).loc main_v19) = Cert.HashingReferenceIdeal.Entries.places (given m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).2 main_v16 (Pipeline.mem_restRefs_of main_v16 (by decide) (by decide))).trans (V_joined m c),
      (post1 m r h c).trans ((dats m 0 c).arrAt_eq_of_cover 1 _ (fun t _ => flushed_eq m c t) covered),
      kept_main_arg0 m r h c, kept_main_arg1 m r h c, kept_main_arg2 m r h c, kept_main_arg3 m r h c⟩) (run_main m ρ)

end Cert.HashingIdeal.Tile

end
-- ==== Proof.lean ====
/-
  The proof of `Cert.Claim`: the two SparseCore kernels move the rows they should, the attention's blocks are its
  reference's rows (Proof/AttentionValue.lean), the combination's tiles are the rows of its reference's products
  (Proof/CombineValue.lean), and the hashing's destinations are its reference's double sort (Proof/HashingValue.lean).

  Both programs' runs are the launch of Proof/Launch.lean (and its copy for the ideal program, Proof/LaunchIdeal.lean): from any
  memory whose destinations are a permutation of the rows, the first result ends as the scattered rows and the second as the
  gathered ones. Proof/Destinations.lean reads that permutation off the precondition, and Proof/RefValue.lean reads the same two
  arrays off the reference's own sort and takes.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_ranks
public import proofs.«01_k».proof.Proof.Gen.Hashing
public import proofs.«01_k».proof.Proof.Gen.Hashing.Frame
public import proofs.«01_k».proof.Proof.Gen.HashingIdeal
public import proofs.«01_k».proof.Proof.Gen.HashingIdeal.Frame
public import proofs.«01_k».proof.Proof.Gen.HashingIdeal.Value
public import proofs.«01_k».proof.Proof.Gen.HashingReferenceIdeal
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineReferenceIdeal
public import proofs.«01_k».proof.Proof.Gen.CombineReferenceIdeal.Run
public import proofs.«01_k».proof.Proof.Gen.Attention
public import proofs.«01_k».proof.Proof.Gen.Attention.Frame
public import proofs.«01_k».proof.Proof.Gen.AttentionIdeal
public import proofs.«01_k».proof.Proof.Gen.AttentionIdeal.Frame
public import proofs.«01_k».proof.Proof.Gen.AttentionIdeal.Value
public import proofs.«01_k».proof.Proof.Gen.AttentionReferenceIdeal
public import proofs.«01_k».proof.Proof.Gen.AttentionReferenceIdeal.Run
public import proofs.«01_k».proof.Proof.Gen.Pre_finite
public import proofs.«01_k».proof.Proof.Launch
public import proofs.«01_k».proof.Proof.LaunchIdeal
public import proofs.«01_k».proof.Proof.RefValue
public import proofs.«01_k».proof.Proof.CombineValue
public import proofs.«01_k».proof.Proof.AttentionValue
public import proofs.«01_k».proof.Proof.HashingReference
public import proofs.«01_k».proof.Proof.HashingValue
public import Idealize.ShloMosaic.Adequacy
public import Idealize.ShloMosaic.Init

@[expose] public section

noncomputable section

namespace Cert.Proof

open Idealize.ShloMosaic Idealize.SL.Sem Cert.Rows

/-- The program: it runs, its arguments end unchanged and every semaphore is zero. -/
theorem frame_kernel : Cert.quiescent_Kernel (hKernel := Cert.Kernel.Gen.facts) (hPre_ranks := Cert.Pre_ranks.Gen.facts) := by
  intro m g hpre
  choose π _ _ hr using fun c => perm_of_pre _ _ _ (hpre c)
  exact (θ_run _ _ _).mono (fun r h => ⟨fun c => ⟨(h.1 c).1, (h.1 c).2.1, (h.1 c).2.2.1⟩, h.2⟩)
    (Cert.Kernel.Sc.run_main (F := Bits) m g (fun c => blocks (π c)) hr)

/-- The ideal program: the same. -/
theorem frame_ideal : Cert.quiescent_KernelIdeal (hKernelIdeal := Cert.KernelIdeal.Gen.facts) (hPre_ranks := Cert.Pre_ranks.Gen.facts) := by
  intro m g hpre
  choose π _ _ hr using fun c => perm_of_pre _ _ _ (hpre c)
  exact (θ_run _ _ _).mono (fun r h => ⟨fun c => ⟨(h.1 c).1, (h.1 c).2.1, (h.1 c).2.2.1⟩, h.2⟩)
    (Cert.KernelIdeal.Sc.run_main (F := Ideal) m g (fun c => blocks (π c)) hr)

/-- The reference: it runs from any memory, its arguments end unchanged; it has no semaphore. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2, sem_eq_zero_of_no_sems (by decide) r.2⟩)
    (Cert.ReferenceIdeal.Value.run (F := Ideal) m g)

/-- Over the reals the two results are the reference's. -/
theorem algebraic : Cert.algebraic_KernelIdeal_ReferenceIdeal (hKernelIdeal := Cert.KernelIdeal.Gen.facts)
    (hReferenceIdeal := Cert.ReferenceIdeal.Gen.facts) (hPre_ranks := Cert.Pre_ranks.Gen.facts) := by
  intro m g m' g' hpre hargs
  choose π h1 h2 hr using fun c => perm_of_pre _ _ _ (hpre c)
  refine ⟨fun c => scattered (blocks (π c)) (m (Cert.KernelIdeal.Sc.qLoc c)), fun c => gathered (blocks (π c)) (m (Cert.KernelIdeal.Sc.oLoc c)), ?_, ?_⟩
  · exact (θ_run _ _ _).mono (fun r h c => ⟨(h.1 c).2.2.2.1, (h.1 c).2.2.2.2, (h.1 c).1, (h.1 c).2.1, (h.1 c).2.2.1⟩)
      (Cert.KernelIdeal.Sc.run_main (F := Ideal) m g (fun c => blocks (π c)) hr)
  · refine (θ_run _ _ _).mono (fun r h c => ?_) (Cert.ReferenceIdeal.Value.run (F := Ideal) m' g')
    obtain ⟨e0, e1, e2⟩ := hargs c
    obtain ⟨r0, r1⟩ := Cert.ReferenceIdeal.Rows.results m' c (π c) (fun t i => by rw [e1]; exact h1 c t i) (fun t k => by rw [e1]; exact h2 c t k)
    exact ⟨(h c).1.trans (r0.trans (congrArg (scattered (blocks (π c))) e0)), (h c).2.1.trans (r1.trans (congrArg (gathered (blocks (π c))) e2)), (h c).2.2⟩

/-- The combination's reference: it runs from any memory, its arguments end unchanged; it has no semaphore. -/
theorem frame_combine_reference : Cert.quiescent_CombineReferenceIdeal (hCombineReferenceIdeal := Cert.CombineReferenceIdeal.Gen.facts) :=
  fun m g _ => (θ_run _ _ _).mono (fun r h => ⟨fun c => (h c).2, sem_eq_zero_of_no_sems (by decide) r.2⟩)
    (Cert.CombineReferenceIdeal.Value.run (F := Ideal) m g)

/-- Over the reals the combination's result is its reference's. -/
theorem algebraic_combine : Cert.algebraic_CombineIdeal_CombineReferenceIdeal (hCombineIdeal := Cert.CombineIdeal.Gen.facts)
    (hCombineReferenceIdeal := Cert.CombineReferenceIdeal.Gen.facts) := by
  intro m g m' g' _ hargs
  refine ⟨fun c => Cert.CombineIdeal.Rows.GV m c, Cert.CombineIdeal.Rows.run_main m g, ?_⟩
  refine (θ_run _ _ _).mono (fun r h c => ?_) (Cert.CombineReferenceIdeal.Value.run (F := Ideal) m' g')
  obtain ⟨e0, e1, e2, e3, e4, e5⟩ := hargs c
  refine ⟨(h c).1.trans ?_, (h c).2⟩
  rw [e0, e1, e2, e3, e4, e5]
  exact Cert.CombineIdeal.Rows.reference_eq _ _ _ _ _ _

theorem frame_attention_reference : Cert.quiescent_AttentionReferenceIdeal (hAttentionReferenceIdeal := Cert.AttentionReferenceIdeal.Gen.facts) :=
  fun m g _ => (θ_run _ _ _).mono (fun r h => ⟨fun c => (h c).2, sem_eq_zero_of_no_sems (by decide) r.2⟩)
    (Cert.AttentionReferenceIdeal.Value.run (F := Ideal) m g)

/-- Over the reals the attention's result is its reference's, where the query halves are real. -/
theorem algebraic_attention : Cert.algebraic_AttentionIdeal_AttentionReferenceIdeal_pre_finite (hAttentionIdeal := Cert.AttentionIdeal.Gen.facts)
    (hAttentionReferenceIdeal := Cert.AttentionReferenceIdeal.Gen.facts) (hPre_finite := Cert.Pre_finite.Gen.facts) := by
  intro m g m' g' hpre hargs
  refine ⟨fun c => Cert.AttentionReferenceIdeal.Entries.result (Cert.AttentionIdeal.Tile.given m c),
    Cert.AttentionIdeal.Tile.run_main m (fun c => Cert.AttentionIdeal.Tile.real_of_finite _ (hpre c)) g, ?_⟩
  refine (θ_run _ _ _).mono (fun r h c => ?_) (Cert.AttentionReferenceIdeal.Value.run (F := Ideal) m' g')
  refine ⟨((h c).1.trans (Cert.AttentionReferenceIdeal.Entries.res_eq m' c)).trans ?_, (h c).2⟩
  rw [hargs c]

/-- The hashing's reference: it runs from any memory, its arguments end unchanged; it has no semaphore. -/
theorem frame_hashing_reference : Cert.quiescent_HashingReferenceIdeal (hHashingReferenceIdeal := Cert.HashingReferenceIdeal.Gen.facts) :=
  fun m g _ => (θ_run _ _ _).mono (fun r h => ⟨fun c => (h c).2.2, sem_eq_zero_of_no_sems (by decide) r.2⟩)
    (Cert.HashingReferenceIdeal.Entries.run (F := Ideal) m g)

/-- Over the reals the hashing's rows and destinations are its reference's, whatever the arguments. -/
theorem algebraic_hashing : Cert.algebraic_HashingIdeal_HashingReferenceIdeal (hHashingIdeal := Cert.HashingIdeal.Gen.facts)
    (hHashingReferenceIdeal := Cert.HashingReferenceIdeal.Gen.facts) := by
  intro m g m' g' _ hargs
  refine ⟨fun c => Cert.HashingReferenceIdeal.Entries.joined (Cert.HashingIdeal.Tile.queries m c) (Cert.HashingIdeal.Tile.values m c),
    fun c => Cert.HashingReferenceIdeal.Entries.places (Cert.HashingIdeal.Tile.given m c), Cert.HashingIdeal.Tile.run_both m g, ?_⟩
  refine (θ_run _ _ _).mono (fun r h c => ?_) (Cert.HashingReferenceIdeal.Entries.run (F := Ideal) m' g')
  obtain ⟨e0, e1, e2, e3⟩ := hargs c
  have hq : Cert.HashingReferenceIdeal.Entries.queriesOf m' c = Cert.HashingIdeal.Tile.queries m c := by
    unfold Cert.HashingReferenceIdeal.Entries.queriesOf
    rw [e0, e1]
  have hv : Cert.HashingReferenceIdeal.Entries.valuesOf m' c = Cert.HashingIdeal.Tile.values m c := by
    unfold Cert.HashingReferenceIdeal.Entries.valuesOf
    rw [e0, e2]
  have hb : Cert.HashingReferenceIdeal.Entries.bucketsOf m' c = Cert.HashingIdeal.Tile.given m c := by
    unfold Cert.HashingReferenceIdeal.Entries.bucketsOf
    rw [hq, e3]
  exact ⟨(h c).1.trans (by rw [hq, hv]), (h c).2.1.trans (by rw [hb]), (h c).2.2⟩

theorem claim : Cert.Claim :=
  ⟨Cert.Kernel.Gen.facts, Cert.KernelIdeal.Gen.facts, Cert.ReferenceIdeal.Gen.facts, Cert.Combine.Gen.facts, Cert.CombineIdeal.Gen.facts,
    Cert.CombineReferenceIdeal.Gen.facts, Cert.Attention.Gen.facts, Cert.AttentionIdeal.Gen.facts, Cert.AttentionReferenceIdeal.Gen.facts,
    Cert.Hashing.Gen.facts, Cert.HashingIdeal.Gen.facts, Cert.HashingReferenceIdeal.Gen.facts, Cert.Pre_ranks.Gen.facts, Cert.Pre_finite.Gen.facts,
    frame_kernel, frame_ideal, fun m g _ => run_reference m g, fun m g _ => run_reference m g,
    fun m g _ => Cert.Combine.Gen.frame m g, fun m g _ => Cert.CombineIdeal.Gen.frame m g, frame_combine_reference,
    fun m g _ => Cert.Attention.Gen.frame m g, fun m g _ => Cert.AttentionIdeal.Gen.frame m g, fun m g _ => Cert.AttentionIdeal.Gen.frame m g,
    frame_attention_reference, fun m g _ => frame_attention_reference m g trivial,
    fun m g _ => Cert.Hashing.Gen.frame m g, fun m g _ => Cert.HashingIdeal.Gen.frame m g, frame_hashing_reference,
    trivial, algebraic, trivial, algebraic_combine,
    IdealRules.named_const.statement Cert.AttentionIdeal.κ "mask" .f32 0xC7C35000#32 ⊥ rfl, algebraic_attention,
    trivial, algebraic_hashing⟩

end Cert.Proof

end
